-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_separated [hPre_separated : Cert.Pre_separated.Facts] (m : (ℓ : Loc Cert.KernelIdeal.nD Cert.KernelIdeal.τ Cert.KernelIdeal.sig) → Buf (Elt Ideal) ℓ) : Prop :=
  ∀ c : Dev Cert.KernelIdeal.nD,
    (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_separated [hPre_separated : Cert.Pre_separated.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_separated [hKernelIdeal : Cert.KernelIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_separated m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_separated [hReferenceIdeal : Cert.ReferenceIdeal.Facts] [hPre_separated : Cert.Pre_separated.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_separated m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_separated [hKernelIdeal : Cert.KernelIdeal.Facts] [hReferenceIdeal : Cert.ReferenceIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_separated m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_separated : Cert.Pre_separated.Facts),
    quiescent_Kernel (hKernel := hKernel)
    ∧ quiescent_KernelIdeal (hKernelIdeal := hKernelIdeal)
    ∧ quiescent_KernelIdeal_pre_separated (hKernelIdeal := hKernelIdeal) (hPre_separated := hPre_separated)
    ∧ quiescent_ReferenceIdeal (hReferenceIdeal := hReferenceIdeal)
    ∧ quiescent_ReferenceIdeal_pre_separated (hReferenceIdeal := hReferenceIdeal) (hPre_separated := hPre_separated)
    ∧ preserves_Kernel_KernelIdeal
    ∧ algebraic_KernelIdeal_ReferenceIdeal_pre_separated (hKernelIdeal := hKernelIdeal) (hReferenceIdeal := hReferenceIdeal) (hPre_separated := hPre_separated)
-- ==== Pre_separated.lean ====
abbrev S4x2048x15x128 : Shape := ⟨4, ![4, 2048, 15, 128]⟩
abbrev S4x2048x15 : Shape := ⟨3, ![4, 2048, 15]⟩
abbrev S15 : Shape := ⟨1, ![15]⟩
abbrev S30x32 : Shape := ⟨2, ![30, 32]⟩
abbrev S32 : Shape := ⟨1, ![32]⟩
abbrev S32x15 : Shape := ⟨2, ![32, 15]⟩
abbrev S_ : Shape := ⟨0, ![]⟩
abbrev S4x15x128 : Shape := ⟨3, ![4, 15, 128]⟩

class Facts : Prop where
  bcast_S_S15 : S_.BroadcastsInDim S15 (![] : Fin 0 → Fin S15.rank)
  bcast_S_S32 : S_.BroadcastsInDim S32 (![] : Fin 0 → Fin S32.rank)
  bcast_S_S4x2048x15x128 : S_.BroadcastsInDim S4x2048x15x128 (![] : Fin 0 → Fin S4x2048x15x128.rank)
  reducesTo_S4x2048x15x128_S4x15x128_d1 : S4x2048x15x128.ReducesTo [1] S4x15x128
  h_S_ : 0 < S_.numel

variable [Facts]

def fn {F : FTy → Type} [FloatOps F] (main_arg0 : FVec F S4x2048x15x128 .fp8e4m3) (main_arg1 : FVec F S4x2048x15 .f32) (main_arg2 : FVec F S4x2048x15x128 .fp8e4m3) (main_arg3 : FVec F S4x2048x15 .f32) (main_arg4 : FVec F S4x2048x15x128 .bf16) (main_arg5 : FVec F S15 .f32) (main_arg6 : FVec F S15 .f32) (main_arg7 : FVec F S30x32 .bf16) (main_arg8 : FVec F S32 .f32) (main_arg9 : FVec F S32x15 .bf16) : IVec S15 1 × IVec S32 1 × IVec S4x15x128 1 :=
  let main_v0 : FVec F S15 .f32 := Host.absf main_arg6
  let main_cst : FVec F S_ .f32 := constant S_ .f32 0x7F800000#32
  let main_v1 : FVec F S15 .f32 := broadcastInDim S15 ![] bcast_S_S15 main_cst
  let main_v2 : IVec S15 1 := cmpf .olt main_v0 main_v1
  let main_v3 : FVec F S32 .f32 := Host.absf main_arg8
  let main_cst_0 : FVec F S_ .f32 := constant S_ .f32 0x7F800000#32
  let main_v4 : FVec F S32 .f32 := broadcastInDim S32 ![] bcast_S_S32 main_cst_0
  let main_v5 : IVec S32 1 := cmpf .olt main_v3 main_v4
  let main_cst_1 : FVec F S_ .bf16 := constant S_ .bf16 0x0000#16
  let main_v6 : FVec F S4x2048x15x128 .bf16 := broadcastInDim S4x2048x15x128 ![] bcast_S_S4x2048x15x128 main_cst_1
  let main_v7 : IVec S4x2048x15x128 1 := cmpf .ogt main_arg4 main_v6
  let main_c : IVec S_ 1 := constantI S_ 1 0#1
  let main_v8 : IVec S4x15x128 1 := (fun x v => Host.reduce IntOp.ori x v reducesTo_S4x2048x15x128_S4x15x128_d1 h_S_) main_v7 main_c
  (main_v2, main_v5, main_v8)
-- ==== Kernel.lean ====
abbrev S4x2048x15x128 : Shape := ⟨4, ![4, 2048, 15, 128]⟩
abbrev S4x2048x15 : Shape := ⟨3, ![4, 2048, 15]⟩
abbrev S15 : Shape := ⟨1, ![15]⟩
abbrev S30x32 : Shape := ⟨2, ![30, 32]⟩
abbrev S32 : Shape := ⟨1, ![32]⟩
abbrev S32x15 : Shape := ⟨2, ![32, 15]⟩
abbrev S4x2048x1920 : Shape := ⟨3, ![4, 2048, 1920]⟩
abbrev S4x15x128x2048 : Shape := ⟨4, ![4, 15, 128, 2048]⟩
abbrev S4x15x2048 : Shape := ⟨3, ![4, 15, 2048]⟩
abbrev S32x30 : Shape := ⟨2, ![32, 30]⟩
abbrev S1x32 : Shape := ⟨2, ![1, 32]⟩
abbrev S15x32 : Shape := ⟨2, ![15, 32]⟩
abbrev S1x256x1920 : Shape := ⟨3, ![1, 256, 1920]⟩
abbrev S1x2048x1920 : Shape := ⟨3, ![1, 2048, 1920]⟩
abbrev S1x15x128x2048 : Shape := ⟨4, ![1, 15, 128, 2048]⟩
abbrev S1x15x256 : Shape := ⟨3, ![1, 15, 256]⟩
abbrev S1x2048x15 : Shape := ⟨3, ![1, 2048, 15]⟩
abbrev S32x16x8x256 : Shape := ⟨4, ![32, 16, 8, 256]⟩
abbrev S256x120x128 : Shape := ⟨3, ![256, 120, 128]⟩
abbrev S256x128x128 : Shape := ⟨3, ![256, 128, 128]⟩
abbrev S256x256 : Shape := ⟨2, ![256, 256]⟩
abbrev S128x256 : Shape := ⟨2, ![128, 256]⟩
abbrev S15x128x256 : Shape := ⟨3, ![15, 128, 256]⟩
abbrev S16x256 : Shape := ⟨2, ![16, 256]⟩
abbrev S256x32 : Shape := ⟨2, ![256, 32]⟩
abbrev S256x30 : Shape := ⟨2, ![256, 30]⟩
abbrev S15x128 : Shape := ⟨2, ![15, 128]⟩
abbrev S256x128 : Shape := ⟨2, ![256, 128]⟩
abbrev S256x15 : Shape := ⟨2, ![256, 15]⟩
abbrev S256 : Shape := ⟨1, ![256]⟩
abbrev S256x1 : Shape := ⟨2, ![256, 1]⟩
abbrev S128x15 : Shape := ⟨2, ![128, 15]⟩
abbrev S128x32 : Shape := ⟨2, ![128, 32]⟩
abbrev S32x256 : Shape := ⟨2, ![32, 256]⟩
abbrev S8x128 : Shape := ⟨2, ![8, 128]⟩
abbrev S1 : Shape := ⟨1, ![1]⟩
abbrev S120x128 : Shape := ⟨2, ![120, 128]⟩
abbrev S1x120x128 : Shape := ⟨3, ![1, 120, 128]⟩
abbrev S128x128 : Shape := ⟨2, ![128, 128]⟩
abbrev S1x128x128 : Shape := ⟨3, ![1, 128, 128]⟩
abbrev S32x8x256 : Shape := ⟨3, ![32, 8, 256]⟩
abbrev S32x1x8x256 : Shape := ⟨4, ![32, 1, 8, 256]⟩
abbrev S1x256x15 : Shape := ⟨3, ![1, 256, 15]⟩
abbrev S1x256x128 : Shape := ⟨3, ![1, 256, 128]⟩
abbrev S1x1x256 : Shape := ⟨3, ![1, 1, 256]⟩
abbrev S1x256 : Shape := ⟨2, ![1, 256]⟩
abbrev S1x16x8x256 : Shape := ⟨4, ![1, 16, 8, 256]⟩
abbrev S16x8x256 : Shape := ⟨3, ![16, 8, 256]⟩
abbrev S120x256 : Shape := ⟨2, ![120, 256]⟩
abbrev S15x8x256 : Shape := ⟨3, ![15, 8, 256]⟩
abbrev S1x15x8x256 : Shape := ⟨4, ![1, 15, 8, 256]⟩
abbrev S8x256 : Shape := ⟨2, ![8, 256]⟩
abbrev S1x1x128x256 : Shape := ⟨4, ![1, 1, 128, 256]⟩
abbrev S1x128x256 : Shape := ⟨3, ![1, 128, 256]⟩
abbrev S1x16x8x128 : Shape := ⟨4, ![1, 16, 8, 128]⟩
abbrev S16x8x128 : Shape := ⟨3, ![16, 8, 128]⟩
abbrev S15x8x128 : Shape := ⟨3, ![15, 8, 128]⟩
abbrev S1x15x8x128 : Shape := ⟨4, ![1, 15, 8, 128]⟩

abbrev nBuf : Space → Nat
  | .hbm => 18
  | .vmem => 23
  | .smem => 2
  | _ => 0

abbrev bufTy : (tb : Table) → Fin (tcTables nBuf tb) → BufTy
  | .hbm, ⟨0, _⟩ => ⟨S4x2048x15x128, .fp8e4m3⟩
  | .hbm, ⟨1, _⟩ => ⟨S4x2048x15, .f32⟩
  | .hbm, ⟨2, _⟩ => ⟨S4x2048x15x128, .fp8e4m3⟩
  | .hbm, ⟨3, _⟩ => ⟨S4x2048x15, .f32⟩
  | .hbm, ⟨4, _⟩ => ⟨S4x2048x15x128, .bf16⟩
  | .hbm, ⟨5, _⟩ => ⟨S15, .f32⟩
  | .hbm, ⟨6, _⟩ => ⟨S15, .f32⟩
  | .hbm, ⟨7, _⟩ => ⟨S30x32, .bf16⟩
  | .hbm, ⟨8, _⟩ => ⟨S32, .f32⟩
  | .hbm, ⟨9, _⟩ => ⟨S32x15, .bf16⟩
  | .hbm, ⟨10, _⟩ => ⟨S4x2048x1920, .fp8e4m3⟩
  | .hbm, ⟨11, _⟩ => ⟨S4x2048x1920, .fp8e4m3⟩
  | .hbm, ⟨12, _⟩ => ⟨S4x15x128x2048, .bf16⟩
  | .hbm, ⟨13, _⟩ => ⟨S4x15x2048, .f32⟩
  | .hbm, ⟨14, _⟩ => ⟨S32x30, .bf16⟩
  | .hbm, ⟨15, _⟩ => ⟨S1x32, .f32⟩
  | .hbm, ⟨16, _⟩ => ⟨S15x32, .bf16⟩
  | .hbm, ⟨17, _⟩ => ⟨S4x2048x1920, .bf16⟩
  | .local _ .vmem, ⟨0, _⟩ => ⟨S1x256x1920, .fp8e4m3⟩
  | .local _ .vmem, ⟨1, _⟩ => ⟨S1x256x1920, .fp8e4m3⟩
  | .local _ .vmem, ⟨2, _⟩ => ⟨S1x2048x1920, .fp8e4m3⟩
  | .local _ .vmem, ⟨3, _⟩ => ⟨S1x2048x1920, .fp8e4m3⟩
  | .local _ .vmem, ⟨4, _⟩ => ⟨S1x15x128x2048, .bf16⟩
  | .local _ .vmem, ⟨5, _⟩ => ⟨S1x15x128x2048, .bf16⟩
  | .local _ .vmem, ⟨6, _⟩ => ⟨S1x15x256, .f32⟩
  | .local _ .vmem, ⟨7, _⟩ => ⟨S1x15x256, .f32⟩
  | .local _ .vmem, ⟨8, _⟩ => ⟨S1x2048x15, .f32⟩
  | .local _ .vmem, ⟨9, _⟩ => ⟨S1x2048x15, .f32⟩
  | .local _ .vmem, ⟨10, _⟩ => ⟨S32x30, .bf16⟩
  | .local _ .vmem, ⟨11, _⟩ => ⟨S1x32, .f32⟩
  | .local _ .vmem, ⟨12, _⟩ => ⟨S15x32, .bf16⟩
  | .local _ .vmem, ⟨13, _⟩ => ⟨S1x256x1920, .bf16⟩
  | .local _ .vmem, ⟨14, _⟩ => ⟨S1x256x1920, .bf16⟩
  | .local _ .vmem, ⟨15, _⟩ => ⟨S32x16x8x256, .f32⟩
  | .local _ .vmem, ⟨16, _⟩ => ⟨S256x120x128, .f32⟩
  | .local _ .vmem, ⟨17, _⟩ => ⟨S256x128x128, .bf16⟩
  | .local _ .vmem, ⟨18, _⟩ => ⟨S256x256, .bf16⟩
  | .local _ .vmem, ⟨19, _⟩ => ⟨S128x256, .bf16⟩
  | .local _ .vmem, ⟨20, _⟩ => ⟨S15x128x256, .f32⟩
  | .local _ .vmem, ⟨21, _⟩ => ⟨S16x256, .f32⟩
  | .local _ .vmem, ⟨22, _⟩ => ⟨S16x256, .f32⟩
  | .local _ .smem, ⟨0, _⟩ => ⟨S15, .f32⟩
  | .local _ .smem, ⟨1, _⟩ => ⟨S15, .f32⟩
  | _, _ => ⟨S4x2048x15x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_scratch5 : Ref sig .tc := ⟨.vmem, 20, rfl⟩
abbrev cc0_scratch6 : Ref sig .tc := ⟨.vmem, 21, rfl⟩
abbrev cc0_scratch7 : Ref sig .tc := ⟨.vmem, 22, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

@[reducible] def k0_t1_loop : Scf.Loop 32 :=
  let c0_i32_1537 : BitVec 32 := 0#32
  let c256_i32_1538 : BitVec 32 := 256#32
  let v2498 : BitVec 32 := Scalar.addi c0_i32_1537 c256_i32_1538
  let c1_i32_1539 : BitVec 32 := 1#32
  ⟨c0_i32_1537, v2498, c1_i32_1539⟩
def k0_off1 (k0_t1 : Fin k0_t1_loop.trips) : Fin 3 → Nat :=
  let c0_i32_1537 : BitVec 32 := 0#32
  let c1_i32_1539 : BitVec 32 := 1#32
  let arg21 : BitVec 32 := Scf.iv c0_i32_1537 c1_i32_1539 k0_t1
  let v2830 : Index := Scalar.indexCast arg21
  let c0_1669 : Index := 0#32
  let c0_1670 : Index := 0#32
  ![v2830.toNat, 0, 0]
def k0_off2 (k0_t1 : Fin k0_t1_loop.trips) : Fin 3 → Nat :=
  let c0_i32_1537 : BitVec 32 := 0#32
  let c1_i32_1539 : BitVec 32 := 1#32
  let arg21 : BitVec 32 := Scf.iv c0_i32_1537 c1_i32_1539 k0_t1
  let v2837 : Index := Scalar.indexCast arg21
  let c0_1672 : Index := 0#32
  let c0_1673 : Index := 0#32
  ![v2837.toNat, 0, 0]
@[reducible] def k0_t2_loop (i : grid0.Coords) : Scf.Loop 32 :=
  let c0_i32_11 : BitVec 32 := 0#32
  let arg1 : BitVec 32 := BitVec.ofNat 32 (i 1).val
  let v17 : BitVec 32 := Scalar.subi arg1 c0_i32_11
  let c1_i32 : BitVec 32 := 1#32
  let v19 : BitVec 32 := Scalar.divsi v17 c1_i32
  let v20 : BitVec 32 := Scalar.muli v19 c1_i32
  let v21 : BitVec 32 := Scalar.addi c0_i32_11 v20
  let c1_i32_12 : BitVec 32 := 1#32
  ⟨c0_i32_11, v21, c1_i32_12⟩
def k0_mult1 (i : grid0.Coords) (k0_t2 : Fin (k0_t2_loop i).trips) : BitVec 32 :=
  let c0_i32_11 : BitVec 32 := 0#32
  let c1_i32_12 : BitVec 32 := 1#32
  let arg21 : BitVec 32 := Scf.iv c0_i32_11 c1_i32_12 k0_t2
  let c256_i32_1455 : BitVec 32 := 256#32
  let v2213 : BitVec 32 := Scalar.muli arg21 c256_i32_1455
  v2213
def k0_off3 (i : grid0.Coords) (k0_t2 : Fin (k0_t2_loop i).trips) : Fin 3 → Nat :=
  let c0_1456 : Index := 0#32
  let c0_i32_11 : BitVec 32 := 0#32
  let c1_i32_12 : BitVec 32 := 1#32
  let arg21 : BitVec 32 := Scf.iv c0_i32_11 c1_i32_12 k0_t2
  let c256_i32_1455 : BitVec 32 := 256#32
  let v2213 : BitVec 32 := Scalar.muli arg21 c256_i32_1455
  let v2214 : BitVec 32 := v2213
  let v2215 : Index := Scalar.indexCast v2214
  let c0_1457 : Index := 0#32
  ![0, v2215.toNat, 0]
def k0_off4 (i : grid0.Coords) (k0_t2 : Fin (k0_t2_loop i).trips) : Fin 3 → Nat :=
  let c0_1459 : Index := 0#32
  let c0_i32_11 : BitVec 32 := 0#32
  let c1_i32_12 : BitVec 32 := 1#32
  let arg21 : BitVec 32 := Scf.iv c0_i32_11 c1_i32_12 k0_t2
  let c256_i32_1455 : BitVec 32 := 256#32
  let v2213 : BitVec 32 := Scalar.muli arg21 c256_i32_1455
  let v2214 : BitVec 32 := v2213
  let v2220 : Index := Scalar.indexCast v2214
  let c0_1460 : Index := 0#32
  ![0, v2220.toNat, 0]
def k0_off5 (i : grid0.Coords) (k0_t2 : Fin (k0_t2_loop i).trips) : Fin 3 → Nat :=
  let c0_1472 : Index := 0#32
  let c0_i32_11 : BitVec 32 := 0#32
  let c1_i32_12 : BitVec 32 := 1#32
  let arg21 : BitVec 32 := Scf.iv c0_i32_11 c1_i32_12 k0_t2
  let c256_i32_1455 : BitVec 32 := 256#32
  let v2213 : BitVec 32 := Scalar.muli arg21 c256_i32_1455
  let v2214 : BitVec 32 := v2213
  let v2237 : Index := Scalar.indexCast v2214
  let c128_1473 : Index := 128#32
  ![0, v2237.toNat, 128]
def k0_off6 (i : grid0.Coords) (k0_t2 : Fin (k0_t2_loop i).trips) : Fin 3 → Nat :=
  let c0_1485 : Index := 0#32
  let c0_i32_11 : BitVec 32 := 0#32
  let c1_i32_12 : BitVec 32 := 1#32
  let arg21 : BitVec 32 := Scf.iv c0_i32_11 c1_i32_12 k0_t2
  let c256_i32_1455 : BitVec 32 := 256#32
  let v2213 : BitVec 32 := Scalar.muli arg21 c256_i32_1455
  let v2214 : BitVec 32 := v2213
  let v2254 : Index := Scalar.indexCast v2214
  let c256_1486 : Index := 256#32
  ![0, v2254.toNat, 256]
def k0_off7 (i : grid0.Coords) (k0_t2 : Fin (k0_t2_loop i).trips) : Fin 3 → Nat :=
  let c0_1498 : Index := 0#32
  let c0_i32_11 : BitVec 32 := 0#32
  let c1_i32_12 : BitVec 32 := 1#32
  let arg21 : BitVec 32 := Scf.iv c0_i32_11 c1_i32_12 k0_t2
  let c256_i32_1455 : BitVec 32 := 256#32
  let v2213 : BitVec 32 := Scalar.muli arg21 c256_i32_1455
  let v2214 : BitVec 32 := v2213
  let v2271 : Index := Scalar.indexCast v2214
  let c384_1499 : Index := 384#32
  ![0, v2271.toNat, 384]
def k0_off8 (i : grid0.Coords) (k0_t2 : Fin (k0_t2_loop i).trips) : Fin 3 → Nat :=
  let c0_1511 : Index := 0#32
  let c0_i32_11 : BitVec 32 := 0#32
  let c1_i32_12 : BitVec 32 := 1#32
  let arg21 : BitVec 32 := Scf.iv c0_i32_11 c1_i32_12 k0_t2
  let c256_i32_1455 : BitVec 32 := 256#32
  let v2213 : BitVec 32 := Scalar.muli arg21 c256_i32_1455
  let v2214 : BitVec 32 := v2213
  let v2288 : Index := Scalar.indexCast v2214
  let c512_1512 : Index := 512#32
  ![0, v2288.toNat, 512]
def k0_off9 (i : grid0.Coords) (k0_t2 : Fin (k0_t2_loop i).trips) : Fin 3 → Nat :=
  let c0_1524 : Index := 0#32
  let c0_i32_11 : BitVec 32 := 0#32
  let c1_i32_12 : BitVec 32 := 1#32
  let arg21 : BitVec 32 := Scf.iv c0_i32_11 c1_i32_12 k0_t2
  let c256_i32_1455 : BitVec 32 := 256#32
  let v2213 : BitVec 32 := Scalar.muli arg21 c256_i32_1455
  let v2214 : BitVec 32 := v2213
  let v2305 : Index := Scalar.indexCast v2214
  let c640_1525 : Index := 640#32
  ![0, v2305.toNat, 640]
def k0_off10 (i : grid0.Coords) (k0_t2 : Fin (k0_t2_loop i).trips) : Fin 3 → Nat :=
  let c0_1537 : Index := 0#32
  let c0_i32_11 : BitVec 32 := 0#32
  let c1_i32_12 : BitVec 32 := 1#32
  let arg21 : BitVec 32 := Scf.iv c0_i32_11 c1_i32_12 k0_t2
  let c256_i32_1455 : BitVec 32 := 256#32
  let v2213 : BitVec 32 := Scalar.muli arg21 c256_i32_1455
  let v2214 : BitVec 32 := v2213
  let v2322 : Index := Scalar.indexCast v2214
  let c768_1538 : Index := 768#32
  ![0, v2322.toNat, 768]
def k0_off11 (i : grid0.Coords) (k0_t2 : Fin (k0_t2_loop i).trips) : Fin 3 → Nat :=
  let c0_1550 : Index := 0#32
  let c0_i32_11 : BitVec 32 := 0#32
  let c1_i32_12 : BitVec 32 := 1#32
  let arg21 : BitVec 32 := Scf.iv c0_i32_11 c1_i32_12 k0_t2
  let c256_i32_1455 : BitVec 32 := 256#32
  let v2213 : BitVec 32 := Scalar.muli arg21 c256_i32_1455
  let v2214 : BitVec 32 := v2213
  let v2339 : Index := Scalar.indexCast v2214
  let c896_1551 : Index := 896#32
  ![0, v2339.toNat, 896]
def k0_off12 (i : grid0.Coords) (k0_t2 : Fin (k0_t2_loop i).trips) : Fin 3 → Nat :=
  let c0_1563 : Index := 0#32
  let c0_i32_11 : BitVec 32 := 0#32
  let c1_i32_12 : BitVec 32 := 1#32
  let arg21 : BitVec 32 := Scf.iv c0_i32_11 c1_i32_12 k0_t2
  let c256_i32_1455 : BitVec 32 := 256#32
  let v2213 : BitVec 32 := Scalar.muli arg21 c256_i32_1455
  let v2214 : BitVec 32 := v2213
  let v2356 : Index := Scalar.indexCast v2214
  let c1024_1564 : Index := 1024#32
  ![0, v2356.toNat, 1024]
def k0_off13 (i : grid0.Coords) (k0_t2 : Fin (k0_t2_loop i).trips) : Fin 3 → Nat :=
  let c0_1576 : Index := 0#32
  let c0_i32_11 : BitVec 32 := 0#32
  let c1_i32_12 : BitVec 32 := 1#32
  let arg21 : BitVec 32 := Scf.iv c0_i32_11 c1_i32_12 k0_t2
  let c256_i32_1455 : BitVec 32 := 256#32
  let v2213 : BitVec 32 := Scalar.muli arg21 c256_i32_1455
  let v2214 : BitVec 32 := v2213
  let v2373 : Index := Scalar.indexCast v2214
  let c1152_1577 : Index := 1152#32
  ![0, v2373.toNat, 1152]
def k0_off14 (i : grid0.Coords) (k0_t2 : Fin (k0_t2_loop i).trips) : Fin 3 → Nat :=
  let c0_1589 : Index := 0#32
  let c0_i32_11 : BitVec 32 := 0#32
  let c1_i32_12 : BitVec 32 := 1#32
  let arg21 : BitVec 32 := Scf.iv c0_i32_11 c1_i32_12 k0_t2
  let c256_i32_1455 : BitVec 32 := 256#32
  let v2213 : BitVec 32 := Scalar.muli arg21 c256_i32_1455
  let v2214 : BitVec 32 := v2213
  let v2390 : Index := Scalar.indexCast v2214
  let c1280_1590 : Index := 1280#32
  ![0, v2390.toNat, 1280]
def k0_off15 (i : grid0.Coords) (k0_t2 : Fin (k0_t2_loop i).trips) : Fin 3 → Nat :=
  let c0_1602 : Index := 0#32
  let c0_i32_11 : BitVec 32 := 0#32
  let c1_i32_12 : BitVec 32 := 1#32
  let arg21 : BitVec 32 := Scf.iv c0_i32_11 c1_i32_12 k0_t2
  let c256_i32_1455 : BitVec 32 := 256#32
  let v2213 : BitVec 32 := Scalar.muli arg21 c256_i32_1455
  let v2214 : BitVec 32 := v2213
  let v2407 : Index := Scalar.indexCast v2214
  let c1408_1603 : Index := 1408#32
  ![0, v2407.toNat, 1408]
def k0_off16 (i : grid0.Coords) (k0_t2 : Fin (k0_t2_loop i).trips) : Fin 3 → Nat :=
  let c0_1615 : Index := 0#32
  let c0_i32_11 : BitVec 32 := 0#32
  let c1_i32_12 : BitVec 32 := 1#32
  let arg21 : BitVec 32 := Scf.iv c0_i32_11 c1_i32_12 k0_t2
  let c256_i32_1455 : BitVec 32 := 256#32
  let v2213 : BitVec 32 := Scalar.muli arg21 c256_i32_1455
  let v2214 : BitVec 32 := v2213
  let v2424 : Index := Scalar.indexCast v2214
  let c1536_1616 : Index := 1536#32
  ![0, v2424.toNat, 1536]
def k0_off17 (i : grid0.Coords) (k0_t2 : Fin (k0_t2_loop i).trips) : Fin 3 → Nat :=
  let c0_1628 : Index := 0#32
  let c0_i32_11 : BitVec 32 := 0#32
  let c1_i32_12 : BitVec 32 := 1#32
  let arg21 : BitVec 32 := Scf.iv c0_i32_11 c1_i32_12 k0_t2
  let c256_i32_1455 : BitVec 32 := 256#32
  let v2213 : BitVec 32 := Scalar.muli arg21 c256_i32_1455
  let v2214 : BitVec 32 := v2213
  let v2441 : Index := Scalar.indexCast v2214
  let c1664_1629 : Index := 1664#32
  ![0, v2441.toNat, 1664]
def k0_off18 (i : grid0.Coords) (k0_t2 : Fin (k0_t2_loop i).trips) : Fin 3 → Nat :=
  let c0_1641 : Index := 0#32
  let c0_i32_11 : BitVec 32 := 0#32
  let c1_i32_12 : BitVec 32 := 1#32
  let arg21 : BitVec 32 := Scf.iv c0_i32_11 c1_i32_12 k0_t2
  let c256_i32_1455 : BitVec 32 := 256#32
  let v2213 : BitVec 32 := Scalar.muli arg21 c256_i32_1455
  let v2214 : BitVec 32 := v2213
  let v2458 : Index := Scalar.indexCast v2214
  let c1792_1642 : Index := 1792#32
  ![0, v2458.toNat, 1792]
def k0_off19 (i : grid0.Coords) (k0_t2 : Fin (k0_t2_loop i).trips) (c15_i32_1655 : BitVec 32) : Fin 3 → Nat :=
  let arg1 : BitVec 32 := BitVec.ofNat 32 (i 1).val
  let c0_i32_11 : BitVec 32 := 0#32
  let c1_i32_12 : BitVec 32 := 1#32
  let arg21 : BitVec 32 := Scf.iv c0_i32_11 c1_i32_12 k0_t2
  let v2475 : BitVec 32 := Scalar.subi arg1 arg21
  let c32_i32_1654 : BitVec 32 := 32#32
  let v2476 : BitVec 32 := Scalar.muli v2475 c32_i32_1654
  let v2477 : BitVec 32 := Scalar.addi v2476 c15_i32_1655
  let v2484 : Index := Scalar.indexCast v2477
  let c0_1662 : Index := 0#32
  let c0_1663 : Index := 0#32
  ![v2484.toNat, 0, 0]
def k0_off19_at (r : Fin 48) : BitVec 32 :=
  if r.val < 24 then
    if r.val < 12 then
      if r.val < 6 then
        if r.val < 3 then
          if r.val < 1 then
            15#32
          else
            if r.val < 2 then
              31#32
            else
              14#32
        else
          if r.val < 4 then
            30#32
          else
            if r.val < 5 then
              13#32
            else
              29#32
      else
        if r.val < 9 then
          if r.val < 7 then
            12#32
          else
            if r.val < 8 then
              28#32
            else
              11#32
        else
          if r.val < 10 then
            27#32
          else
            if r.val < 11 then
              10#32
            else
              26#32
    else
      if r.val < 18 then
        if r.val < 15 then
          if r.val < 13 then
            9#32
          else
            if r.val < 14 then
              25#32
            else
              8#32
        else
          if r.val < 16 then
            24#32
          else
            if r.val < 17 then
              7#32
            else
              23#32
      else
        if r.val < 21 then
          if r.val < 19 then
            6#32
          else
            if r.val < 20 then
              22#32
            else
              5#32
        else
          if r.val < 22 then
            21#32
          else
            if r.val < 23 then
              4#32
            else
              20#32
  else
    if r.val < 36 then
      if r.val < 30 then
        if r.val < 27 then
          if r.val < 25 then
            3#32
          else
            if r.val < 26 then
              19#32
            else
              2#32
        else
          if r.val < 28 then
            18#32
          else
            if r.val < 29 then
              1#32
            else
              17#32
      else
        if r.val < 33 then
          if r.val < 31 then
            0#32
          else
            if r.val < 32 then
              16#32
            else
              4294967295#32
        else
          if r.val < 34 then
            4294967294#32
          else
            if r.val < 35 then
              4294967293#32
            else
              4294967292#32
    else
      if r.val < 42 then
        if r.val < 39 then
          if r.val < 37 then
            4294967291#32
          else
            if r.val < 38 then
              4294967290#32
            else
              4294967289#32
        else
          if r.val < 40 then
            4294967288#32
          else
            if r.val < 41 then
              4294967287#32
            else
              4294967286#32
      else
        if r.val < 45 then
          if r.val < 43 then
            4294967285#32
          else
            if r.val < 44 then
              4294967284#32
            else
              4294967283#32
        else
          if r.val < 46 then
            4294967282#32
          else
            if r.val < 47 then
              4294967281#32
            else
              4294967280#32
def k0_off20 (i : grid0.Coords) (k0_t2 : Fin (k0_t2_loop i).trips) (c15_i32_1655 : BitVec 32) : Fin 3 → Nat :=
  let arg1 : BitVec 32 := BitVec.ofNat 32 (i 1).val
  let c0_i32_11 : BitVec 32 := 0#32
  let c1_i32_12 : BitVec 32 := 1#32
  let arg21 : BitVec 32 := Scf.iv c0_i32_11 c1_i32_12 k0_t2
  let v2475 : BitVec 32 := Scalar.subi arg1 arg21
  let c32_i32_1654 : BitVec 32 := 32#32
  let v2476 : BitVec 32 := Scalar.muli v2475 c32_i32_1654
  let v2477 : BitVec 32 := Scalar.addi v2476 c15_i32_1655
  let v2504 : Index := Scalar.indexCast v2477
  let c0_1674 : Index := 0#32
  let c0_1675 : Index := 0#32
  ![v2504.toNat, 0, 0]
def k0_off20_at (r : Fin 48) : BitVec 32 :=
  if r.val < 24 then
    if r.val < 12 then
      if r.val < 6 then
        if r.val < 3 then
          if r.val < 1 then
            15#32
          else
            if r.val < 2 then
              31#32
            else
              14#32
        else
          if r.val < 4 then
            30#32
          else
            if r.val < 5 then
              13#32
            else
              29#32
      else
        if r.val < 9 then
          if r.val < 7 then
            12#32
          else
            if r.val < 8 then
              28#32
            else
              11#32
        else
          if r.val < 10 then
            27#32
          else
            if r.val < 11 then
              10#32
            else
              26#32
    else
      if r.val < 18 then
        if r.val < 15 then
          if r.val < 13 then
            9#32
          else
            if r.val < 14 then
              25#32
            else
              8#32
        else
          if r.val < 16 then
            24#32
          else
            if r.val < 17 then
              7#32
            else
              23#32
      else
        if r.val < 21 then
          if r.val < 19 then
            6#32
          else
            if r.val < 20 then
              22#32
            else
              5#32
        else
          if r.val < 22 then
            21#32
          else
            if r.val < 23 then
              4#32
            else
              20#32
  else
    if r.val < 36 then
      if r.val < 30 then
        if r.val < 27 then
          if r.val < 25 then
            3#32
          else
            if r.val < 26 then
              19#32
            else
              2#32
        else
          if r.val < 28 then
            18#32
          else
            if r.val < 29 then
              1#32
            else
              17#32
      else
        if r.val < 33 then
          if r.val < 31 then
            0#32
          else
            if r.val < 32 then
              16#32
            else
              4294967295#32
        else
          if r.val < 34 then
            4294967294#32
          else
            if r.val < 35 then
              4294967293#32
            else
              4294967292#32
    else
      if r.val < 42 then
        if r.val < 39 then
          if r.val < 37 then
            4294967291#32
          else
            if r.val < 38 then
              4294967290#32
            else
              4294967289#32
        else
          if r.val < 40 then
            4294967288#32
          else
            if r.val < 41 then
              4294967287#32
            else
              4294967286#32
      else
        if r.val < 45 then
          if r.val < 43 then
            4294967285#32
          else
            if r.val < 44 then
              4294967284#32
            else
              4294967283#32
        else
          if r.val < 46 then
            4294967282#32
          else
            if r.val < 47 then
              4294967281#32
            else
              4294967280#32
def k0_mult2 (i : grid0.Coords) (k0_t2 : Fin (k0_t2_loop i).trips) : BitVec 32 :=
  let c0_i32_11 : BitVec 32 := 0#32
  let c1_i32_12 : BitVec 32 := 1#32
  let arg21 : BitVec 32 := Scf.iv c0_i32_11 c1_i32_12 k0_t2
  let c256_i32_2534 : BitVec 32 := 256#32
  let v3883 : BitVec 32 := Scalar.muli arg21 c256_i32_2534
  v3883
def k0_off21 (i : grid0.Coords) (k0_t2 : Fin (k0_t2_loop i).trips) : Fin 4 → Nat :=
  let c0_2551 : Index := 0#32
  let c0_2552 : Index := 0#32
  let c0_2553 : Index := 0#32
  let c0_i32_11 : BitVec 32 := 0#32
  let c1_i32_12 : BitVec 32 := 1#32
  let arg21 : BitVec 32 := Scf.iv c0_i32_11 c1_i32_12 k0_t2
  let c256_i32_2534 : BitVec 32 := 256#32
  let v3883 : BitVec 32 := Scalar.muli arg21 c256_i32_2534
  let v3884 : BitVec 32 := v3883
  let v3912 : Index := Scalar.indexCast v3884
  ![0, 0, 0, v3912.toNat]
def k0_off22 (i : grid0.Coords) (k0_t2 : Fin (k0_t2_loop i).trips) : Fin 4 → Nat :=
  let c0_2577 : Index := 0#32
  let c1_2578 : Index := 1#32
  let c0_2579 : Index := 0#32
  let c0_i32_11 : BitVec 32 := 0#32
  let c1_i32_12 : BitVec 32 := 1#32
  let arg21 : BitVec 32 := Scf.iv c0_i32_11 c1_i32_12 k0_t2
  let c256_i32_2534 : BitVec 32 := 256#32
  let v3883 : BitVec 32 := Scalar.muli arg21 c256_i32_2534
  let v3884 : BitVec 32 := v3883
  let v3951 : Index := Scalar.indexCast v3884
  ![0, 1, 0, v3951.toNat]
def k0_off23 (i : grid0.Coords) (k0_t2 : Fin (k0_t2_loop i).trips) : Fin 4 → Nat :=
  let c0_2603 : Index := 0#32
  let c2_2604 : Index := 2#32
  let c0_2605 : Index := 0#32
  let c0_i32_11 : BitVec 32 := 0#32
  let c1_i32_12 : BitVec 32 := 1#32
  let arg21 : BitVec 32 := Scf.iv c0_i32_11 c1_i32_12 k0_t2
  let c256_i32_2534 : BitVec 32 := 256#32
  let v3883 : BitVec 32 := Scalar.muli arg21 c256_i32_2534
  let v3884 : BitVec 32 := v3883
  let v3990 : Index := Scalar.indexCast v3884
  ![0, 2, 0, v3990.toNat]
def k0_off24 (i : grid0.Coords) (k0_t2 : Fin (k0_t2_loop i).trips) : Fin 4 → Nat :=
  let c0_2629 : Index := 0#32
  let c3_2630 : Index := 3#32
  let c0_2631 : Index := 0#32
  let c0_i32_11 : BitVec 32 := 0#32
  let c1_i32_12 : BitVec 32 := 1#32
  let arg21 : BitVec 32 := Scf.iv c0_i32_11 c1_i32_12 k0_t2
  let c256_i32_2534 : BitVec 32 := 256#32
  let v3883 : BitVec 32 := Scalar.muli arg21 c256_i32_2534
  let v3884 : BitVec 32 := v3883
  let v4029 : Index := Scalar.indexCast v3884
  ![0, 3, 0, v4029.toNat]
def k0_off25 (i : grid0.Coords) (k0_t2 : Fin (k0_t2_loop i).trips) : Fin 4 → Nat :=
  let c0_2655 : Index := 0#32
  let c4_2656 : Index := 4#32
  let c0_2657 : Index := 0#32
  let c0_i32_11 : BitVec 32 := 0#32
  let c1_i32_12 : BitVec 32 := 1#32
  let arg21 : BitVec 32 := Scf.iv c0_i32_11 c1_i32_12 k0_t2
  let c256_i32_2534 : BitVec 32 := 256#32
  let v3883 : BitVec 32 := Scalar.muli arg21 c256_i32_2534
  let v3884 : BitVec 32 := v3883
  let v4068 : Index := Scalar.indexCast v3884
  ![0, 4, 0, v4068.toNat]
def k0_off26 (i : grid0.Coords) (k0_t2 : Fin (k0_t2_loop i).trips) : Fin 4 → Nat :=
  let c0_2681 : Index := 0#32
  let c5_2682 : Index := 5#32
  let c0_2683 : Index := 0#32
  let c0_i32_11 : BitVec 32 := 0#32
  let c1_i32_12 : BitVec 32 := 1#32
  let arg21 : BitVec 32 := Scf.iv c0_i32_11 c1_i32_12 k0_t2
  let c256_i32_2534 : BitVec 32 := 256#32
  let v3883 : BitVec 32 := Scalar.muli arg21 c256_i32_2534
  let v3884 : BitVec 32 := v3883
  let v4107 : Index := Scalar.indexCast v3884
  ![0, 5, 0, v4107.toNat]
def k0_off27 (i : grid0.Coords) (k0_t2 : Fin (k0_t2_loop i).trips) : Fin 4 → Nat :=
  let c0_2707 : Index := 0#32
  let c6_2708 : Index := 6#32
  let c0_2709 : Index := 0#32
  let c0_i32_11 : BitVec 32 := 0#32
  let c1_i32_12 : BitVec 32 := 1#32
  let arg21 : BitVec 32 := Scf.iv c0_i32_11 c1_i32_12 k0_t2
  let c256_i32_2534 : BitVec 32 := 256#32
  let v3883 : BitVec 32 := Scalar.muli arg21 c256_i32_2534
  let v3884 : BitVec 32 := v3883
  let v4146 : Index := Scalar.indexCast v3884
  ![0, 6, 0, v4146.toNat]
def k0_off28 (i : grid0.Coords) (k0_t2 : Fin (k0_t2_loop i).trips) : Fin 4 → Nat :=
  let c0_2733 : Index := 0#32
  let c7_2734 : Index := 7#32
  let c0_2735 : Index := 0#32
  let c0_i32_11 : BitVec 32 := 0#32
  let c1_i32_12 : BitVec 32 := 1#32
  let arg21 : BitVec 32 := Scf.iv c0_i32_11 c1_i32_12 k0_t2
  let c256_i32_2534 : BitVec 32 := 256#32
  let v3883 : BitVec 32 := Scalar.muli arg21 c256_i32_2534
  let v3884 : BitVec 32 := v3883
  let v4185 : Index := Scalar.indexCast v3884
  ![0, 7, 0, v4185.toNat]
def k0_off29 (i : grid0.Coords) (k0_t2 : Fin (k0_t2_loop i).trips) : Fin 4 → Nat :=
  let c0_2759 : Index := 0#32
  let c8_2760 : Index := 8#32
  let c0_2761 : Index := 0#32
  let c0_i32_11 : BitVec 32 := 0#32
  let c1_i32_12 : BitVec 32 := 1#32
  let arg21 : BitVec 32 := Scf.iv c0_i32_11 c1_i32_12 k0_t2
  let c256_i32_2534 : BitVec 32 := 256#32
  let v3883 : BitVec 32 := Scalar.muli arg21 c256_i32_2534
  let v3884 : BitVec 32 := v3883
  let v4224 : Index := Scalar.indexCast v3884
  ![0, 8, 0, v4224.toNat]
def k0_off30 (i : grid0.Coords) (k0_t2 : Fin (k0_t2_loop i).trips) : Fin 4 → Nat :=
  let c0_2785 : Index := 0#32
  let c9_2786 : Index := 9#32
  let c0_2787 : Index := 0#32
  let c0_i32_11 : BitVec 32 := 0#32
  let c1_i32_12 : BitVec 32 := 1#32
  let arg21 : BitVec 32 := Scf.iv c0_i32_11 c1_i32_12 k0_t2
  let c256_i32_2534 : BitVec 32 := 256#32
  let v3883 : BitVec 32 := Scalar.muli arg21 c256_i32_2534
  let v3884 : BitVec 32 := v3883
  let v4263 : Index := Scalar.indexCast v3884
  ![0, 9, 0, v4263.toNat]
def k0_off31 (i : grid0.Coords) (k0_t2 : Fin (k0_t2_loop i).trips) : Fin 4 → Nat :=
  let c0_2811 : Index := 0#32
  let c10_2812 : Index := 10#32
  let c0_2813 : Index := 0#32
  let c0_i32_11 : BitVec 32 := 0#32
  let c1_i32_12 : BitVec 32 := 1#32
  let arg21 : BitVec 32 := Scf.iv c0_i32_11 c1_i32_12 k0_t2
  let c256_i32_2534 : BitVec 32 := 256#32
  let v3883 : BitVec 32 := Scalar.muli arg21 c256_i32_2534
  let v3884 : BitVec 32 := v3883
  let v4302 : Index := Scalar.indexCast v3884
  ![0, 10, 0, v4302.toNat]
def k0_off32 (i : grid0.Coords) (k0_t2 : Fin (k0_t2_loop i).trips) : Fin 4 → Nat :=
  let c0_2837 : Index := 0#32
  let c11_2838 : Index := 11#32
  let c0_2839 : Index := 0#32
  let c0_i32_11 : BitVec 32 := 0#32
  let c1_i32_12 : BitVec 32 := 1#32
  let arg21 : BitVec 32 := Scf.iv c0_i32_11 c1_i32_12 k0_t2
  let c256_i32_2534 : BitVec 32 := 256#32
  let v3883 : BitVec 32 := Scalar.muli arg21 c256_i32_2534
  let v3884 : BitVec 32 := v3883
  let v4341 : Index := Scalar.indexCast v3884
  ![0, 11, 0, v4341.toNat]
def k0_off33 (i : grid0.Coords) (k0_t2 : Fin (k0_t2_loop i).trips) : Fin 4 → Nat :=
  let c0_2863 : Index := 0#32
  let c12_2864 : Index := 12#32
  let c0_2865 : Index := 0#32
  let c0_i32_11 : BitVec 32 := 0#32
  let c1_i32_12 : BitVec 32 := 1#32
  let arg21 : BitVec 32 := Scf.iv c0_i32_11 c1_i32_12 k0_t2
  let c256_i32_2534 : BitVec 32 := 256#32
  let v3883 : BitVec 32 := Scalar.muli arg21 c256_i32_2534
  let v3884 : BitVec 32 := v3883
  let v4380 : Index := Scalar.indexCast v3884
  ![0, 12, 0, v4380.toNat]
def k0_off34 (i : grid0.Coords) (k0_t2 : Fin (k0_t2_loop i).trips) : Fin 4 → Nat :=
  let c0_2889 : Index := 0#32
  let c13_2890 : Index := 13#32
  let c0_2891 : Index := 0#32
  let c0_i32_11 : BitVec 32 := 0#32
  let c1_i32_12 : BitVec 32 := 1#32
  let arg21 : BitVec 32 := Scf.iv c0_i32_11 c1_i32_12 k0_t2
  let c256_i32_2534 : BitVec 32 := 256#32
  let v3883 : BitVec 32 := Scalar.muli arg21 c256_i32_2534
  let v3884 : BitVec 32 := v3883
  let v4419 : Index := Scalar.indexCast v3884
  ![0, 13, 0, v4419.toNat]
def k0_off35 (i : grid0.Coords) (k0_t2 : Fin (k0_t2_loop i).trips) : Fin 4 → Nat :=
  let c0_2915 : Index := 0#32
  let c14_2916 : Index := 14#32
  let c0_2917 : Index := 0#32
  let c0_i32_11 : BitVec 32 := 0#32
  let c1_i32_12 : BitVec 32 := 1#32
  let arg21 : BitVec 32 := Scf.iv c0_i32_11 c1_i32_12 k0_t2
  let c256_i32_2534 : BitVec 32 := 256#32
  let v3883 : BitVec 32 := Scalar.muli arg21 c256_i32_2534
  let v3884 : BitVec 32 := v3883
  let v4458 : Index := Scalar.indexCast v3884
  ![0, 14, 0, v4458.toNat]
@[reducible] def k0_t3_loop (i : grid0.Coords) : Scf.Loop 32 :=
  let c0_i32_11 : BitVec 32 := 0#32
  let arg1 : BitVec 32 := BitVec.ofNat 32 (i 1).val
  let v17 : BitVec 32 := Scalar.subi arg1 c0_i32_11
  let c1_i32 : BitVec 32 := 1#32
  let v19 : BitVec 32 := Scalar.divsi v17 c1_i32
  let v20 : BitVec 32 := Scalar.muli v19 c1_i32
  let v21 : BitVec 32 := Scalar.addi c0_i32_11 v20
  let v18 : BitVec 32 := Scalar.addi c0_i32_11 v17
  let c1_i32_13 : BitVec 32 := 1#32
  ⟨v21, v18, c1_i32_13⟩
def k0_mult3 (i : grid0.Coords) (k0_t3 : Fin (k0_t3_loop i).trips) : BitVec 32 :=
  let c0_i32_11 : BitVec 32 := 0#32
  let arg1 : BitVec 32 := BitVec.ofNat 32 (i 1).val
  let v17 : BitVec 32 := Scalar.subi arg1 c0_i32_11
  let c1_i32 : BitVec 32 := 1#32
  let v19 : BitVec 32 := Scalar.divsi v17 c1_i32
  let v20 : BitVec 32 := Scalar.muli v19 c1_i32
  let v21 : BitVec 32 := Scalar.addi c0_i32_11 v20
  let c1_i32_13 : BitVec 32 := 1#32
  let arg21 : BitVec 32 := Scf.iv v21 c1_i32_13 k0_t3
  let c256_i32_1455 : BitVec 32 := 256#32
  let v2213 : BitVec 32 := Scalar.muli arg21 c256_i32_1455
  v2213
def k0_off36 (i : grid0.Coords) (k0_t3 : Fin (k0_t3_loop i).trips) : Fin 3 → Nat :=
  let c0_1456 : Index := 0#32
  let c0_i32_11 : BitVec 32 := 0#32
  let arg1 : BitVec 32 := BitVec.ofNat 32 (i 1).val
  let v17 : BitVec 32 := Scalar.subi arg1 c0_i32_11
  let c1_i32 : BitVec 32 := 1#32
  let v19 : BitVec 32 := Scalar.divsi v17 c1_i32
  let v20 : BitVec 32 := Scalar.muli v19 c1_i32
  let v21 : BitVec 32 := Scalar.addi c0_i32_11 v20
  let c1_i32_13 : BitVec 32 := 1#32
  let arg21 : BitVec 32 := Scf.iv v21 c1_i32_13 k0_t3
  let c256_i32_1455 : BitVec 32 := 256#32
  let v2213 : BitVec 32 := Scalar.muli arg21 c256_i32_1455
  let v2214 : BitVec 32 := v2213
  let v2215 : Index := Scalar.indexCast v2214
  let c0_1457 : Index := 0#32
  ![0, v2215.toNat, 0]
def k0_off37 (i : grid0.Coords) (k0_t3 : Fin (k0_t3_loop i).trips) : Fin 3 → Nat :=
  let c0_1459 : Index := 0#32
  let c0_i32_11 : BitVec 32 := 0#32
  let arg1 : BitVec 32 := BitVec.ofNat 32 (i 1).val
  let v17 : BitVec 32 := Scalar.subi arg1 c0_i32_11
  let c1_i32 : BitVec 32 := 1#32
  let v19 : BitVec 32 := Scalar.divsi v17 c1_i32
  let v20 : BitVec 32 := Scalar.muli v19 c1_i32
  let v21 : BitVec 32 := Scalar.addi c0_i32_11 v20
  let c1_i32_13 : BitVec 32 := 1#32
  let arg21 : BitVec 32 := Scf.iv v21 c1_i32_13 k0_t3
  let c256_i32_1455 : BitVec 32 := 256#32
  let v2213 : BitVec 32 := Scalar.muli arg21 c256_i32_1455
  let v2214 : BitVec 32 := v2213
  let v2220 : Index := Scalar.indexCast v2214
  let c0_1460 : Index := 0#32
  ![0, v2220.toNat, 0]
def k0_off38 (i : grid0.Coords) (k0_t3 : Fin (k0_t3_loop i).trips) : Fin 3 → Nat :=
  let c0_1472 : Index := 0#32
  let c0_i32_11 : BitVec 32 := 0#32
  let arg1 : BitVec 32 := BitVec.ofNat 32 (i 1).val
  let v17 : BitVec 32 := Scalar.subi arg1 c0_i32_11
  let c1_i32 : BitVec 32 := 1#32
  let v19 : BitVec 32 := Scalar.divsi v17 c1_i32
  let v20 : BitVec 32 := Scalar.muli v19 c1_i32
  let v21 : BitVec 32 := Scalar.addi c0_i32_11 v20
  let c1_i32_13 : BitVec 32 := 1#32
  let arg21 : BitVec 32 := Scf.iv v21 c1_i32_13 k0_t3
  let c256_i32_1455 : BitVec 32 := 256#32
  let v2213 : BitVec 32 := Scalar.muli arg21 c256_i32_1455
  let v2214 : BitVec 32 := v2213
  let v2237 : Index := Scalar.indexCast v2214
  let c128_1473 : Index := 128#32
  ![0, v2237.toNat, 128]
def k0_off39 (i : grid0.Coords) (k0_t3 : Fin (k0_t3_loop i).trips) : Fin 3 → Nat :=
  let c0_1485 : Index := 0#32
  let c0_i32_11 : BitVec 32 := 0#32
  let arg1 : BitVec 32 := BitVec.ofNat 32 (i 1).val
  let v17 : BitVec 32 := Scalar.subi arg1 c0_i32_11
  let c1_i32 : BitVec 32 := 1#32
  let v19 : BitVec 32 := Scalar.divsi v17 c1_i32
  let v20 : BitVec 32 := Scalar.muli v19 c1_i32
  let v21 : BitVec 32 := Scalar.addi c0_i32_11 v20
  let c1_i32_13 : BitVec 32 := 1#32
  let arg21 : BitVec 32 := Scf.iv v21 c1_i32_13 k0_t3
  let c256_i32_1455 : BitVec 32 := 256#32
  let v2213 : BitVec 32 := Scalar.muli arg21 c256_i32_1455
  let v2214 : BitVec 32 := v2213
  let v2254 : Index := Scalar.indexCast v2214
  let c256_1486 : Index := 256#32
  ![0, v2254.toNat, 256]
def k0_off40 (i : grid0.Coords) (k0_t3 : Fin (k0_t3_loop i).trips) : Fin 3 → Nat :=
  let c0_1498 : Index := 0#32
  let c0_i32_11 : BitVec 32 := 0#32
  let arg1 : BitVec 32 := BitVec.ofNat 32 (i 1).val
  let v17 : BitVec 32 := Scalar.subi arg1 c0_i32_11
  let c1_i32 : BitVec 32 := 1#32
  let v19 : BitVec 32 := Scalar.divsi v17 c1_i32
  let v20 : BitVec 32 := Scalar.muli v19 c1_i32
  let v21 : BitVec 32 := Scalar.addi c0_i32_11 v20
  let c1_i32_13 : BitVec 32 := 1#32
  let arg21 : BitVec 32 := Scf.iv v21 c1_i32_13 k0_t3
  let c256_i32_1455 : BitVec 32 := 256#32
  let v2213 : BitVec 32 := Scalar.muli arg21 c256_i32_1455
  let v2214 : BitVec 32 := v2213
  let v2271 : Index := Scalar.indexCast v2214
  let c384_1499 : Index := 384#32
  ![0, v2271.toNat, 384]
def k0_off41 (i : grid0.Coords) (k0_t3 : Fin (k0_t3_loop i).trips) : Fin 3 → Nat :=
  let c0_1511 : Index := 0#32
  let c0_i32_11 : BitVec 32 := 0#32
  let arg1 : BitVec 32 := BitVec.ofNat 32 (i 1).val
  let v17 : BitVec 32 := Scalar.subi arg1 c0_i32_11
  let c1_i32 : BitVec 32 := 1#32
  let v19 : BitVec 32 := Scalar.divsi v17 c1_i32
  let v20 : BitVec 32 := Scalar.muli v19 c1_i32
  let v21 : BitVec 32 := Scalar.addi c0_i32_11 v20
  let c1_i32_13 : BitVec 32 := 1#32
  let arg21 : BitVec 32 := Scf.iv v21 c1_i32_13 k0_t3
  let c256_i32_1455 : BitVec 32 := 256#32
  let v2213 : BitVec 32 := Scalar.muli arg21 c256_i32_1455
  let v2214 : BitVec 32 := v2213
  let v2288 : Index := Scalar.indexCast v2214
  let c512_1512 : Index := 512#32
  ![0, v2288.toNat, 512]
def k0_off42 (i : grid0.Coords) (k0_t3 : Fin (k0_t3_loop i).trips) : Fin 3 → Nat :=
  let c0_1524 : Index := 0#32
  let c0_i32_11 : BitVec 32 := 0#32
  let arg1 : BitVec 32 := BitVec.ofNat 32 (i 1).val
  let v17 : BitVec 32 := Scalar.subi arg1 c0_i32_11
  let c1_i32 : BitVec 32 := 1#32
  let v19 : BitVec 32 := Scalar.divsi v17 c1_i32
  let v20 : BitVec 32 := Scalar.muli v19 c1_i32
  let v21 : BitVec 32 := Scalar.addi c0_i32_11 v20
  let c1_i32_13 : BitVec 32 := 1#32
  let arg21 : BitVec 32 := Scf.iv v21 c1_i32_13 k0_t3
  let c256_i32_1455 : BitVec 32 := 256#32
  let v2213 : BitVec 32 := Scalar.muli arg21 c256_i32_1455
  let v2214 : BitVec 32 := v2213
  let v2305 : Index := Scalar.indexCast v2214
  let c640_1525 : Index := 640#32
  ![0, v2305.toNat, 640]
def k0_off43 (i : grid0.Coords) (k0_t3 : Fin (k0_t3_loop i).trips) : Fin 3 → Nat :=
  let c0_1537 : Index := 0#32
  let c0_i32_11 : BitVec 32 := 0#32
  let arg1 : BitVec 32 := BitVec.ofNat 32 (i 1).val
  let v17 : BitVec 32 := Scalar.subi arg1 c0_i32_11
  let c1_i32 : BitVec 32 := 1#32
  let v19 : BitVec 32 := Scalar.divsi v17 c1_i32
  let v20 : BitVec 32 := Scalar.muli v19 c1_i32
  let v21 : BitVec 32 := Scalar.addi c0_i32_11 v20
  let c1_i32_13 : BitVec 32 := 1#32
  let arg21 : BitVec 32 := Scf.iv v21 c1_i32_13 k0_t3
  let c256_i32_1455 : BitVec 32 := 256#32
  let v2213 : BitVec 32 := Scalar.muli arg21 c256_i32_1455
  let v2214 : BitVec 32 := v2213
  let v2322 : Index := Scalar.indexCast v2214
  let c768_1538 : Index := 768#32
  ![0, v2322.toNat, 768]
def k0_off44 (i : grid0.Coords) (k0_t3 : Fin (k0_t3_loop i).trips) : Fin 3 → Nat :=
  let c0_1550 : Index := 0#32
  let c0_i32_11 : BitVec 32 := 0#32
  let arg1 : BitVec 32 := BitVec.ofNat 32 (i 1).val
  let v17 : BitVec 32 := Scalar.subi arg1 c0_i32_11
  let c1_i32 : BitVec 32 := 1#32
  let v19 : BitVec 32 := Scalar.divsi v17 c1_i32
  let v20 : BitVec 32 := Scalar.muli v19 c1_i32
  let v21 : BitVec 32 := Scalar.addi c0_i32_11 v20
  let c1_i32_13 : BitVec 32 := 1#32
  let arg21 : BitVec 32 := Scf.iv v21 c1_i32_13 k0_t3
  let c256_i32_1455 : BitVec 32 := 256#32
  let v2213 : BitVec 32 := Scalar.muli arg21 c256_i32_1455
  let v2214 : BitVec 32 := v2213
  let v2339 : Index := Scalar.indexCast v2214
  let c896_1551 : Index := 896#32
  ![0, v2339.toNat, 896]
def k0_off45 (i : grid0.Coords) (k0_t3 : Fin (k0_t3_loop i).trips) : Fin 3 → Nat :=
  let c0_1563 : Index := 0#32
  let c0_i32_11 : BitVec 32 := 0#32
  let arg1 : BitVec 32 := BitVec.ofNat 32 (i 1).val
  let v17 : BitVec 32 := Scalar.subi arg1 c0_i32_11
  let c1_i32 : BitVec 32 := 1#32
  let v19 : BitVec 32 := Scalar.divsi v17 c1_i32
  let v20 : BitVec 32 := Scalar.muli v19 c1_i32
  let v21 : BitVec 32 := Scalar.addi c0_i32_11 v20
  let c1_i32_13 : BitVec 32 := 1#32
  let arg21 : BitVec 32 := Scf.iv v21 c1_i32_13 k0_t3
  let c256_i32_1455 : BitVec 32 := 256#32
  let v2213 : BitVec 32 := Scalar.muli arg21 c256_i32_1455
  let v2214 : BitVec 32 := v2213
  let v2356 : Index := Scalar.indexCast v2214
  let c1024_1564 : Index := 1024#32
  ![0, v2356.toNat, 1024]
def k0_off46 (i : grid0.Coords) (k0_t3 : Fin (k0_t3_loop i).trips) : Fin 3 → Nat :=
  let c0_1576 : Index := 0#32
  let c0_i32_11 : BitVec 32 := 0#32
  let arg1 : BitVec 32 := BitVec.ofNat 32 (i 1).val
  let v17 : BitVec 32 := Scalar.subi arg1 c0_i32_11
  let c1_i32 : BitVec 32 := 1#32
  let v19 : BitVec 32 := Scalar.divsi v17 c1_i32
  let v20 : BitVec 32 := Scalar.muli v19 c1_i32
  let v21 : BitVec 32 := Scalar.addi c0_i32_11 v20
  let c1_i32_13 : BitVec 32 := 1#32
  let arg21 : BitVec 32 := Scf.iv v21 c1_i32_13 k0_t3
  let c256_i32_1455 : BitVec 32 := 256#32
  let v2213 : BitVec 32 := Scalar.muli arg21 c256_i32_1455
  let v2214 : BitVec 32 := v2213
  let v2373 : Index := Scalar.indexCast v2214
  let c1152_1577 : Index := 1152#32
  ![0, v2373.toNat, 1152]
def k0_off47 (i : grid0.Coords) (k0_t3 : Fin (k0_t3_loop i).trips) : Fin 3 → Nat :=
  let c0_1589 : Index := 0#32
  let c0_i32_11 : BitVec 32 := 0#32
  let arg1 : BitVec 32 := BitVec.ofNat 32 (i 1).val
  let v17 : BitVec 32 := Scalar.subi arg1 c0_i32_11
  let c1_i32 : BitVec 32 := 1#32
  let v19 : BitVec 32 := Scalar.divsi v17 c1_i32
  let v20 : BitVec 32 := Scalar.muli v19 c1_i32
  let v21 : BitVec 32 := Scalar.addi c0_i32_11 v20
  let c1_i32_13 : BitVec 32 := 1#32
  let arg21 : BitVec 32 := Scf.iv v21 c1_i32_13 k0_t3
  let c256_i32_1455 : BitVec 32 := 256#32
  let v2213 : BitVec 32 := Scalar.muli arg21 c256_i32_1455
  let v2214 : BitVec 32 := v2213
  let v2390 : Index := Scalar.indexCast v2214
  let c1280_1590 : Index := 1280#32
  ![0, v2390.toNat, 1280]
def k0_off48 (i : grid0.Coords) (k0_t3 : Fin (k0_t3_loop i).trips) : Fin 3 → Nat :=
  let c0_1602 : Index := 0#32
  let c0_i32_11 : BitVec 32 := 0#32
  let arg1 : BitVec 32 := BitVec.ofNat 32 (i 1).val
  let v17 : BitVec 32 := Scalar.subi arg1 c0_i32_11
  let c1_i32 : BitVec 32 := 1#32
  let v19 : BitVec 32 := Scalar.divsi v17 c1_i32
  let v20 : BitVec 32 := Scalar.muli v19 c1_i32
  let v21 : BitVec 32 := Scalar.addi c0_i32_11 v20
  let c1_i32_13 : BitVec 32 := 1#32
  let arg21 : BitVec 32 := Scf.iv v21 c1_i32_13 k0_t3
  let c256_i32_1455 : BitVec 32 := 256#32
  let v2213 : BitVec 32 := Scalar.muli arg21 c256_i32_1455
  let v2214 : BitVec 32 := v2213
  let v2407 : Index := Scalar.indexCast v2214
  let c1408_1603 : Index := 1408#32
  ![0, v2407.toNat, 1408]
def k0_off49 (i : grid0.Coords) (k0_t3 : Fin (k0_t3_loop i).trips) : Fin 3 → Nat :=
  let c0_1615 : Index := 0#32
  let c0_i32_11 : BitVec 32 := 0#32
  let arg1 : BitVec 32 := BitVec.ofNat 32 (i 1).val
  let v17 : BitVec 32 := Scalar.subi arg1 c0_i32_11
  let c1_i32 : BitVec 32 := 1#32
  let v19 : BitVec 32 := Scalar.divsi v17 c1_i32
  let v20 : BitVec 32 := Scalar.muli v19 c1_i32
  let v21 : BitVec 32 := Scalar.addi c0_i32_11 v20
  let c1_i32_13 : BitVec 32 := 1#32
  let arg21 : BitVec 32 := Scf.iv v21 c1_i32_13 k0_t3
  let c256_i32_1455 : BitVec 32 := 256#32
  let v2213 : BitVec 32 := Scalar.muli arg21 c256_i32_1455
  let v2214 : BitVec 32 := v2213
  let v2424 : Index := Scalar.indexCast v2214
  let c1536_1616 : Index := 1536#32
  ![0, v2424.toNat, 1536]
def k0_off50 (i : grid0.Coords) (k0_t3 : Fin (k0_t3_loop i).trips) : Fin 3 → Nat :=
  let c0_1628 : Index := 0#32
  let c0_i32_11 : BitVec 32 := 0#32
  let arg1 : BitVec 32 := BitVec.ofNat 32 (i 1).val
  let v17 : BitVec 32 := Scalar.subi arg1 c0_i32_11
  let c1_i32 : BitVec 32 := 1#32
  let v19 : BitVec 32 := Scalar.divsi v17 c1_i32
  let v20 : BitVec 32 := Scalar.muli v19 c1_i32
  let v21 : BitVec 32 := Scalar.addi c0_i32_11 v20
  let c1_i32_13 : BitVec 32 := 1#32
  let arg21 : BitVec 32 := Scf.iv v21 c1_i32_13 k0_t3
  let c256_i32_1455 : BitVec 32 := 256#32
  let v2213 : BitVec 32 := Scalar.muli arg21 c256_i32_1455
  let v2214 : BitVec 32 := v2213
  let v2441 : Index := Scalar.indexCast v2214
  let c1664_1629 : Index := 1664#32
  ![0, v2441.toNat, 1664]
def k0_off51 (i : grid0.Coords) (k0_t3 : Fin (k0_t3_loop i).trips) : Fin 3 → Nat :=
  let c0_1641 : Index := 0#32
  let c0_i32_11 : BitVec 32 := 0#32
  let arg1 : BitVec 32 := BitVec.ofNat 32 (i 1).val
  let v17 : BitVec 32 := Scalar.subi arg1 c0_i32_11
  let c1_i32 : BitVec 32 := 1#32
  let v19 : BitVec 32 := Scalar.divsi v17 c1_i32
  let v20 : BitVec 32 := Scalar.muli v19 c1_i32
  let v21 : BitVec 32 := Scalar.addi c0_i32_11 v20
  let c1_i32_13 : BitVec 32 := 1#32
  let arg21 : BitVec 32 := Scf.iv v21 c1_i32_13 k0_t3
  let c256_i32_1455 : BitVec 32 := 256#32
  let v2213 : BitVec 32 := Scalar.muli arg21 c256_i32_1455
  let v2214 : BitVec 32 := v2213
  let v2458 : Index := Scalar.indexCast v2214
  let c1792_1642 : Index := 1792#32
  ![0, v2458.toNat, 1792]
def k0_off52 (i : grid0.Coords) (k0_t3 : Fin (k0_t3_loop i).trips) (c15_i32_1655 : BitVec 32) : Fin 3 → Nat :=
  let arg1 : BitVec 32 := BitVec.ofNat 32 (i 1).val
  let c0_i32_11 : BitVec 32 := 0#32
  let v17 : BitVec 32 := Scalar.subi arg1 c0_i32_11
  let c1_i32 : BitVec 32 := 1#32
  let v19 : BitVec 32 := Scalar.divsi v17 c1_i32
  let v20 : BitVec 32 := Scalar.muli v19 c1_i32
  let v21 : BitVec 32 := Scalar.addi c0_i32_11 v20
  let c1_i32_13 : BitVec 32 := 1#32
  let arg21 : BitVec 32 := Scf.iv v21 c1_i32_13 k0_t3
  let v2475 : BitVec 32 := Scalar.subi arg1 arg21
  let c32_i32_1654 : BitVec 32 := 32#32
  let v2476 : BitVec 32 := Scalar.muli v2475 c32_i32_1654
  let v2477 : BitVec 32 := Scalar.addi v2476 c15_i32_1655
  let v2484 : Index := Scalar.indexCast v2477
  let c0_1662 : Index := 0#32
  let c0_1663 : Index := 0#32
  ![v2484.toNat, 0, 0]
def k0_off52_at (r : Fin 48) : BitVec 32 :=
  if r.val < 24 then
    if r.val < 12 then
      if r.val < 6 then
        if r.val < 3 then
          if r.val < 1 then
            15#32
          else
            if r.val < 2 then
              31#32
            else
              14#32
        else
          if r.val < 4 then
            30#32
          else
            if r.val < 5 then
              13#32
            else
              29#32
      else
        if r.val < 9 then
          if r.val < 7 then
            12#32
          else
            if r.val < 8 then
              28#32
            else
              11#32
        else
          if r.val < 10 then
            27#32
          else
            if r.val < 11 then
              10#32
            else
              26#32
    else
      if r.val < 18 then
        if r.val < 15 then
          if r.val < 13 then
            9#32
          else
            if r.val < 14 then
              25#32
            else
              8#32
        else
          if r.val < 16 then
            24#32
          else
            if r.val < 17 then
              7#32
            else
              23#32
      else
        if r.val < 21 then
          if r.val < 19 then
            6#32
          else
            if r.val < 20 then
              22#32
            else
              5#32
        else
          if r.val < 22 then
            21#32
          else
            if r.val < 23 then
              4#32
            else
              20#32
  else
    if r.val < 36 then
      if r.val < 30 then
        if r.val < 27 then
          if r.val < 25 then
            3#32
          else
            if r.val < 26 then
              19#32
            else
              2#32
        else
          if r.val < 28 then
            18#32
          else
            if r.val < 29 then
              1#32
            else
              17#32
      else
        if r.val < 33 then
          if r.val < 31 then
            0#32
          else
            if r.val < 32 then
              16#32
            else
              4294967295#32
        else
          if r.val < 34 then
            4294967294#32
          else
            if r.val < 35 then
              4294967293#32
            else
              4294967292#32
    else
      if r.val < 42 then
        if r.val < 39 then
          if r.val < 37 then
            4294967291#32
          else
            if r.val < 38 then
              4294967290#32
            else
              4294967289#32
        else
          if r.val < 40 then
            4294967288#32
          else
            if r.val < 41 then
              4294967287#32
            else
              4294967286#32
      else
        if r.val < 45 then
          if r.val < 43 then
            4294967285#32
          else
            if r.val < 44 then
              4294967284#32
            else
              4294967283#32
        else
          if r.val < 46 then
            4294967282#32
          else
            if r.val < 47 then
              4294967281#32
            else
              4294967280#32
def k0_off53 (i : grid0.Coords) (k0_t3 : Fin (k0_t3_loop i).trips) (c15_i32_1655 : BitVec 32) : Fin 3 → Nat :=
  let arg1 : BitVec 32 := BitVec.ofNat 32 (i 1).val
  let c0_i32_11 : BitVec 32 := 0#32
  let v17 : BitVec 32 := Scalar.subi arg1 c0_i32_11
  let c1_i32 : BitVec 32 := 1#32
  let v19 : BitVec 32 := Scalar.divsi v17 c1_i32
  let v20 : BitVec 32 := Scalar.muli v19 c1_i32
  let v21 : BitVec 32 := Scalar.addi c0_i32_11 v20
  let c1_i32_13 : BitVec 32 := 1#32
  let arg21 : BitVec 32 := Scf.iv v21 c1_i32_13 k0_t3
  let v2475 : BitVec 32 := Scalar.subi arg1 arg21
  let c32_i32_1654 : BitVec 32 := 32#32
  let v2476 : BitVec 32 := Scalar.muli v2475 c32_i32_1654
  let v2477 : BitVec 32 := Scalar.addi v2476 c15_i32_1655
  let v2504 : Index := Scalar.indexCast v2477
  let c0_1674 : Index := 0#32
  let c0_1675 : Index := 0#32
  ![v2504.toNat, 0, 0]
def k0_off53_at (r : Fin 48) : BitVec 32 :=
  if r.val < 24 then
    if r.val < 12 then
      if r.val < 6 then
        if r.val < 3 then
          if r.val < 1 then
            15#32
          else
            if r.val < 2 then
              31#32
            else
              14#32
        else
          if r.val < 4 then
            30#32
          else
            if r.val < 5 then
              13#32
            else
              29#32
      else
        if r.val < 9 then
          if r.val < 7 then
            12#32
          else
            if r.val < 8 then
              28#32
            else
              11#32
        else
          if r.val < 10 then
            27#32
          else
            if r.val < 11 then
              10#32
            else
              26#32
    else
      if r.val < 18 then
        if r.val < 15 then
          if r.val < 13 then
            9#32
          else
            if r.val < 14 then
              25#32
            else
              8#32
        else
          if r.val < 16 then
            24#32
          else
            if r.val < 17 then
              7#32
            else
              23#32
      else
        if r.val < 21 then
          if r.val < 19 then
            6#32
          else
            if r.val < 20 then
              22#32
            else
              5#32
        else
          if r.val < 22 then
            21#32
          else
            if r.val < 23 then
              4#32
            else
              20#32
  else
    if r.val < 36 then
      if r.val < 30 then
        if r.val < 27 then
          if r.val < 25 then
            3#32
          else
            if r.val < 26 then
              19#32
            else
              2#32
        else
          if r.val < 28 then
            18#32
          else
            if r.val < 29 then
              1#32
            else
              17#32
      else
        if r.val < 33 then
          if r.val < 31 then
            0#32
          else
            if r.val < 32 then
              16#32
            else
              4294967295#32
        else
          if r.val < 34 then
            4294967294#32
          else
            if r.val < 35 then
              4294967293#32
            else
              4294967292#32
    else
      if r.val < 42 then
        if r.val < 39 then
          if r.val < 37 then
            4294967291#32
          else
            if r.val < 38 then
              4294967290#32
            else
              4294967289#32
        else
          if r.val < 40 then
            4294967288#32
          else
            if r.val < 41 then
              4294967287#32
            else
              4294967286#32
      else
        if r.val < 45 then
          if r.val < 43 then
            4294967285#32
          else
            if r.val < 44 then
              4294967284#32
            else
              4294967283#32
        else
          if r.val < 46 then
            4294967282#32
          else
            if r.val < 47 then
              4294967281#32
            else
              4294967280#32
def k0_mult4 (i : grid0.Coords) (k0_t3 : Fin (k0_t3_loop i).trips) : BitVec 32 :=
  let c0_i32_11 : BitVec 32 := 0#32
  let arg1 : BitVec 32 := BitVec.ofNat 32 (i 1).val
  let v17 : BitVec 32 := Scalar.subi arg1 c0_i32_11
  let c1_i32 : BitVec 32 := 1#32
  let v19 : BitVec 32 := Scalar.divsi v17 c1_i32
  let v20 : BitVec 32 := Scalar.muli v19 c1_i32
  let v21 : BitVec 32 := Scalar.addi c0_i32_11 v20
  let c1_i32_13 : BitVec 32 := 1#32
  let arg21 : BitVec 32 := Scf.iv v21 c1_i32_13 k0_t3
  let c256_i32_2534 : BitVec 32 := 256#32
  let v3883 : BitVec 32 := Scalar.muli arg21 c256_i32_2534
  v3883
def k0_off54 (i : grid0.Coords) (k0_t3 : Fin (k0_t3_loop i).trips) : Fin 4 → Nat :=
  let c0_2551 : Index := 0#32
  let c0_2552 : Index := 0#32
  let c0_2553 : Index := 0#32
  let c0_i32_11 : BitVec 32 := 0#32
  let arg1 : BitVec 32 := BitVec.ofNat 32 (i 1).val
  let v17 : BitVec 32 := Scalar.subi arg1 c0_i32_11
  let c1_i32 : BitVec 32 := 1#32
  let v19 : BitVec 32 := Scalar.divsi v17 c1_i32
  let v20 : BitVec 32 := Scalar.muli v19 c1_i32
  let v21 : BitVec 32 := Scalar.addi c0_i32_11 v20
  let c1_i32_13 : BitVec 32 := 1#32
  let arg21 : BitVec 32 := Scf.iv v21 c1_i32_13 k0_t3
  let c256_i32_2534 : BitVec 32 := 256#32
  let v3883 : BitVec 32 := Scalar.muli arg21 c256_i32_2534
  let v3884 : BitVec 32 := v3883
  let v3912 : Index := Scalar.indexCast v3884
  ![0, 0, 0, v3912.toNat]
def k0_off55 (i : grid0.Coords) (k0_t3 : Fin (k0_t3_loop i).trips) : Fin 4 → Nat :=
  let c0_2577 : Index := 0#32
  let c1_2578 : Index := 1#32
  let c0_2579 : Index := 0#32
  let c0_i32_11 : BitVec 32 := 0#32
  let arg1 : BitVec 32 := BitVec.ofNat 32 (i 1).val
  let v17 : BitVec 32 := Scalar.subi arg1 c0_i32_11
  let c1_i32 : BitVec 32 := 1#32
  let v19 : BitVec 32 := Scalar.divsi v17 c1_i32
  let v20 : BitVec 32 := Scalar.muli v19 c1_i32
  let v21 : BitVec 32 := Scalar.addi c0_i32_11 v20
  let c1_i32_13 : BitVec 32 := 1#32
  let arg21 : BitVec 32 := Scf.iv v21 c1_i32_13 k0_t3
  let c256_i32_2534 : BitVec 32 := 256#32
  let v3883 : BitVec 32 := Scalar.muli arg21 c256_i32_2534
  let v3884 : BitVec 32 := v3883
  let v3951 : Index := Scalar.indexCast v3884
  ![0, 1, 0, v3951.toNat]
def k0_off56 (i : grid0.Coords) (k0_t3 : Fin (k0_t3_loop i).trips) : Fin 4 → Nat :=
  let c0_2603 : Index := 0#32
  let c2_2604 : Index := 2#32
  let c0_2605 : Index := 0#32
  let c0_i32_11 : BitVec 32 := 0#32
  let arg1 : BitVec 32 := BitVec.ofNat 32 (i 1).val
  let v17 : BitVec 32 := Scalar.subi arg1 c0_i32_11
  let c1_i32 : BitVec 32 := 1#32
  let v19 : BitVec 32 := Scalar.divsi v17 c1_i32
  let v20 : BitVec 32 := Scalar.muli v19 c1_i32
  let v21 : BitVec 32 := Scalar.addi c0_i32_11 v20
  let c1_i32_13 : BitVec 32 := 1#32
  let arg21 : BitVec 32 := Scf.iv v21 c1_i32_13 k0_t3
  let c256_i32_2534 : BitVec 32 := 256#32
  let v3883 : BitVec 32 := Scalar.muli arg21 c256_i32_2534
  let v3884 : BitVec 32 := v3883
  let v3990 : Index := Scalar.indexCast v3884
  ![0, 2, 0, v3990.toNat]
def k0_off57 (i : grid0.Coords) (k0_t3 : Fin (k0_t3_loop i).trips) : Fin 4 → Nat :=
  let c0_2629 : Index := 0#32
  let c3_2630 : Index := 3#32
  let c0_2631 : Index := 0#32
  let c0_i32_11 : BitVec 32 := 0#32
  let arg1 : BitVec 32 := BitVec.ofNat 32 (i 1).val
  let v17 : BitVec 32 := Scalar.subi arg1 c0_i32_11
  let c1_i32 : BitVec 32 := 1#32
  let v19 : BitVec 32 := Scalar.divsi v17 c1_i32
  let v20 : BitVec 32 := Scalar.muli v19 c1_i32
  let v21 : BitVec 32 := Scalar.addi c0_i32_11 v20
  let c1_i32_13 : BitVec 32 := 1#32
  let arg21 : BitVec 32 := Scf.iv v21 c1_i32_13 k0_t3
  let c256_i32_2534 : BitVec 32 := 256#32
  let v3883 : BitVec 32 := Scalar.muli arg21 c256_i32_2534
  let v3884 : BitVec 32 := v3883
  let v4029 : Index := Scalar.indexCast v3884
  ![0, 3, 0, v4029.toNat]
def k0_off58 (i : grid0.Coords) (k0_t3 : Fin (k0_t3_loop i).trips) : Fin 4 → Nat :=
  let c0_2655 : Index := 0#32
  let c4_2656 : Index := 4#32
  let c0_2657 : Index := 0#32
  let c0_i32_11 : BitVec 32 := 0#32
  let arg1 : BitVec 32 := BitVec.ofNat 32 (i 1).val
  let v17 : BitVec 32 := Scalar.subi arg1 c0_i32_11
  let c1_i32 : BitVec 32 := 1#32
  let v19 : BitVec 32 := Scalar.divsi v17 c1_i32
  let v20 : BitVec 32 := Scalar.muli v19 c1_i32
  let v21 : BitVec 32 := Scalar.addi c0_i32_11 v20
  let c1_i32_13 : BitVec 32 := 1#32
  let arg21 : BitVec 32 := Scf.iv v21 c1_i32_13 k0_t3
  let c256_i32_2534 : BitVec 32 := 256#32
  let v3883 : BitVec 32 := Scalar.muli arg21 c256_i32_2534
  let v3884 : BitVec 32 := v3883
  let v4068 : Index := Scalar.indexCast v3884
  ![0, 4, 0, v4068.toNat]
def k0_off59 (i : grid0.Coords) (k0_t3 : Fin (k0_t3_loop i).trips) : Fin 4 → Nat :=
  let c0_2681 : Index := 0#32
  let c5_2682 : Index := 5#32
  let c0_2683 : Index := 0#32
  let c0_i32_11 : BitVec 32 := 0#32
  let arg1 : BitVec 32 := BitVec.ofNat 32 (i 1).val
  let v17 : BitVec 32 := Scalar.subi arg1 c0_i32_11
  let c1_i32 : BitVec 32 := 1#32
  let v19 : BitVec 32 := Scalar.divsi v17 c1_i32
  let v20 : BitVec 32 := Scalar.muli v19 c1_i32
  let v21 : BitVec 32 := Scalar.addi c0_i32_11 v20
  let c1_i32_13 : BitVec 32 := 1#32
  let arg21 : BitVec 32 := Scf.iv v21 c1_i32_13 k0_t3
  let c256_i32_2534 : BitVec 32 := 256#32
  let v3883 : BitVec 32 := Scalar.muli arg21 c256_i32_2534
  let v3884 : BitVec 32 := v3883
  let v4107 : Index := Scalar.indexCast v3884
  ![0, 5, 0, v4107.toNat]
def k0_off60 (i : grid0.Coords) (k0_t3 : Fin (k0_t3_loop i).trips) : Fin 4 → Nat :=
  let c0_2707 : Index := 0#32
  let c6_2708 : Index := 6#32
  let c0_2709 : Index := 0#32
  let c0_i32_11 : BitVec 32 := 0#32
  let arg1 : BitVec 32 := BitVec.ofNat 32 (i 1).val
  let v17 : BitVec 32 := Scalar.subi arg1 c0_i32_11
  let c1_i32 : BitVec 32 := 1#32
  let v19 : BitVec 32 := Scalar.divsi v17 c1_i32
  let v20 : BitVec 32 := Scalar.muli v19 c1_i32
  let v21 : BitVec 32 := Scalar.addi c0_i32_11 v20
  let c1_i32_13 : BitVec 32 := 1#32
  let arg21 : BitVec 32 := Scf.iv v21 c1_i32_13 k0_t3
  let c256_i32_2534 : BitVec 32 := 256#32
  let v3883 : BitVec 32 := Scalar.muli arg21 c256_i32_2534
  let v3884 : BitVec 32 := v3883
  let v4146 : Index := Scalar.indexCast v3884
  ![0, 6, 0, v4146.toNat]
def k0_off61 (i : grid0.Coords) (k0_t3 : Fin (k0_t3_loop i).trips) : Fin 4 → Nat :=
  let c0_2733 : Index := 0#32
  let c7_2734 : Index := 7#32
  let c0_2735 : Index := 0#32
  let c0_i32_11 : BitVec 32 := 0#32
  let arg1 : BitVec 32 := BitVec.ofNat 32 (i 1).val
  let v17 : BitVec 32 := Scalar.subi arg1 c0_i32_11
  let c1_i32 : BitVec 32 := 1#32
  let v19 : BitVec 32 := Scalar.divsi v17 c1_i32
  let v20 : BitVec 32 := Scalar.muli v19 c1_i32
  let v21 : BitVec 32 := Scalar.addi c0_i32_11 v20
  let c1_i32_13 : BitVec 32 := 1#32
  let arg21 : BitVec 32 := Scf.iv v21 c1_i32_13 k0_t3
  let c256_i32_2534 : BitVec 32 := 256#32
  let v3883 : BitVec 32 := Scalar.muli arg21 c256_i32_2534
  let v3884 : BitVec 32 := v3883
  let v4185 : Index := Scalar.indexCast v3884
  ![0, 7, 0, v4185.toNat]
def k0_off62 (i : grid0.Coords) (k0_t3 : Fin (k0_t3_loop i).trips) : Fin 4 → Nat :=
  let c0_2759 : Index := 0#32
  let c8_2760 : Index := 8#32
  let c0_2761 : Index := 0#32
  let c0_i32_11 : BitVec 32 := 0#32
  let arg1 : BitVec 32 := BitVec.ofNat 32 (i 1).val
  let v17 : BitVec 32 := Scalar.subi arg1 c0_i32_11
  let c1_i32 : BitVec 32 := 1#32
  let v19 : BitVec 32 := Scalar.divsi v17 c1_i32
  let v20 : BitVec 32 := Scalar.muli v19 c1_i32
  let v21 : BitVec 32 := Scalar.addi c0_i32_11 v20
  let c1_i32_13 : BitVec 32 := 1#32
  let arg21 : BitVec 32 := Scf.iv v21 c1_i32_13 k0_t3
  let c256_i32_2534 : BitVec 32 := 256#32
  let v3883 : BitVec 32 := Scalar.muli arg21 c256_i32_2534
  let v3884 : BitVec 32 := v3883
  let v4224 : Index := Scalar.indexCast v3884
  ![0, 8, 0, v4224.toNat]
def k0_off63 (i : grid0.Coords) (k0_t3 : Fin (k0_t3_loop i).trips) : Fin 4 → Nat :=
  let c0_2785 : Index := 0#32
  let c9_2786 : Index := 9#32
  let c0_2787 : Index := 0#32
  let c0_i32_11 : BitVec 32 := 0#32
  let arg1 : BitVec 32 := BitVec.ofNat 32 (i 1).val
  let v17 : BitVec 32 := Scalar.subi arg1 c0_i32_11
  let c1_i32 : BitVec 32 := 1#32
  let v19 : BitVec 32 := Scalar.divsi v17 c1_i32
  let v20 : BitVec 32 := Scalar.muli v19 c1_i32
  let v21 : BitVec 32 := Scalar.addi c0_i32_11 v20
  let c1_i32_13 : BitVec 32 := 1#32
  let arg21 : BitVec 32 := Scf.iv v21 c1_i32_13 k0_t3
  let c256_i32_2534 : BitVec 32 := 256#32
  let v3883 : BitVec 32 := Scalar.muli arg21 c256_i32_2534
  let v3884 : BitVec 32 := v3883
  let v4263 : Index := Scalar.indexCast v3884
  ![0, 9, 0, v4263.toNat]
def k0_off64 (i : grid0.Coords) (k0_t3 : Fin (k0_t3_loop i).trips) : Fin 4 → Nat :=
  let c0_2811 : Index := 0#32
  let c10_2812 : Index := 10#32
  let c0_2813 : Index := 0#32
  let c0_i32_11 : BitVec 32 := 0#32
  let arg1 : BitVec 32 := BitVec.ofNat 32 (i 1).val
  let v17 : BitVec 32 := Scalar.subi arg1 c0_i32_11
  let c1_i32 : BitVec 32 := 1#32
  let v19 : BitVec 32 := Scalar.divsi v17 c1_i32
  let v20 : BitVec 32 := Scalar.muli v19 c1_i32
  let v21 : BitVec 32 := Scalar.addi c0_i32_11 v20
  let c1_i32_13 : BitVec 32 := 1#32
  let arg21 : BitVec 32 := Scf.iv v21 c1_i32_13 k0_t3
  let c256_i32_2534 : BitVec 32 := 256#32
  let v3883 : BitVec 32 := Scalar.muli arg21 c256_i32_2534
  let v3884 : BitVec 32 := v3883
  let v4302 : Index := Scalar.indexCast v3884
  ![0, 10, 0, v4302.toNat]
def k0_off65 (i : grid0.Coords) (k0_t3 : Fin (k0_t3_loop i).trips) : Fin 4 → Nat :=
  let c0_2837 : Index := 0#32
  let c11_2838 : Index := 11#32
  let c0_2839 : Index := 0#32
  let c0_i32_11 : BitVec 32 := 0#32
  let arg1 : BitVec 32 := BitVec.ofNat 32 (i 1).val
  let v17 : BitVec 32 := Scalar.subi arg1 c0_i32_11
  let c1_i32 : BitVec 32 := 1#32
  let v19 : BitVec 32 := Scalar.divsi v17 c1_i32
  let v20 : BitVec 32 := Scalar.muli v19 c1_i32
  let v21 : BitVec 32 := Scalar.addi c0_i32_11 v20
  let c1_i32_13 : BitVec 32 := 1#32
  let arg21 : BitVec 32 := Scf.iv v21 c1_i32_13 k0_t3
  let c256_i32_2534 : BitVec 32 := 256#32
  let v3883 : BitVec 32 := Scalar.muli arg21 c256_i32_2534
  let v3884 : BitVec 32 := v3883
  let v4341 : Index := Scalar.indexCast v3884
  ![0, 11, 0, v4341.toNat]
def k0_off66 (i : grid0.Coords) (k0_t3 : Fin (k0_t3_loop i).trips) : Fin 4 → Nat :=
  let c0_2863 : Index := 0#32
  let c12_2864 : Index := 12#32
  let c0_2865 : Index := 0#32
  let c0_i32_11 : BitVec 32 := 0#32
  let arg1 : BitVec 32 := BitVec.ofNat 32 (i 1).val
  let v17 : BitVec 32 := Scalar.subi arg1 c0_i32_11
  let c1_i32 : BitVec 32 := 1#32
  let v19 : BitVec 32 := Scalar.divsi v17 c1_i32
  let v20 : BitVec 32 := Scalar.muli v19 c1_i32
  let v21 : BitVec 32 := Scalar.addi c0_i32_11 v20
  let c1_i32_13 : BitVec 32 := 1#32
  let arg21 : BitVec 32 := Scf.iv v21 c1_i32_13 k0_t3
  let c256_i32_2534 : BitVec 32 := 256#32
  let v3883 : BitVec 32 := Scalar.muli arg21 c256_i32_2534
  let v3884 : BitVec 32 := v3883
  let v4380 : Index := Scalar.indexCast v3884
  ![0, 12, 0, v4380.toNat]
def k0_off67 (i : grid0.Coords) (k0_t3 : Fin (k0_t3_loop i).trips) : Fin 4 → Nat :=
  let c0_2889 : Index := 0#32
  let c13_2890 : Index := 13#32
  let c0_2891 : Index := 0#32
  let c0_i32_11 : BitVec 32 := 0#32
  let arg1 : BitVec 32 := BitVec.ofNat 32 (i 1).val
  let v17 : BitVec 32 := Scalar.subi arg1 c0_i32_11
  let c1_i32 : BitVec 32 := 1#32
  let v19 : BitVec 32 := Scalar.divsi v17 c1_i32
  let v20 : BitVec 32 := Scalar.muli v19 c1_i32
  let v21 : BitVec 32 := Scalar.addi c0_i32_11 v20
  let c1_i32_13 : BitVec 32 := 1#32
  let arg21 : BitVec 32 := Scf.iv v21 c1_i32_13 k0_t3
  let c256_i32_2534 : BitVec 32 := 256#32
  let v3883 : BitVec 32 := Scalar.muli arg21 c256_i32_2534
  let v3884 : BitVec 32 := v3883
  let v4419 : Index := Scalar.indexCast v3884
  ![0, 13, 0, v4419.toNat]
def k0_off68 (i : grid0.Coords) (k0_t3 : Fin (k0_t3_loop i).trips) : Fin 4 → Nat :=
  let c0_2915 : Index := 0#32
  let c14_2916 : Index := 14#32
  let c0_2917 : Index := 0#32
  let c0_i32_11 : BitVec 32 := 0#32
  let arg1 : BitVec 32 := BitVec.ofNat 32 (i 1).val
  let v17 : BitVec 32 := Scalar.subi arg1 c0_i32_11
  let c1_i32 : BitVec 32 := 1#32
  let v19 : BitVec 32 := Scalar.divsi v17 c1_i32
  let v20 : BitVec 32 := Scalar.muli v19 c1_i32
  let v21 : BitVec 32 := Scalar.addi c0_i32_11 v20
  let c1_i32_13 : BitVec 32 := 1#32
  let arg21 : BitVec 32 := Scf.iv v21 c1_i32_13 k0_t3
  let c256_i32_2534 : BitVec 32 := 256#32
  let v3883 : BitVec 32 := Scalar.muli arg21 c256_i32_2534
  let v3884 : BitVec 32 := v3883
  let v4458 : Index := Scalar.indexCast v3884
  ![0, 14, 0, v4458.toNat]
def k0_mult5 (i : grid0.Coords) : BitVec 32 :=
  let arg1 : BitVec 32 := BitVec.ofNat 32 (i 1).val
  let c256_i32 : BitVec 32 := 256#32
  let v22 : BitVec 32 := Scalar.muli arg1 c256_i32
  v22
def k0_off69 (i : grid0.Coords) : Fin 3 → Nat :=
  let c0_14 : Index := 0#32
  let arg1 : BitVec 32 := BitVec.ofNat 32 (i 1).val
  let c256_i32 : BitVec 32 := 256#32
  let v22 : BitVec 32 := Scalar.muli arg1 c256_i32
  let v23 : BitVec 32 := v22
  let v24 : Index := Scalar.indexCast v23
  let c0_15 : Index := 0#32
  ![0, v24.toNat, 0]
def k0_off70 (i : grid0.Coords) : Fin 3 → Nat :=
  let c0_17 : Index := 0#32
  let arg1 : BitVec 32 := BitVec.ofNat 32 (i 1).val
  let c256_i32 : BitVec 32 := 256#32
  let v22 : BitVec 32 := Scalar.muli arg1 c256_i32
  let v23 : BitVec 32 := v22
  let v29 : Index := Scalar.indexCast v23
  let c0_18 : Index := 0#32
  ![0, v29.toNat, 0]
def k0_off71 (i : grid0.Coords) : Fin 3 → Nat :=
  let c0_30 : Index := 0#32
  let arg1 : BitVec 32 := BitVec.ofNat 32 (i 1).val
  let c256_i32 : BitVec 32 := 256#32
  let v22 : BitVec 32 := Scalar.muli arg1 c256_i32
  let v23 : BitVec 32 := v22
  let v46 : Index := Scalar.indexCast v23
  let c128 : Index := 128#32
  ![0, v46.toNat, 128]
def k0_off72 (i : grid0.Coords) : Fin 3 → Nat :=
  let c0_41 : Index := 0#32
  let arg1 : BitVec 32 := BitVec.ofNat 32 (i 1).val
  let c256_i32 : BitVec 32 := 256#32
  let v22 : BitVec 32 := Scalar.muli arg1 c256_i32
  let v23 : BitVec 32 := v22
  let v63 : Index := Scalar.indexCast v23
  let c256 : Index := 256#32
  ![0, v63.toNat, 256]
def k0_off73 (i : grid0.Coords) : Fin 3 → Nat :=
  let c0_52 : Index := 0#32
  let arg1 : BitVec 32 := BitVec.ofNat 32 (i 1).val
  let c256_i32 : BitVec 32 := 256#32
  let v22 : BitVec 32 := Scalar.muli arg1 c256_i32
  let v23 : BitVec 32 := v22
  let v80 : Index := Scalar.indexCast v23
  let c384 : Index := 384#32
  ![0, v80.toNat, 384]
def k0_off74 (i : grid0.Coords) : Fin 3 → Nat :=
  let c0_63 : Index := 0#32
  let arg1 : BitVec 32 := BitVec.ofNat 32 (i 1).val
  let c256_i32 : BitVec 32 := 256#32
  let v22 : BitVec 32 := Scalar.muli arg1 c256_i32
  let v23 : BitVec 32 := v22
  let v97 : Index := Scalar.indexCast v23
  let c512 : Index := 512#32
  ![0, v97.toNat, 512]
def k0_off75 (i : grid0.Coords) : Fin 3 → Nat :=
  let c0_74 : Index := 0#32
  let arg1 : BitVec 32 := BitVec.ofNat 32 (i 1).val
  let c256_i32 : BitVec 32 := 256#32
  let v22 : BitVec 32 := Scalar.muli arg1 c256_i32
  let v23 : BitVec 32 := v22
  let v114 : Index := Scalar.indexCast v23
  let c640 : Index := 640#32
  ![0, v114.toNat, 640]
def k0_off76 (i : grid0.Coords) : Fin 3 → Nat :=
  let c0_85 : Index := 0#32
  let arg1 : BitVec 32 := BitVec.ofNat 32 (i 1).val
  let c256_i32 : BitVec 32 := 256#32
  let v22 : BitVec 32 := Scalar.muli arg1 c256_i32
  let v23 : BitVec 32 := v22
  let v131 : Index := Scalar.indexCast v23
  let c768 : Index := 768#32
  ![0, v131.toNat, 768]
def k0_off77 (i : grid0.Coords) : Fin 3 → Nat :=
  let c0_96 : Index := 0#32
  let arg1 : BitVec 32 := BitVec.ofNat 32 (i 1).val
  let c256_i32 : BitVec 32 := 256#32
  let v22 : BitVec 32 := Scalar.muli arg1 c256_i32
  let v23 : BitVec 32 := v22
  let v148 : Index := Scalar.indexCast v23
  let c896 : Index := 896#32
  ![0, v148.toNat, 896]
def k0_off78 (i : grid0.Coords) : Fin 3 → Nat :=
  let c0_107 : Index := 0#32
  let arg1 : BitVec 32 := BitVec.ofNat 32 (i 1).val
  let c256_i32 : BitVec 32 := 256#32
  let v22 : BitVec 32 := Scalar.muli arg1 c256_i32
  let v23 : BitVec 32 := v22
  let v165 : Index := Scalar.indexCast v23
  let c1024 : Index := 1024#32
  ![0, v165.toNat, 1024]
def k0_off79 (i : grid0.Coords) : Fin 3 → Nat :=
  let c0_118 : Index := 0#32
  let arg1 : BitVec 32 := BitVec.ofNat 32 (i 1).val
  let c256_i32 : BitVec 32 := 256#32
  let v22 : BitVec 32 := Scalar.muli arg1 c256_i32
  let v23 : BitVec 32 := v22
  let v182 : Index := Scalar.indexCast v23
  let c1152 : Index := 1152#32
  ![0, v182.toNat, 1152]
def k0_off80 (i : grid0.Coords) : Fin 3 → Nat :=
  let c0_129 : Index := 0#32
  let arg1 : BitVec 32 := BitVec.ofNat 32 (i 1).val
  let c256_i32 : BitVec 32 := 256#32
  let v22 : BitVec 32 := Scalar.muli arg1 c256_i32
  let v23 : BitVec 32 := v22
  let v199 : Index := Scalar.indexCast v23
  let c1280 : Index := 1280#32
  ![0, v199.toNat, 1280]
def k0_off81 (i : grid0.Coords) : Fin 3 → Nat :=
  let c0_140 : Index := 0#32
  let arg1 : BitVec 32 := BitVec.ofNat 32 (i 1).val
  let c256_i32 : BitVec 32 := 256#32
  let v22 : BitVec 32 := Scalar.muli arg1 c256_i32
  let v23 : BitVec 32 := v22
  let v216 : Index := Scalar.indexCast v23
  let c1408 : Index := 1408#32
  ![0, v216.toNat, 1408]
def k0_off82 (i : grid0.Coords) : Fin 3 → Nat :=
  let c0_151 : Index := 0#32
  let arg1 : BitVec 32 := BitVec.ofNat 32 (i 1).val
  let c256_i32 : BitVec 32 := 256#32
  let v22 : BitVec 32 := Scalar.muli arg1 c256_i32
  let v23 : BitVec 32 := v22
  let v233 : Index := Scalar.indexCast v23
  let c1536 : Index := 1536#32
  ![0, v233.toNat, 1536]
def k0_off83 (i : grid0.Coords) : Fin 3 → Nat :=
  let c0_162 : Index := 0#32
  let arg1 : BitVec 32 := BitVec.ofNat 32 (i 1).val
  let c256_i32 : BitVec 32 := 256#32
  let v22 : BitVec 32 := Scalar.muli arg1 c256_i32
  let v23 : BitVec 32 := v22
  let v250 : Index := Scalar.indexCast v23
  let c1664 : Index := 1664#32
  ![0, v250.toNat, 1664]
def k0_off84 (i : grid0.Coords) : Fin 3 → Nat :=
  let c0_173 : Index := 0#32
  let arg1 : BitVec 32 := BitVec.ofNat 32 (i 1).val
  let c256_i32 : BitVec 32 := 256#32
  let v22 : BitVec 32 := Scalar.muli arg1 c256_i32
  let v23 : BitVec 32 := v22
  let v267 : Index := Scalar.indexCast v23
  let c1792 : Index := 1792#32
  ![0, v267.toNat, 1792]
def k0_off85 (i : grid0.Coords) (c15_i32 : BitVec 32) : Fin 3 → Nat :=
  let arg1 : BitVec 32 := BitVec.ofNat 32 (i 1).val
  let v284 : BitVec 32 := Scalar.subi arg1 arg1
  let c32_i32 : BitVec 32 := 32#32
  let v285 : BitVec 32 := Scalar.muli v284 c32_i32
  let v286 : BitVec 32 := Scalar.addi v285 c15_i32
  let v293 : Index := Scalar.indexCast v286
  let c0_189 : Index := 0#32
  let c0_190 : Index := 0#32
  ![v293.toNat, 0, 0]
def k0_off86 (i : grid0.Coords) (c15_i32 : BitVec 32) : Fin 3 → Nat :=
  let arg1 : BitVec 32 := BitVec.ofNat 32 (i 1).val
  let v284 : BitVec 32 := Scalar.subi arg1 arg1
  let c32_i32 : BitVec 32 := 32#32
  let v285 : BitVec 32 := Scalar.muli v284 c32_i32
  let v286 : BitVec 32 := Scalar.addi v285 c15_i32
  let v313 : Index := Scalar.indexCast v286
  let c0_201 : Index := 0#32
  let c0_202 : Index := 0#32
  ![v313.toNat, 0, 0]
def k0_mult6 (i : grid0.Coords) : BitVec 32 :=
  let arg1 : BitVec 32 := BitVec.ofNat 32 (i 1).val
  let c256_i32_944 : BitVec 32 := 256#32
  let v1476 : BitVec 32 := Scalar.muli arg1 c256_i32_944
  v1476
def k0_off87 (i : grid0.Coords) : Fin 4 → Nat :=
  let c0_961 : Index := 0#32
  let c0_962 : Index := 0#32
  let c0_963 : Index := 0#32
  let arg1 : BitVec 32 := BitVec.ofNat 32 (i 1).val
  let c256_i32_944 : BitVec 32 := 256#32
  let v1476 : BitVec 32 := Scalar.muli arg1 c256_i32_944
  let v1477 : BitVec 32 := v1476
  let v1505 : Index := Scalar.indexCast v1477
  ![0, 0, 0, v1505.toNat]
def k0_off88 (i : grid0.Coords) : Fin 4 → Nat :=
  let c0_987 : Index := 0#32
  let c1_988 : Index := 1#32
  let c0_989 : Index := 0#32
  let arg1 : BitVec 32 := BitVec.ofNat 32 (i 1).val
  let c256_i32_944 : BitVec 32 := 256#32
  let v1476 : BitVec 32 := Scalar.muli arg1 c256_i32_944
  let v1477 : BitVec 32 := v1476
  let v1544 : Index := Scalar.indexCast v1477
  ![0, 1, 0, v1544.toNat]
def k0_off89 (i : grid0.Coords) : Fin 4 → Nat :=
  let c0_1013 : Index := 0#32
  let c2_1014 : Index := 2#32
  let c0_1015 : Index := 0#32
  let arg1 : BitVec 32 := BitVec.ofNat 32 (i 1).val
  let c256_i32_944 : BitVec 32 := 256#32
  let v1476 : BitVec 32 := Scalar.muli arg1 c256_i32_944
  let v1477 : BitVec 32 := v1476
  let v1583 : Index := Scalar.indexCast v1477
  ![0, 2, 0, v1583.toNat]
def k0_off90 (i : grid0.Coords) : Fin 4 → Nat :=
  let c0_1039 : Index := 0#32
  let c3_1040 : Index := 3#32
  let c0_1041 : Index := 0#32
  let arg1 : BitVec 32 := BitVec.ofNat 32 (i 1).val
  let c256_i32_944 : BitVec 32 := 256#32
  let v1476 : BitVec 32 := Scalar.muli arg1 c256_i32_944
  let v1477 : BitVec 32 := v1476
  let v1622 : Index := Scalar.indexCast v1477
  ![0, 3, 0, v1622.toNat]
def k0_off91 (i : grid0.Coords) : Fin 4 → Nat :=
  let c0_1065 : Index := 0#32
  let c4_1066 : Index := 4#32
  let c0_1067 : Index := 0#32
  let arg1 : BitVec 32 := BitVec.ofNat 32 (i 1).val
  let c256_i32_944 : BitVec 32 := 256#32
  let v1476 : BitVec 32 := Scalar.muli arg1 c256_i32_944
  let v1477 : BitVec 32 := v1476
  let v1661 : Index := Scalar.indexCast v1477
  ![0, 4, 0, v1661.toNat]
def k0_off92 (i : grid0.Coords) : Fin 4 → Nat :=
  let c0_1091 : Index := 0#32
  let c5_1092 : Index := 5#32
  let c0_1093 : Index := 0#32
  let arg1 : BitVec 32 := BitVec.ofNat 32 (i 1).val
  let c256_i32_944 : BitVec 32 := 256#32
  let v1476 : BitVec 32 := Scalar.muli arg1 c256_i32_944
  let v1477 : BitVec 32 := v1476
  let v1700 : Index := Scalar.indexCast v1477
  ![0, 5, 0, v1700.toNat]
def k0_off93 (i : grid0.Coords) : Fin 4 → Nat :=
  let c0_1117 : Index := 0#32
  let c6_1118 : Index := 6#32
  let c0_1119 : Index := 0#32
  let arg1 : BitVec 32 := BitVec.ofNat 32 (i 1).val
  let c256_i32_944 : BitVec 32 := 256#32
  let v1476 : BitVec 32 := Scalar.muli arg1 c256_i32_944
  let v1477 : BitVec 32 := v1476
  let v1739 : Index := Scalar.indexCast v1477
  ![0, 6, 0, v1739.toNat]
def k0_off94 (i : grid0.Coords) : Fin 4 → Nat :=
  let c0_1143 : Index := 0#32
  let c7_1144 : Index := 7#32
  let c0_1145 : Index := 0#32
  let arg1 : BitVec 32 := BitVec.ofNat 32 (i 1).val
  let c256_i32_944 : BitVec 32 := 256#32
  let v1476 : BitVec 32 := Scalar.muli arg1 c256_i32_944
  let v1477 : BitVec 32 := v1476
  let v1778 : Index := Scalar.indexCast v1477
  ![0, 7, 0, v1778.toNat]
def k0_off95 (i : grid0.Coords) : Fin 4 → Nat :=
  let c0_1169 : Index := 0#32
  let c8_1170 : Index := 8#32
  let c0_1171 : Index := 0#32
  let arg1 : BitVec 32 := BitVec.ofNat 32 (i 1).val
  let c256_i32_944 : BitVec 32 := 256#32
  let v1476 : BitVec 32 := Scalar.muli arg1 c256_i32_944
  let v1477 : BitVec 32 := v1476
  let v1817 : Index := Scalar.indexCast v1477
  ![0, 8, 0, v1817.toNat]
def k0_off96 (i : grid0.Coords) : Fin 4 → Nat :=
  let c0_1195 : Index := 0#32
  let c9_1196 : Index := 9#32
  let c0_1197 : Index := 0#32
  let arg1 : BitVec 32 := BitVec.ofNat 32 (i 1).val
  let c256_i32_944 : BitVec 32 := 256#32
  let v1476 : BitVec 32 := Scalar.muli arg1 c256_i32_944
  let v1477 : BitVec 32 := v1476
  let v1856 : Index := Scalar.indexCast v1477
  ![0, 9, 0, v1856.toNat]
def k0_off97 (i : grid0.Coords) : Fin 4 → Nat :=
  let c0_1221 : Index := 0#32
  let c10_1222 : Index := 10#32
  let c0_1223 : Index := 0#32
  let arg1 : BitVec 32 := BitVec.ofNat 32 (i 1).val
  let c256_i32_944 : BitVec 32 := 256#32
  let v1476 : BitVec 32 := Scalar.muli arg1 c256_i32_944
  let v1477 : BitVec 32 := v1476
  let v1895 : Index := Scalar.indexCast v1477
  ![0, 10, 0, v1895.toNat]
def k0_off98 (i : grid0.Coords) : Fin 4 → Nat :=
  let c0_1247 : Index := 0#32
  let c11_1248 : Index := 11#32
  let c0_1249 : Index := 0#32
  let arg1 : BitVec 32 := BitVec.ofNat 32 (i 1).val
  let c256_i32_944 : BitVec 32 := 256#32
  let v1476 : BitVec 32 := Scalar.muli arg1 c256_i32_944
  let v1477 : BitVec 32 := v1476
  let v1934 : Index := Scalar.indexCast v1477
  ![0, 11, 0, v1934.toNat]
def k0_off99 (i : grid0.Coords) : Fin 4 → Nat :=
  let c0_1273 : Index := 0#32
  let c12_1274 : Index := 12#32
  let c0_1275 : Index := 0#32
  let arg1 : BitVec 32 := BitVec.ofNat 32 (i 1).val
  let c256_i32_944 : BitVec 32 := 256#32
  let v1476 : BitVec 32 := Scalar.muli arg1 c256_i32_944
  let v1477 : BitVec 32 := v1476
  let v1973 : Index := Scalar.indexCast v1477
  ![0, 12, 0, v1973.toNat]
def k0_off100 (i : grid0.Coords) : Fin 4 → Nat :=
  let c0_1299 : Index := 0#32
  let c13_1300 : Index := 13#32
  let c0_1301 : Index := 0#32
  let arg1 : BitVec 32 := BitVec.ofNat 32 (i 1).val
  let c256_i32_944 : BitVec 32 := 256#32
  let v1476 : BitVec 32 := Scalar.muli arg1 c256_i32_944
  let v1477 : BitVec 32 := v1476
  let v2012 : Index := Scalar.indexCast v1477
  ![0, 13, 0, v2012.toNat]
def k0_off101 (i : grid0.Coords) : Fin 4 → Nat :=
  let c0_1325 : Index := 0#32
  let c14_1326 : Index := 14#32
  let c0_1327 : Index := 0#32
  let arg1 : BitVec 32 := BitVec.ofNat 32 (i 1).val
  let c256_i32_944 : BitVec 32 := 256#32
  let v1476 : BitVec 32 := Scalar.muli arg1 c256_i32_944
  let v1477 : BitVec 32 := v1476
  let v2051 : Index := Scalar.indexCast v1477
  ![0, 14, 0, v2051.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S15 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S15 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x1920 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x1920 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x15x128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x15x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2048x15 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S32x30 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S15x32 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x256x1920 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S4x2048x15x128 : Shape := ⟨4, ![4, 2048, 15, 128]⟩
abbrev S4x2048x15 : Shape := ⟨3, ![4, 2048, 15]⟩
abbrev S15 : Shape := ⟨1, ![15]⟩
abbrev S30x32 : Shape := ⟨2, ![30, 32]⟩
abbrev S32 : Shape := ⟨1, ![32]⟩
abbrev S32x15 : Shape := ⟨2, ![32, 15]⟩
abbrev S4x15x2048 : Shape := ⟨3, ![4, 15, 2048]⟩
abbrev S_ : Shape := ⟨0, ![]⟩
abbrev S4x15x2048x2048 : Shape := ⟨4, ![4, 15, 2048, 2048]⟩
abbrev S4x15x2048x1 : Shape := ⟨4, ![4, 15, 2048, 1]⟩
abbrev S4x15x1x2048 : Shape := ⟨4, ![4, 15, 1, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S15x1x1 : Shape := ⟨3, ![15, 1, 1]⟩
abbrev S1x2048x2048 : Shape := ⟨3, ![1, 2048, 2048]⟩
abbrev S15x2048x2048 : Shape := ⟨3, ![15, 2048, 2048]⟩
abbrev S15x32 : Shape := ⟨2, ![15, 32]⟩
abbrev S32x4x2048x2048 : Shape := ⟨4, ![32, 4, 2048, 2048]⟩
abbrev S4x32x2048x2048 : Shape := ⟨4, ![4, 32, 2048, 2048]⟩
abbrev S32x2048x2048 : Shape := ⟨3, ![32, 2048, 2048]⟩
abbrev S1x32x2048x2048 : Shape := ⟨4, ![1, 32, 2048, 2048]⟩
abbrev S32x1x1 : Shape := ⟨3, ![32, 1, 1]⟩
abbrev S1x32x1x1 : Shape := ⟨4, ![1, 32, 1, 1]⟩
abbrev S15x4x2048x2048 : Shape := ⟨4, ![15, 4, 2048, 2048]⟩
abbrev S1x1x2048x2048 : Shape := ⟨4, ![1, 1, 2048, 2048]⟩
abbrev S1x15x2048x2048 : Shape := ⟨4, ![1, 15, 2048, 2048]⟩
abbrev S4x15x128x2048 : Shape := ⟨4, ![4, 15, 128, 2048]⟩
abbrev S4x2048x1920 : Shape := ⟨3, ![4, 2048, 1920]⟩

abbrev nBuf : Space → Nat
  | .hbm => 102
  | .vmem => 4
  | .smem => 0
  | _ => 0

abbrev bufTy : (tb : Table) → Fin (tcTables nBuf tb) → BufTy
  | .hbm, ⟨0, _⟩ => ⟨S4x2048x15x128, .fp8e4m3⟩
  | .hbm, ⟨1, _⟩ => ⟨S4x2048x15, .f32⟩
  | .hbm, ⟨2, _⟩ => ⟨S4x2048x15x128, .fp8e4m3⟩
  | .hbm, ⟨3, _⟩ => ⟨S4x2048x15, .f32⟩
  | .hbm, ⟨4, _⟩ => ⟨S4x2048x15x128, .bf16⟩
  | .hbm, ⟨5, _⟩ => ⟨S15, .f32⟩
  | .hbm, ⟨6, _⟩ => ⟨S15, .f32⟩
  | .hbm, ⟨7, _⟩ => ⟨S30x32, .bf16⟩
  | .hbm, ⟨8, _⟩ => ⟨S32, .f32⟩
  | .hbm, ⟨9, _⟩ => ⟨S32x15, .bf16⟩
  | .hbm, ⟨10, _⟩ => ⟨S4x2048x15x128, .f32⟩
  | .hbm, ⟨11, _⟩ => ⟨S4x2048x15x128, .f32⟩
  | .hbm, ⟨12, _⟩ => ⟨S4x15x2048, .f32⟩
  | .hbm, ⟨13, _⟩ => ⟨S4x15x2048, .f32⟩
  | .hbm, ⟨14, _⟩ => ⟨S_, .f32⟩
  | .hbm, ⟨15, _⟩ => ⟨S4x15x2048, .f32⟩
  | .hbm, ⟨16, _⟩ => ⟨S4x15x2048, .f32⟩
  | .hbm, ⟨17, _⟩ => ⟨S4x15x2048x2048, .f32⟩
  | .hbm, ⟨18, _⟩ => ⟨S4x15x2048x1, .f32⟩
  | .hbm, ⟨19, _⟩ => ⟨S4x15x2048x2048, .f32⟩
  | .hbm, ⟨20, _⟩ => ⟨S4x15x2048x2048, .f32⟩
  | .hbm, ⟨21, _⟩ => ⟨S4x15x1x2048, .f32⟩
  | .hbm, ⟨22, _⟩ => ⟨S4x15x2048x2048, .f32⟩
  | .hbm, ⟨23, _⟩ => ⟨S4x15x2048x2048, .f32⟩
  | .hbm, ⟨24, _⟩ => ⟨S2048, .i32⟩
  | .hbm, ⟨25, _⟩ => ⟨S2048x1, .i32⟩
  | .hbm, ⟨26, _⟩ => ⟨S1x2048, .i32⟩
  | .hbm, ⟨27, _⟩ => ⟨S2048x2048, .i32⟩
  | .hbm, ⟨28, _⟩ => ⟨S2048x2048, .i32⟩
  | .hbm, ⟨29, _⟩ => ⟨S2048x2048, .i32⟩
  | .hbm, ⟨30, _⟩ => ⟨S2048x2048, .i32⟩
  | .hbm, ⟨31, _⟩ => ⟨S2048x2048, .f32⟩
  | .hbm, ⟨32, _⟩ => ⟨S15x1x1, .f32⟩
  | .hbm, ⟨33, _⟩ => ⟨S15x1x1, .f32⟩
  | .hbm, ⟨34, _⟩ => ⟨S15x1x1, .f32⟩
  | .hbm, ⟨35, _⟩ => ⟨S1x2048x2048, .f32⟩
  | .hbm, ⟨36, _⟩ => ⟨S15x2048x2048, .f32⟩
  | .hbm, ⟨37, _⟩ => ⟨S15x2048x2048, .f32⟩
  | .hbm, ⟨38, _⟩ => ⟨S15x2048x2048, .f32⟩
  | .hbm, ⟨39, _⟩ => ⟨S15x2048x2048, .f32⟩
  | .hbm, ⟨40, _⟩ => ⟨S15x2048x2048, .f32⟩
  | .hbm, ⟨41, _⟩ => ⟨S15x2048x2048, .f32⟩
  | .hbm, ⟨42, _⟩ => ⟨S4x15x2048x2048, .bf16⟩
  | .hbm, ⟨43, _⟩ => ⟨S15x32, .bf16⟩
  | .hbm, ⟨44, _⟩ => ⟨S32x4x2048x2048, .f32⟩
  | .hbm, ⟨45, _⟩ => ⟨S4x32x2048x2048, .f32⟩
  | .hbm, ⟨46, _⟩ => ⟨S15x2048x2048, .bf16⟩
  | .hbm, ⟨47, _⟩ => ⟨S15x32, .bf16⟩
  | .hbm, ⟨48, _⟩ => ⟨S32x2048x2048, .f32⟩
  | .hbm, ⟨49, _⟩ => ⟨S1x32x2048x2048, .f32⟩
  | .hbm, ⟨50, _⟩ => ⟨S4x32x2048x2048, .f32⟩
  | .hbm, ⟨51, _⟩ => ⟨S4x32x2048x2048, .f32⟩
  | .hbm, ⟨52, _⟩ => ⟨S32x1x1, .f32⟩
  | .hbm, ⟨53, _⟩ => ⟨S1x32x1x1, .f32⟩
  | .hbm, ⟨54, _⟩ => ⟨S4x32x2048x2048, .f32⟩
  | .hbm, ⟨55, _⟩ => ⟨S4x32x2048x2048, .f32⟩
  | .hbm, ⟨56, _⟩ => ⟨S_, .f32⟩
  | .hbm, ⟨57, _⟩ => ⟨S4x32x2048x2048, .f32⟩
  | .hbm, ⟨58, _⟩ => ⟨S4x32x2048x2048, .f32⟩
  | .hbm, ⟨59, _⟩ => ⟨S4x32x2048x2048, .f32⟩
  | .hbm, ⟨60, _⟩ => ⟨S_, .f32⟩
  | .hbm, ⟨61, _⟩ => ⟨S4x32x2048x2048, .f32⟩
  | .hbm, ⟨62, _⟩ => ⟨S4x32x2048x2048, .f32⟩
  | .hbm, ⟨63, _⟩ => ⟨S4x32x2048x2048, .f32⟩
  | .hbm, ⟨64, _⟩ => ⟨S4x32x2048x2048, .f32⟩
  | .hbm, ⟨65, _⟩ => ⟨S4x32x2048x2048, .bf16⟩
  | .hbm, ⟨66, _⟩ => ⟨S15x4x2048x2048, .f32⟩
  | .hbm, ⟨67, _⟩ => ⟨S4x15x2048x2048, .f32⟩
  | .hbm, ⟨68, _⟩ => ⟨S1x2048, .i32⟩
  | .hbm, ⟨69, _⟩ => ⟨S2048x1, .i32⟩
  | .hbm, ⟨70, _⟩ => ⟨S2048x2048, .i32⟩
  | .hbm, ⟨71, _⟩ => ⟨S2048x2048, .i32⟩
  | .hbm, ⟨72, _⟩ => ⟨S2048x2048, .i1⟩
  | .hbm, ⟨73, _⟩ => ⟨S1x1x2048x2048, .i1⟩
  | .hbm, ⟨74, _⟩ => ⟨S1x15x2048x2048, .f32⟩
  | .hbm, ⟨75, _⟩ => ⟨S4x15x2048x2048, .f32⟩
  | .hbm, ⟨76, _⟩ => ⟨S4x15x2048x2048, .f32⟩
  | .hbm, ⟨77, _⟩ => ⟨S4x15x2048x2048, .f32⟩
  | .hbm, ⟨78, _⟩ => ⟨S_, .f32⟩
  | .hbm, ⟨79, _⟩ => ⟨S_, .f32⟩
  | .hbm, ⟨80, _⟩ => ⟨S4x15x2048x2048, .i1⟩
  | .hbm, ⟨81, _⟩ => ⟨S4x15x2048x2048, .f32⟩
  | .hbm, ⟨82, _⟩ => ⟨S4x15x2048x2048, .f32⟩
  | .hbm, ⟨83, _⟩ => ⟨S_, .f32⟩
  | .hbm, ⟨84, _⟩ => ⟨S4x15x2048, .f32⟩
  | .hbm, ⟨85, _⟩ => ⟨S_, .f32⟩
  | .hbm, ⟨86, _⟩ => ⟨S4x15x2048, .f32⟩
  | .hbm, ⟨87, _⟩ => ⟨S4x15x2048, .f32⟩
  | .hbm, ⟨88, _⟩ => ⟨S4x15x2048x1, .f32⟩
  | .hbm, ⟨89, _⟩ => ⟨S4x15x2048x2048, .f32⟩
  | .hbm, ⟨90, _⟩ => ⟨S4x15x2048x2048, .f32⟩
  | .hbm, ⟨91, _⟩ => ⟨S4x15x2048x2048, .f32⟩
  | .hbm, ⟨92, _⟩ => ⟨S_, .f32⟩
  | .hbm, ⟨93, _⟩ => ⟨S4x15x2048, .f32⟩
  | .hbm, ⟨94, _⟩ => ⟨S4x15x2048x1, .f32⟩
  | .hbm, ⟨95, _⟩ => ⟨S4x15x2048x2048, .f32⟩
  | .hbm, ⟨96, _⟩ => ⟨S4x15x2048x2048, .f32⟩
  | .hbm, ⟨97, _⟩ => ⟨S4x15x2048x2048, .bf16⟩
  | .hbm, ⟨98, _⟩ => ⟨S4x15x128x2048, .f32⟩
  | .hbm, ⟨99, _⟩ => ⟨S4x2048x15x128, .f32⟩
  | .hbm, ⟨100, _⟩ => ⟨S4x2048x15x128, .bf16⟩
  | .hbm, ⟨101, _⟩ => ⟨S4x2048x1920, .bf16⟩
  | .local _ .vmem, ⟨0, _⟩ => ⟨S4x2048x15x128, .fp8e4m3⟩
  | .local _ .vmem, ⟨1, _⟩ => ⟨S4x2048x15x128, .fp8e4m3⟩
  | .local _ .vmem, ⟨2, _⟩ => ⟨S4x2048x15x128, .f32⟩
  | .local _ .vmem, ⟨3, _⟩ => ⟨S4x2048x15x128, .f32⟩
  | _, _ => ⟨S4x2048x15x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_0 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_1 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_cst_2 : Ref sig .tc := ⟨.hbm, 78, rfl⟩
abbrev main_call0_v0 : Ref sig .tc := ⟨.hbm, 79, rfl⟩
abbrev main_call0_v1 : Ref sig .tc := ⟨.hbm, 80, rfl⟩
abbrev main_call0_v2 : Ref sig .tc := ⟨.hbm, 81, rfl⟩
abbrev main_v64 : Ref sig .tc := ⟨.hbm, 82, rfl⟩
abbrev main_cst_3 : Ref sig .tc := ⟨.hbm, 83, rfl⟩
abbrev main_v65 : Ref sig .tc := ⟨.hbm, 84, rfl⟩
abbrev main_cst_4 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_cst_5 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S4x2048x15x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x2048x15x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x2048x15x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x2048x15x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Cell.lean ====
/- Holding one whole buffer at known contents: what a load reads and what a store leaves.
   `held h X` is the ownership of the whole memref that reads `X`; `rdO` is the block a load through
   a rectangle of offsets `off` reads of `X`, `updO` the contents after a store through it. -/
module

public import Idealize.ShloMosaic.Lib.WholeRead
public import Idealize.ShloMosaic.Lib.Pipeline.FrameBody
public import Idealize.ShloMosaic.Lib.Memref
public import Idealize.ShloMosaic.Rules.Step

@[expose] public section

noncomputable section

namespace Dape

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

/-- The block of `X` at offsets `off`. -/
def rdO {s : Shape} {α : Type} (off size : Fin s.rank → ℕ) (inb : ∀ a, off a + size a ≤ s.size a) (X : s.Idx → α) :
    (Rect.unit off size inb).shape.Idx → α :=
  fun x => X ((Rect.unit off size inb).idx x)

/-- `X` with the block at offsets `off` replaced by `w`. -/
def updO {s : Shape} {α : Type} (off size : Fin s.rank → ℕ) (inb : ∀ a, off a + size a ≤ s.size a)
    (w : (Rect.unit off size inb).shape.Idx → α) (X : s.Idx → α) : s.Idx → α :=
  fun y => if h : ∀ a, off a ≤ (y a : ℕ) ∧ (y a : ℕ) - off a < size a then w (fun a => ⟨(y a : ℕ) - off a, (h a).2⟩) else X y

variable {nD : Nat} {τ : Topo} {sig : RefSig} {Val : EltTy → Type} {Λ₀ : Idealize.SL.Sem.Labels}

local notation "𝕄" => MT nD τ sig Unit Val ℕ (UR sig nD τ) ℕ

variable {c : Thread nD τ} {sp : Space} {s : Shape} {e : EltTy}

/-- The whole memref `m` owned at the contents that read `X`. -/
def held (c : Thread nD τ) {m : Memref sig c.2.kind sp s e} (h : m.IsWhole) (X : s.Idx → Val e) : sProp 𝕄 :=
  m.view.loc c ↦[m.view.set]{fullShare} (h.unread X)

theorem held_of_owns {m : Memref sig c.2.kind sp s e} (h : m.IsWhole) (X : s.Idx → Val e) :
    (owns c m fullShare X : sProp 𝕄) ⊢ held c h X := by
  unfold owns held
  iintro ⟨%f, %hf, H⟩
  rw [h.eq_unread hf]
  iexact H

theorem owns_of_held {m : Memref sig c.2.kind sp s e} (h : m.IsWhole) (X : s.Idx → Val e) :
    (held c h X : sProp 𝕄) ⊢ owns c m fullShare X := by
  unfold owns held
  iintro H
  iexists _
  isplitr
  · ipureintro; exact h.read_unread X
  · iexact H

variable {defs : Defs nD τ sig Val Λ₀} {𝒱 : Variants} {bd : Option 𝒱.V} {E : Set ℕ} {α : Type}

theorem held_load {cs : CoreSpace} {m : Memref sig c.2.kind cs s e} (h : m.IsWhole) (X : s.Idx → Val e)
    {off size : Fin s.rank → ℕ} {inb : ∀ a, off a + size a ≤ s.size a} {hl : m.view.LoadsAt (Rect.unit off size inb).toLoadRect}
    {k : ((Rect.unit off size inb).shape.Idx → Val e) → Prog (TpuEff nD τ sig Val Λ₀ c.2) α} {Q : α → sProp 𝕄} :
    (held c h X : sProp 𝕄)
      ⊢ iprop((held c h X -∗ wp frame (wpE defs 𝒱 c bd) E (k (rdO off size inb X)) Q)
        -∗ wp frame (wpE defs 𝒱 c bd) E (.op (.load m (Rect.unit off size inb).toLoadRect hl) k) Q) := by
  have hrd : m.view.readAt Val (Rect.unit off size inb).toLoadRect (h.unread X) = rdO off size inb X :=
    funext fun x => h.readAt_unread X _ x
  have := wp_load (defs := defs) (Γ := .empty) 𝒱 c bd E (Q := Q) (m := m) (r := (Rect.unit off size inb).toLoadRect) (hl := hl)
    (k := k) (q := fullShare) (f := h.unread X) (S := m.view.set)
    (by rw [h.set_eq_univ]; exact Finset.subset_univ _)
  rw [hrd] at this
  exact this

theorem held_store {cs : CoreSpace} {m : Memref sig c.2.kind cs s e} (h : m.IsWhole) (X : s.Idx → Val e)
    {off size : Fin s.rank → ℕ} {inb : ∀ a, off a + size a ≤ s.size a} {w : (Rect.unit off size inb).shape.Idx → Val e}
    {hx : (m.access (Rect.unit off size inb)).Stores Finset.univ} {hm : Finset.univ = Finset.univ ∨ ∀ a, (Rect.unit off size inb).stride a = 1}
    {k : PUnit → Prog (TpuEff nD τ sig Val Λ₀ c.2) α} {Q : α → sProp 𝕄} :
    (held c h X : sProp 𝕄)
      ⊢ iprop((held c h (updO off size inb w X) -∗ wp frame (wpE defs 𝒱 c bd) E (k ⟨⟩) Q)
        -∗ wp frame (wpE defs 𝒱 c bd) E (.op (.store m (Rect.unit off size inb) w Finset.univ hx hm) k) Q) := by
  have hwr : (m.access (Rect.unit off size inb)).write Val (h.unread X) w Finset.univ = h.unread (updO off size inb w X) := by
    apply h.eq_unread
    funext y
    by_cases hy : ∀ a, off a ≤ (y a : ℕ) ∧ (y a : ℕ) - off a < size a
    · have hyx : (Rect.unit off size inb).emb (fun a => ⟨(y a : ℕ) - off a, (hy a).2⟩) = y := by
        funext a
        apply Fin.ext
        have h1 := (hy a).1
        have h2 : ((Rect.unit off size inb).emb (fun a => ⟨(y a : ℕ) - off a, (hy a).2⟩) a : ℕ) = off a + 1 * ((y a : ℕ) - off a) :=
          Rect.emb_apply _ _ _
        omega
      unfold updO
      rw [dif_pos hy]
      conv_lhs => rw [← hyx]
      exact View.read_slice_write_emb _ _ _ (Finset.mem_univ _)
    · unfold updO
      rw [dif_neg hy]
      refine (View.read_slice_write_of_not_mem _ _ _ _ ?_).trans (congrFun (h.read_unread X) y)
      intro hmem
      obtain ⟨x, -, hx⟩ := Finset.mem_map.mp hmem
      apply hy
      intro a
      have hxa : ((Rect.unit off size inb).emb x a : ℕ) = y a := by rw [hx]
      have hxl : (x a : ℕ) < size a := (x a).isLt
      have h2 : ((Rect.unit off size inb).emb x a : ℕ) = off a + 1 * (x a : ℕ) := Rect.emb_apply _ _ _
      omega
  have := wp_store (defs := defs) (Γ := .empty) 𝒱 c bd E (Q := Q) (m := m) (r := Rect.unit off size inb) (w := w) (hx := hx) (hm := hm)
    (k := k) (f := h.unread X) (S := m.view.set)
    (by rw [h.set_eq_univ]; exact Finset.subset_univ _)
  rw [hwr] at this
  exact this

end Dape

end
-- ==== Proof.K.State.lean ====
/- The state of one grid point of the kernel and what running a piece of its body does to it.
   `Env` names the operands: ten input blocks at fixed contents, the output block and eight scratch buffers.
   `Ok E σ p Q` says: holding all buffers, the changing ones at `σ`, the program `p` runs and ends with a
   value and a state in `Q`. -/
module

public import proofs.«01_k».proof.Proof.Cell
public import proofs.«01_k».proof.Proof.Gen.Kernel.Frame
public import proofs.«01_k».proof.Proof.Gen.Kernel.Skeleton

@[expose] public section

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Dape

variable {F : FTy → Type} [FloatOps F]

local notation "𝕄" => MT nD τ sig Unit (Elt F) ℕ (UR sig nD τ) ℕ

/-- The operands of one grid point: the core, every buffer, and the contents of the input blocks. -/
structure Env (F : FTy → Type) [FloatOps F] where
  c : Dev nD
  m2 : Memref sig .tc .smem S15 .f32
  h2 : m2.IsWhole
  X2 : S15.Idx → Elt F .f32
  m3 : Memref sig .tc .smem S15 .f32
  h3 : m3.IsWhole
  X3 : S15.Idx → Elt F .f32
  m4 : Memref sig .tc .vmem S1x256x1920 .fp8e4m3
  h4 : m4.IsWhole
  X4 : S1x256x1920.Idx → Elt F .fp8e4m3
  m5 : Memref sig .tc .vmem S1x2048x1920 .fp8e4m3
  h5 : m5.IsWhole
  X5 : S1x2048x1920.Idx → Elt F .fp8e4m3
  m6 : Memref sig .tc .vmem S1x15x128x2048 .bf16
  h6 : m6.IsWhole
  X6 : S1x15x128x2048.Idx → Elt F .bf16
  m7 : Memref sig .tc .vmem S1x15x256 .f32
  h7 : m7.IsWhole
  X7 : S1x15x256.Idx → Elt F .f32
  m8 : Memref sig .tc .vmem S1x2048x15 .f32
  h8 : m8.IsWhole
  X8 : S1x2048x15.Idx → Elt F .f32
  m9 : Memref sig .tc .vmem S32x30 .bf16
  h9 : m9.IsWhole
  X9 : S32x30.Idx → Elt F .bf16
  m10 : Memref sig .tc .vmem S1x32 .f32
  h10 : m10.IsWhole
  X10 : S1x32.Idx → Elt F .f32
  m11 : Memref sig .tc .vmem S15x32 .bf16
  h11 : m11.IsWhole
  X11 : S15x32.Idx → Elt F .bf16
  m12 : Memref sig .tc .vmem S1x256x1920 .bf16
  h12 : m12.IsWhole
  m13 : Memref sig .tc .vmem S32x16x8x256 .f32
  h13 : m13.IsWhole
  m14 : Memref sig .tc .vmem S256x120x128 .f32
  h14 : m14.IsWhole
  m15 : Memref sig .tc .vmem S256x128x128 .bf16
  h15 : m15.IsWhole
  m16 : Memref sig .tc .vmem S256x256 .bf16
  h16 : m16.IsWhole
  m17 : Memref sig .tc .vmem S128x256 .bf16
  h17 : m17.IsWhole
  m18 : Memref sig .tc .vmem S15x128x256 .f32
  h18 : m18.IsWhole
  m19 : Memref sig .tc .vmem S16x256 .f32
  h19 : m19.IsWhole
  m20 : Memref sig .tc .vmem S16x256 .f32
  h20 : m20.IsWhole

/-- The contents of the buffers a grid point writes. -/
structure St (F : FTy → Type) where
  out : S1x256x1920.Idx → Elt F .bf16
  s : S32x16x8x256.Idx → Elt F .f32
  t32 : S256x120x128.Idx → Elt F .f32
  t16 : S256x128x128.Idx → Elt F .bf16
  w1k : S256x256.Idx → Elt F .bf16
  w2k : S128x256.Idx → Elt F .bf16
  acc : S15x128x256.Idx → Elt F .f32
  mx : S16x256.Idx → Elt F .f32
  l : S16x256.Idx → Elt F .f32

/-- All buffers of a grid point, the changing ones at `σ`. -/
def Own (E : Env F) (σ : St F) : sProp 𝕄 :=
  iprop(held (E.c : Thread nD τ) E.h2 E.X2 ∗ held (E.c : Thread nD τ) E.h3 E.X3 ∗ held (E.c : Thread nD τ) E.h4 E.X4 ∗ held (E.c : Thread nD τ) E.h5 E.X5 ∗ held (E.c : Thread nD τ) E.h6 E.X6 ∗ held (E.c : Thread nD τ) E.h7 E.X7 ∗ held (E.c : Thread nD τ) E.h8 E.X8 ∗ held (E.c : Thread nD τ) E.h9 E.X9 ∗ held (E.c : Thread nD τ) E.h10 E.X10 ∗ held (E.c : Thread nD τ) E.h11 E.X11 ∗ held (E.c : Thread nD τ) E.h12 σ.out ∗ held (E.c : Thread nD τ) E.h13 σ.s ∗ held (E.c : Thread nD τ) E.h14 σ.t32 ∗ held (E.c : Thread nD τ) E.h15 σ.t16 ∗ held (E.c : Thread nD τ) E.h16 σ.w1k ∗ held (E.c : Thread nD τ) E.h17 σ.w2k ∗ held (E.c : Thread nD τ) E.h18 σ.acc ∗ held (E.c : Thread nD τ) E.h19 σ.mx ∗ held (E.c : Thread nD τ) E.h20 σ.l)

/-- Under `E` and `σ` the memref `m` holds `X`. -/
class Holds (E : Env F) (σ : St F) {sp : Space} {s : Shape} {e : EltTy} (m : Memref sig .tc sp s e) (h : outParam m.IsWhole) (X : outParam (s.Idx → Elt F e)) : Prop where
  get : Own E σ ⊢ iprop(held (E.c : Thread nD τ) h X ∗ (held (E.c : Thread nD τ) h X -∗ Own E σ))

/-- Under `E` and `σ` the memref `m` holds `X`, and overwriting it gives the state `put`. -/
class Puts (E : Env F) (σ : St F) {sp : Space} {s : Shape} {e : EltTy} (m : Memref sig .tc sp s e) (h : outParam m.IsWhole) (X : outParam (s.Idx → Elt F e)) (put : outParam ((s.Idx → Elt F e) → St F)) : Prop where
  get : Own E σ ⊢ iprop(held (E.c : Thread nD τ) h X ∗ ∀ X', held (E.c : Thread nD τ) h X' -∗ Own E (put X'))

instance (E : Env F) (σ : St F) : Holds E σ E.m2 E.h2 E.X2 := ⟨by
  unfold Own; iintro ⟨H2, H3, H4, H5, H6, H7, H8, H9, H10, H11, H12, H13, H14, H15, H16, H17, H18, H19, H20⟩; isplitl [H2]; · iexact H2
  iintro H2; iframe⟩
instance (E : Env F) (σ : St F) : Holds E σ E.m3 E.h3 E.X3 := ⟨by
  unfold Own; iintro ⟨H2, H3, H4, H5, H6, H7, H8, H9, H10, H11, H12, H13, H14, H15, H16, H17, H18, H19, H20⟩; isplitl [H3]; · iexact H3
  iintro H3; iframe⟩
instance (E : Env F) (σ : St F) : Holds E σ E.m4 E.h4 E.X4 := ⟨by
  unfold Own; iintro ⟨H2, H3, H4, H5, H6, H7, H8, H9, H10, H11, H12, H13, H14, H15, H16, H17, H18, H19, H20⟩; isplitl [H4]; · iexact H4
  iintro H4; iframe⟩
instance (E : Env F) (σ : St F) : Holds E σ E.m5 E.h5 E.X5 := ⟨by
  unfold Own; iintro ⟨H2, H3, H4, H5, H6, H7, H8, H9, H10, H11, H12, H13, H14, H15, H16, H17, H18, H19, H20⟩; isplitl [H5]; · iexact H5
  iintro H5; iframe⟩
instance (E : Env F) (σ : St F) : Holds E σ E.m6 E.h6 E.X6 := ⟨by
  unfold Own; iintro ⟨H2, H3, H4, H5, H6, H7, H8, H9, H10, H11, H12, H13, H14, H15, H16, H17, H18, H19, H20⟩; isplitl [H6]; · iexact H6
  iintro H6; iframe⟩
instance (E : Env F) (σ : St F) : Holds E σ E.m7 E.h7 E.X7 := ⟨by
  unfold Own; iintro ⟨H2, H3, H4, H5, H6, H7, H8, H9, H10, H11, H12, H13, H14, H15, H16, H17, H18, H19, H20⟩; isplitl [H7]; · iexact H7
  iintro H7; iframe⟩
instance (E : Env F) (σ : St F) : Holds E σ E.m8 E.h8 E.X8 := ⟨by
  unfold Own; iintro ⟨H2, H3, H4, H5, H6, H7, H8, H9, H10, H11, H12, H13, H14, H15, H16, H17, H18, H19, H20⟩; isplitl [H8]; · iexact H8
  iintro H8; iframe⟩
instance (E : Env F) (σ : St F) : Holds E σ E.m9 E.h9 E.X9 := ⟨by
  unfold Own; iintro ⟨H2, H3, H4, H5, H6, H7, H8, H9, H10, H11, H12, H13, H14, H15, H16, H17, H18, H19, H20⟩; isplitl [H9]; · iexact H9
  iintro H9; iframe⟩
instance (E : Env F) (σ : St F) : Holds E σ E.m10 E.h10 E.X10 := ⟨by
  unfold Own; iintro ⟨H2, H3, H4, H5, H6, H7, H8, H9, H10, H11, H12, H13, H14, H15, H16, H17, H18, H19, H20⟩; isplitl [H10]; · iexact H10
  iintro H10; iframe⟩
instance (E : Env F) (σ : St F) : Holds E σ E.m11 E.h11 E.X11 := ⟨by
  unfold Own; iintro ⟨H2, H3, H4, H5, H6, H7, H8, H9, H10, H11, H12, H13, H14, H15, H16, H17, H18, H19, H20⟩; isplitl [H11]; · iexact H11
  iintro H11; iframe⟩

variable (out : S1x256x1920.Idx → Elt F .bf16) (s : S32x16x8x256.Idx → Elt F .f32) (t32 : S256x120x128.Idx → Elt F .f32) (t16 : S256x128x128.Idx → Elt F .bf16) (w1k : S256x256.Idx → Elt F .bf16) (w2k : S128x256.Idx → Elt F .bf16) (acc : S15x128x256.Idx → Elt F .f32) (mx l : S16x256.Idx → Elt F .f32)

instance (E : Env F) : Puts E ⟨out, s, t32, t16, w1k, w2k, acc, mx, l⟩ E.m12 E.h12 out (fun x => ⟨x, s, t32, t16, w1k, w2k, acc, mx, l⟩) := ⟨by
  unfold Own; iintro ⟨H2, H3, H4, H5, H6, H7, H8, H9, H10, H11, H12, H13, H14, H15, H16, H17, H18, H19, H20⟩; isplitl [H12]; · iexact H12
  iintro %x H12; iframe⟩
instance (E : Env F) : Holds E ⟨out, s, t32, t16, w1k, w2k, acc, mx, l⟩ E.m12 E.h12 out := ⟨by
  unfold Own; iintro ⟨H2, H3, H4, H5, H6, H7, H8, H9, H10, H11, H12, H13, H14, H15, H16, H17, H18, H19, H20⟩; isplitl [H12]; · iexact H12
  iintro H12; iframe⟩
instance (E : Env F) : Puts E ⟨out, s, t32, t16, w1k, w2k, acc, mx, l⟩ E.m13 E.h13 s (fun x => ⟨out, x, t32, t16, w1k, w2k, acc, mx, l⟩) := ⟨by
  unfold Own; iintro ⟨H2, H3, H4, H5, H6, H7, H8, H9, H10, H11, H12, H13, H14, H15, H16, H17, H18, H19, H20⟩; isplitl [H13]; · iexact H13
  iintro %x H13; iframe⟩
instance (E : Env F) : Holds E ⟨out, s, t32, t16, w1k, w2k, acc, mx, l⟩ E.m13 E.h13 s := ⟨by
  unfold Own; iintro ⟨H2, H3, H4, H5, H6, H7, H8, H9, H10, H11, H12, H13, H14, H15, H16, H17, H18, H19, H20⟩; isplitl [H13]; · iexact H13
  iintro H13; iframe⟩
instance (E : Env F) : Puts E ⟨out, s, t32, t16, w1k, w2k, acc, mx, l⟩ E.m14 E.h14 t32 (fun x => ⟨out, s, x, t16, w1k, w2k, acc, mx, l⟩) := ⟨by
  unfold Own; iintro ⟨H2, H3, H4, H5, H6, H7, H8, H9, H10, H11, H12, H13, H14, H15, H16, H17, H18, H19, H20⟩; isplitl [H14]; · iexact H14
  iintro %x H14; iframe⟩
instance (E : Env F) : Holds E ⟨out, s, t32, t16, w1k, w2k, acc, mx, l⟩ E.m14 E.h14 t32 := ⟨by
  unfold Own; iintro ⟨H2, H3, H4, H5, H6, H7, H8, H9, H10, H11, H12, H13, H14, H15, H16, H17, H18, H19, H20⟩; isplitl [H14]; · iexact H14
  iintro H14; iframe⟩
instance (E : Env F) : Puts E ⟨out, s, t32, t16, w1k, w2k, acc, mx, l⟩ E.m15 E.h15 t16 (fun x => ⟨out, s, t32, x, w1k, w2k, acc, mx, l⟩) := ⟨by
  unfold Own; iintro ⟨H2, H3, H4, H5, H6, H7, H8, H9, H10, H11, H12, H13, H14, H15, H16, H17, H18, H19, H20⟩; isplitl [H15]; · iexact H15
  iintro %x H15; iframe⟩
instance (E : Env F) : Holds E ⟨out, s, t32, t16, w1k, w2k, acc, mx, l⟩ E.m15 E.h15 t16 := ⟨by
  unfold Own; iintro ⟨H2, H3, H4, H5, H6, H7, H8, H9, H10, H11, H12, H13, H14, H15, H16, H17, H18, H19, H20⟩; isplitl [H15]; · iexact H15
  iintro H15; iframe⟩
instance (E : Env F) : Puts E ⟨out, s, t32, t16, w1k, w2k, acc, mx, l⟩ E.m16 E.h16 w1k (fun x => ⟨out, s, t32, t16, x, w2k, acc, mx, l⟩) := ⟨by
  unfold Own; iintro ⟨H2, H3, H4, H5, H6, H7, H8, H9, H10, H11, H12, H13, H14, H15, H16, H17, H18, H19, H20⟩; isplitl [H16]; · iexact H16
  iintro %x H16; iframe⟩
instance (E : Env F) : Holds E ⟨out, s, t32, t16, w1k, w2k, acc, mx, l⟩ E.m16 E.h16 w1k := ⟨by
  unfold Own; iintro ⟨H2, H3, H4, H5, H6, H7, H8, H9, H10, H11, H12, H13, H14, H15, H16, H17, H18, H19, H20⟩; isplitl [H16]; · iexact H16
  iintro H16; iframe⟩
instance (E : Env F) : Puts E ⟨out, s, t32, t16, w1k, w2k, acc, mx, l⟩ E.m17 E.h17 w2k (fun x => ⟨out, s, t32, t16, w1k, x, acc, mx, l⟩) := ⟨by
  unfold Own; iintro ⟨H2, H3, H4, H5, H6, H7, H8, H9, H10, H11, H12, H13, H14, H15, H16, H17, H18, H19, H20⟩; isplitl [H17]; · iexact H17
  iintro %x H17; iframe⟩
instance (E : Env F) : Holds E ⟨out, s, t32, t16, w1k, w2k, acc, mx, l⟩ E.m17 E.h17 w2k := ⟨by
  unfold Own; iintro ⟨H2, H3, H4, H5, H6, H7, H8, H9, H10, H11, H12, H13, H14, H15, H16, H17, H18, H19, H20⟩; isplitl [H17]; · iexact H17
  iintro H17; iframe⟩
instance (E : Env F) : Puts E ⟨out, s, t32, t16, w1k, w2k, acc, mx, l⟩ E.m18 E.h18 acc (fun x => ⟨out, s, t32, t16, w1k, w2k, x, mx, l⟩) := ⟨by
  unfold Own; iintro ⟨H2, H3, H4, H5, H6, H7, H8, H9, H10, H11, H12, H13, H14, H15, H16, H17, H18, H19, H20⟩; isplitl [H18]; · iexact H18
  iintro %x H18; iframe⟩
instance (E : Env F) : Holds E ⟨out, s, t32, t16, w1k, w2k, acc, mx, l⟩ E.m18 E.h18 acc := ⟨by
  unfold Own; iintro ⟨H2, H3, H4, H5, H6, H7, H8, H9, H10, H11, H12, H13, H14, H15, H16, H17, H18, H19, H20⟩; isplitl [H18]; · iexact H18
  iintro H18; iframe⟩
instance (E : Env F) : Puts E ⟨out, s, t32, t16, w1k, w2k, acc, mx, l⟩ E.m19 E.h19 mx (fun x => ⟨out, s, t32, t16, w1k, w2k, acc, x, l⟩) := ⟨by
  unfold Own; iintro ⟨H2, H3, H4, H5, H6, H7, H8, H9, H10, H11, H12, H13, H14, H15, H16, H17, H18, H19, H20⟩; isplitl [H19]; · iexact H19
  iintro %x H19; iframe⟩
instance (E : Env F) : Holds E ⟨out, s, t32, t16, w1k, w2k, acc, mx, l⟩ E.m19 E.h19 mx := ⟨by
  unfold Own; iintro ⟨H2, H3, H4, H5, H6, H7, H8, H9, H10, H11, H12, H13, H14, H15, H16, H17, H18, H19, H20⟩; isplitl [H19]; · iexact H19
  iintro H19; iframe⟩
instance (E : Env F) : Puts E ⟨out, s, t32, t16, w1k, w2k, acc, mx, l⟩ E.m20 E.h20 l (fun x => ⟨out, s, t32, t16, w1k, w2k, acc, mx, x⟩) := ⟨by
  unfold Own; iintro ⟨H2, H3, H4, H5, H6, H7, H8, H9, H10, H11, H12, H13, H14, H15, H16, H17, H18, H19, H20⟩; isplitl [H20]; · iexact H20
  iintro %x H20; iframe⟩
instance (E : Env F) : Holds E ⟨out, s, t32, t16, w1k, w2k, acc, mx, l⟩ E.m20 E.h20 l := ⟨by
  unfold Own; iintro ⟨H2, H3, H4, H5, H6, H7, H8, H9, H10, H11, H12, H13, H14, H15, H16, H17, H18, H19, H20⟩; isplitl [H20]; · iexact H20
  iintro H20; iframe⟩

/-- The buffers of a grid point, from each one's contents. -/
theorem own_intro (E : Env F) (σ : St F) :
    iprop(owns (E.c : Thread nD τ) E.m2 fullShare E.X2 ∗ owns (E.c : Thread nD τ) E.m3 fullShare E.X3 ∗ owns (E.c : Thread nD τ) E.m4 fullShare E.X4 ∗ owns (E.c : Thread nD τ) E.m5 fullShare E.X5 ∗ owns (E.c : Thread nD τ) E.m6 fullShare E.X6 ∗ owns (E.c : Thread nD τ) E.m7 fullShare E.X7 ∗ owns (E.c : Thread nD τ) E.m8 fullShare E.X8 ∗ owns (E.c : Thread nD τ) E.m9 fullShare E.X9 ∗ owns (E.c : Thread nD τ) E.m10 fullShare E.X10 ∗ owns (E.c : Thread nD τ) E.m11 fullShare E.X11 ∗ owns (E.c : Thread nD τ) E.m12 fullShare σ.out ∗ owns (E.c : Thread nD τ) E.m13 fullShare σ.s ∗ owns (E.c : Thread nD τ) E.m14 fullShare σ.t32 ∗ owns (E.c : Thread nD τ) E.m15 fullShare σ.t16 ∗ owns (E.c : Thread nD τ) E.m16 fullShare σ.w1k ∗ owns (E.c : Thread nD τ) E.m17 fullShare σ.w2k ∗ owns (E.c : Thread nD τ) E.m18 fullShare σ.acc ∗ owns (E.c : Thread nD τ) E.m19 fullShare σ.mx ∗ owns (E.c : Thread nD τ) E.m20 fullShare σ.l) ⊢ (Own E σ : sProp 𝕄) := by
  unfold Own
  refine _root_.Idealize.SL.BI.sep_mono (held_of_owns (c := (E.c : Thread nD τ)) E.h2 E.X2) <| _root_.Idealize.SL.BI.sep_mono (held_of_owns (c := (E.c : Thread nD τ)) E.h3 E.X3) <| _root_.Idealize.SL.BI.sep_mono (held_of_owns (c := (E.c : Thread nD τ)) E.h4 E.X4) <| _root_.Idealize.SL.BI.sep_mono (held_of_owns (c := (E.c : Thread nD τ)) E.h5 E.X5) <| _root_.Idealize.SL.BI.sep_mono (held_of_owns (c := (E.c : Thread nD τ)) E.h6 E.X6) <| _root_.Idealize.SL.BI.sep_mono (held_of_owns (c := (E.c : Thread nD τ)) E.h7 E.X7) <| _root_.Idealize.SL.BI.sep_mono (held_of_owns (c := (E.c : Thread nD τ)) E.h8 E.X8) <| _root_.Idealize.SL.BI.sep_mono (held_of_owns (c := (E.c : Thread nD τ)) E.h9 E.X9) <| _root_.Idealize.SL.BI.sep_mono (held_of_owns (c := (E.c : Thread nD τ)) E.h10 E.X10) <| _root_.Idealize.SL.BI.sep_mono (held_of_owns (c := (E.c : Thread nD τ)) E.h11 E.X11) <| _root_.Idealize.SL.BI.sep_mono (held_of_owns (c := (E.c : Thread nD τ)) E.h12 σ.out) <| _root_.Idealize.SL.BI.sep_mono (held_of_owns (c := (E.c : Thread nD τ)) E.h13 σ.s) <| _root_.Idealize.SL.BI.sep_mono (held_of_owns (c := (E.c : Thread nD τ)) E.h14 σ.t32) <| _root_.Idealize.SL.BI.sep_mono (held_of_owns (c := (E.c : Thread nD τ)) E.h15 σ.t16) <| _root_.Idealize.SL.BI.sep_mono (held_of_owns (c := (E.c : Thread nD τ)) E.h16 σ.w1k) <| _root_.Idealize.SL.BI.sep_mono (held_of_owns (c := (E.c : Thread nD τ)) E.h17 σ.w2k) <| _root_.Idealize.SL.BI.sep_mono (held_of_owns (c := (E.c : Thread nD τ)) E.h18 σ.acc) <| _root_.Idealize.SL.BI.sep_mono (held_of_owns (c := (E.c : Thread nD τ)) E.h19 σ.mx) <| held_of_owns (c := (E.c : Thread nD τ)) E.h20 σ.l

/-- Each buffer's contents, from the buffers of a grid point. -/
theorem own_elim (E : Env F) (σ : St F) :
    (Own E σ : sProp 𝕄) ⊢ iprop(owns (E.c : Thread nD τ) E.m2 fullShare E.X2 ∗ owns (E.c : Thread nD τ) E.m3 fullShare E.X3 ∗ owns (E.c : Thread nD τ) E.m4 fullShare E.X4 ∗ owns (E.c : Thread nD τ) E.m5 fullShare E.X5 ∗ owns (E.c : Thread nD τ) E.m6 fullShare E.X6 ∗ owns (E.c : Thread nD τ) E.m7 fullShare E.X7 ∗ owns (E.c : Thread nD τ) E.m8 fullShare E.X8 ∗ owns (E.c : Thread nD τ) E.m9 fullShare E.X9 ∗ owns (E.c : Thread nD τ) E.m10 fullShare E.X10 ∗ owns (E.c : Thread nD τ) E.m11 fullShare E.X11 ∗ owns (E.c : Thread nD τ) E.m12 fullShare σ.out ∗ owns (E.c : Thread nD τ) E.m13 fullShare σ.s ∗ owns (E.c : Thread nD τ) E.m14 fullShare σ.t32 ∗ owns (E.c : Thread nD τ) E.m15 fullShare σ.t16 ∗ owns (E.c : Thread nD τ) E.m16 fullShare σ.w1k ∗ owns (E.c : Thread nD τ) E.m17 fullShare σ.w2k ∗ owns (E.c : Thread nD τ) E.m18 fullShare σ.acc ∗ owns (E.c : Thread nD τ) E.m19 fullShare σ.mx ∗ owns (E.c : Thread nD τ) E.m20 fullShare σ.l) := by
  unfold Own
  refine _root_.Idealize.SL.BI.sep_mono (owns_of_held (c := (E.c : Thread nD τ)) E.h2 E.X2) <| _root_.Idealize.SL.BI.sep_mono (owns_of_held (c := (E.c : Thread nD τ)) E.h3 E.X3) <| _root_.Idealize.SL.BI.sep_mono (owns_of_held (c := (E.c : Thread nD τ)) E.h4 E.X4) <| _root_.Idealize.SL.BI.sep_mono (owns_of_held (c := (E.c : Thread nD τ)) E.h5 E.X5) <| _root_.Idealize.SL.BI.sep_mono (owns_of_held (c := (E.c : Thread nD τ)) E.h6 E.X6) <| _root_.Idealize.SL.BI.sep_mono (owns_of_held (c := (E.c : Thread nD τ)) E.h7 E.X7) <| _root_.Idealize.SL.BI.sep_mono (owns_of_held (c := (E.c : Thread nD τ)) E.h8 E.X8) <| _root_.Idealize.SL.BI.sep_mono (owns_of_held (c := (E.c : Thread nD τ)) E.h9 E.X9) <| _root_.Idealize.SL.BI.sep_mono (owns_of_held (c := (E.c : Thread nD τ)) E.h10 E.X10) <| _root_.Idealize.SL.BI.sep_mono (owns_of_held (c := (E.c : Thread nD τ)) E.h11 E.X11) <| _root_.Idealize.SL.BI.sep_mono (owns_of_held (c := (E.c : Thread nD τ)) E.h12 σ.out) <| _root_.Idealize.SL.BI.sep_mono (owns_of_held (c := (E.c : Thread nD τ)) E.h13 σ.s) <| _root_.Idealize.SL.BI.sep_mono (owns_of_held (c := (E.c : Thread nD τ)) E.h14 σ.t32) <| _root_.Idealize.SL.BI.sep_mono (owns_of_held (c := (E.c : Thread nD τ)) E.h15 σ.t16) <| _root_.Idealize.SL.BI.sep_mono (owns_of_held (c := (E.c : Thread nD τ)) E.h16 σ.w1k) <| _root_.Idealize.SL.BI.sep_mono (owns_of_held (c := (E.c : Thread nD τ)) E.h17 σ.w2k) <| _root_.Idealize.SL.BI.sep_mono (owns_of_held (c := (E.c : Thread nD τ)) E.h18 σ.acc) <| _root_.Idealize.SL.BI.sep_mono (owns_of_held (c := (E.c : Thread nD τ)) E.h19 σ.mx) <| owns_of_held (c := (E.c : Thread nD τ)) E.h20 σ.l

/-- `p`, run from the state `σ`, ends with a value and a state in `Q`. -/
def Ok {α : Type} (E : Env F) (σ : St F) (p : Prog (TpuEff nD τ sig (Elt F) Λ₀ .tc) α) (Q : α → St F → Prop) : Prop :=
  (Own E σ : sProp 𝕄) ⊢ wp frame (wpE (defs₀ (F := F)) Variants.none (E.c : Thread nD τ) none) Set.univ p
    (fun a => iprop(∃ σ', ⌜Q a σ'⌝ ∗ Own E σ'))

variable {α β : Type} {E : Env F} {σ : St F}

theorem Ok.bind {p : Prog (TpuEff nD τ sig (Elt F) Λ₀ .tc) β} {k : β → Prog (TpuEff nD τ sig (Elt F) Λ₀ .tc) α} {Q : α → St F → Prop}
    (h : Ok E σ p (fun b σ' => Ok E σ' (k b) Q)) : Ok E σ (p >>= k) Q := by
  unfold Ok at h ⊢
  rw [wp_bind]
  refine h.trans (wp_mono _ _ _ fun b => ?_)
  iintro ⟨%σ', %hq, H⟩
  iapply hq
  iexact H

theorem Ok.bind' {p : Prog (TpuEff nD τ sig (Elt F) Λ₀ .tc) β} {k : β → Prog (TpuEff nD τ sig (Elt F) Λ₀ .tc) α} {Q : α → St F → Prop} {R : β → St F → Prop}
    (h : Ok E σ p R) (h' : ∀ b σ', R b σ' → Ok E σ' (k b) Q) : Ok E σ (p >>= k) Q := by
  apply Ok.bind
  unfold Ok at h ⊢
  refine h.trans (wp_mono _ _ _ fun b => ?_)
  iintro ⟨%σ', %hq, H⟩
  iexists σ'
  isplitr
  · ipureintro; exact h' b σ' hq
  · iexact H

theorem Ok.mono {p : Prog (TpuEff nD τ sig (Elt F) Λ₀ .tc) α} {Q R : α → St F → Prop}
    (h : Ok E σ p R) (h' : ∀ b σ', R b σ' → Q b σ') : Ok E σ p Q := by
  unfold Ok at h ⊢
  refine h.trans (wp_mono _ _ _ fun b => ?_)
  iintro ⟨%σ', %hq, H⟩
  iexists σ'
  isplitr
  · ipureintro; exact h' b σ' hq
  · iexact H

theorem Ok.ret {a : α} {Q : α → St F → Prop} (h : Q a σ) : Ok E σ (.ret a) Q := by
  unfold Ok
  rw [wp_ret]
  refine Entails.trans ?_ fupd_intro
  iintro H
  iexists σ
  isplitr
  · ipureintro; exact h
  · iexact H

theorem Ok.load {cs : CoreSpace} {s : Shape} {e : EltTy} {m : Memref sig .tc cs s e} {h : m.IsWhole} {X : s.Idx → Elt F e} [hc : Holds E σ m h X]
    {off size : Fin s.rank → ℕ} {inb : ∀ a, off a + size a ≤ s.size a} {hl : m.view.LoadsAt (Rect.unit off size inb).toLoadRect}
    {k : ((Rect.unit off size inb).shape.Idx → Elt F e) → Prog (TpuEff nD τ sig (Elt F) Λ₀ .tc) α} {Q : α → St F → Prop}
    (hk : Ok E σ (k (rdO off size inb X)) Q) : Ok E σ (.op (.load m (Rect.unit off size inb).toLoadRect hl) k) Q := by
  unfold Ok at hk ⊢
  refine hc.get.trans ?_
  iintro ⟨H, Hb⟩
  iapply (held_load (c := (E.c : Thread nD τ)) h X) $$ H
  iintro H
  iapply hk
  iapply Hb $$ H

theorem Ok.store {cs : CoreSpace} {s : Shape} {e : EltTy} {m : Memref sig .tc cs s e} {h : m.IsWhole} {X : s.Idx → Elt F e}
    {put : (s.Idx → Elt F e) → St F} [hc : Puts E σ m h X put]
    {off size : Fin s.rank → ℕ} {inb : ∀ a, off a + size a ≤ s.size a} {w : (Rect.unit off size inb).shape.Idx → Elt F e}
    {hx : (m.access (Rect.unit off size inb)).Stores Finset.univ} {hm : Finset.univ = Finset.univ ∨ ∀ a, (Rect.unit off size inb).stride a = 1}
    {k : PUnit → Prog (TpuEff nD τ sig (Elt F) Λ₀ .tc) α} {Q : α → St F → Prop}
    (hk : Ok E (put (updO off size inb w X)) (k ⟨⟩) Q) : Ok E σ (.op (.store m (Rect.unit off size inb) w Finset.univ hx hm) k) Q := by
  unfold Ok at hk ⊢
  refine hc.get.trans ?_
  iintro ⟨H, Hb⟩
  iapply (held_store (c := (E.c : Thread nD τ)) h X) $$ H
  iintro H
  iapply hk
  iapply Hb $$ H

/-- A load, its value forgotten. -/
theorem Ok.load_any {cs : CoreSpace} {s : Shape} {e : EltTy} {m : Memref sig .tc cs s e} {h : m.IsWhole} {X : s.Idx → Elt F e} [hc : Holds E σ m h X]
    {off size : Fin s.rank → ℕ} {inb : ∀ a, off a + size a ≤ s.size a} {hl : m.view.LoadsAt (Rect.unit off size inb).toLoadRect}
    {k : ((Rect.unit off size inb).shape.Idx → Elt F e) → Prog (TpuEff nD τ sig (Elt F) Λ₀ .tc) α} {Q : α → St F → Prop}
    (hk : ∀ v, Ok E σ (k v) Q) : Ok E σ (.op (.load m (Rect.unit off size inb).toLoadRect hl) k) Q := Ok.load (hk _)

/-- A store, what it stores forgotten. -/
theorem Ok.store_any {cs : CoreSpace} {s : Shape} {e : EltTy} {m : Memref sig .tc cs s e} {h : m.IsWhole} {X : s.Idx → Elt F e}
    {put : (s.Idx → Elt F e) → St F} [hc : Puts E σ m h X put]
    {off size : Fin s.rank → ℕ} {inb : ∀ a, off a + size a ≤ s.size a} {w : (Rect.unit off size inb).shape.Idx → Elt F e}
    {hx : (m.access (Rect.unit off size inb)).Stores Finset.univ} {hm : Finset.univ = Finset.univ ∨ ∀ a, (Rect.unit off size inb).stride a = 1}
    {k : PUnit → Prog (TpuEff nD τ sig (Elt F) Λ₀ .tc) α} {Q : α → St F → Prop}
    (hk : ∀ x, Ok E (put x) (k ⟨⟩) Q) : Ok E σ (.op (.store m (Rect.unit off size inb) w Finset.univ hx hm) k) Q := Ok.store (hk _)

/-- A counted loop keeps an invariant of the state. -/
theorem Ok.loop {w : ℕ} (l : Scf.Loop w) (hok : l.OK) (I : ℕ → St F → Prop) {body : Fin l.trips → Unit → Prog (TpuEff nD τ sig (Elt F) Λ₀ .tc) Unit}
    (h0 : I 0 σ) (hb : ∀ (k : Fin l.trips) σ', I k σ' → Ok E σ' (body k ⟨⟩) (fun _ σ'' => I (k + 1) σ''))
    {Q : Unit → St F → Prop} (hQ : ∀ σ', I l.trips σ' → Q ⟨⟩ σ') : Ok E σ (Scf.Loop.for l hok ⟨⟩ body) Q := by
  unfold Ok
  have := Scf.wp_for frame (wpE (defs₀ (F := F)) Variants.none (E.c : Thread nD τ) none) Set.univ l.lb l.ub l.st hok ⟨⟩ body
    (fun n _ => iprop(∃ σ', ⌜I n σ'⌝ ∗ Own E σ')) (by
      intro k acc
      iintro ⟨%σ', %hi, H⟩
      have hbk := hb k σ' hi
      unfold Ok at hbk
      iapply hbk
      iexact H) (Q := (fun a => iprop(∃ σ', ⌜Q a σ'⌝ ∗ Own E σ')))
  refine BIBase.Entails.trans ?_ this
  iintro H
  isplitl [H]
  · iexists σ
    isplitr
    · ipureintro; exact h0
    · iexact H
  · iintro %acc ⟨%σ', %hi, H⟩
    iexists σ'
    isplitr
    · ipureintro; exact hQ σ' hi
    · iexact H

/-- A counted loop at the head of a program, the state after it forgotten. -/
theorem Ok.loop_any {w : ℕ} {l : Scf.Loop w} {hok : l.OK} {body : Fin l.trips → Unit → Prog (TpuEff nD τ sig (Elt F) Λ₀ .tc) Unit}
    {k : Unit → Prog (TpuEff nD τ sig (Elt F) Λ₀ .tc) α} {Q : α → St F → Prop}
    (hb : ∀ (t : Fin l.trips) σ', Ok E σ' (body t ⟨⟩) (fun _ _ => True)) (hk : ∀ σ', Ok E σ' (k ⟨⟩) Q) :
    Ok E σ ((Scf.Loop.for l hok ⟨⟩ body).bind k) Q :=
  Ok.bind' (R := fun _ _ => True) (Ok.loop l hok (fun _ _ => True) trivial (fun t σ' _ => hb t σ') fun _ _ => trivial) fun _ σ' _ => hk σ'

theorem Ok.dite {c : Prop} [Decidable c] {t : c → Prog (TpuEff nD τ sig (Elt F) Λ₀ .tc) α} {e : ¬ c → Prog (TpuEff nD τ sig (Elt F) Λ₀ .tc) α}
    {Q : α → St F → Prop} (ht : ∀ h, Ok E σ (t h) Q) (he : ∀ h, Ok E σ (e h) Q) : Ok E σ (if h : c then t h else e h) Q := by
  split
  · exact ht _
  · exact he _

end Cert.Kernel.Gen

end
-- ==== Proof.K.Safe.lean ====
/- Every grid point of the kernel runs to its end: each access it makes lies in a buffer it holds. The loop
   bodies, the first point's set-up, and the whole body, one operation after another. -/
module

public import proofs.«01_k».proof.Proof.K.State

@[expose] public section

set_option maxRecDepth 65536
set_option maxHeartbeats 4000000

noncomputable section

namespace Cert.Kernel.Gen

open Idealize.ShloMosaic Idealize.ShloMosaic.TcCoe Idealize.ShloMosaic.Tactic
open Dape

variable {F : FTy → Type} [FloatOps F] (E : Env F) (i : grid0.Coords)

/-- One trip of the loop that fills the bias tables. -/
theorem safe_t1 (h1 : k0_cond1 i = 1#1) (k : Fin k0_t1_loop.trips) (σ : St F) :
    Ok E σ (k0_t1_body i E.m2 E.h2 E.m3 E.h3 E.m4 E.h4 E.m5 E.h5 E.m6 E.h6 E.m7 E.h7 E.m8 E.h8 E.m9 E.h9 E.m10 E.h10 E.m11 E.h11 E.m12 E.h12 E.m13 E.h13 E.m14 E.h14 E.m15 E.h15 E.m16 E.h16 E.m17 E.h17 E.m18 E.h18 E.m19 E.h19 E.m20 E.h20 h1 k ⟨⟩) (fun _ _ => True) := by
  obtain ⟨out, s, t32, t16, w1k, w2k, acc, mx, l⟩ := σ
  repeat
    conv => arg 3; whnf
    first
    | with_reducible refine Ok.load_any fun _ => ?_
    | with_reducible refine Ok.store_any fun _ => ?_
    | with_reducible refine Ok.ret ?_
    | refine Ok.load_any fun _ => ?_
  trivial

/-- One trip of the loop over the key blocks before the diagonal. -/
theorem safe_t2 (k : Fin (k0_t2_loop i).trips) (σ : St F) :
    Ok E σ (k0_t2_body i E.m2 E.h2 E.m3 E.h3 E.m4 E.h4 E.m5 E.h5 E.m6 E.h6 E.m7 E.h7 E.m8 E.h8 E.m9 E.h9 E.m10 E.h10 E.m11 E.h11 E.m12 E.h12 E.m13 E.h13 E.m14 E.h14 E.m15 E.h15 E.m16 E.h16 E.m17 E.h17 E.m18 E.h18 E.m19 E.h19 E.m20 E.h20 (BitVec.ofNat 32 (i 1).val) k ⟨⟩) (fun _ _ => True) := by
  obtain ⟨out, s, t32, t16, w1k, w2k, acc, mx, l⟩ := σ
  repeat
    conv => arg 3; whnf
    first
    | with_reducible refine Ok.load_any fun _ => ?_
    | with_reducible refine Ok.store_any fun _ => ?_
    | with_reducible refine Ok.ret ?_
    | refine Ok.load_any fun _ => ?_
  trivial

/-- One trip of the loop's remainder. -/
theorem safe_t3 (a b : BitVec 32) (k : Fin (k0_t3_loop i).trips) (σ : St F) :
    Ok E σ (k0_t3_body i E.m2 E.h2 E.m3 E.h3 E.m4 E.h4 E.m5 E.h5 E.m6 E.h6 E.m7 E.h7 E.m8 E.h8 E.m9 E.h9 E.m10 E.h10 E.m11 E.h11 E.m12 E.h12 E.m13 E.h13 E.m14 E.h14 E.m15 E.h15 E.m16 E.h16 E.m17 E.h17 E.m18 E.h18 E.m19 E.h19 E.m20 E.h20 a b k ⟨⟩) (fun _ _ => True) := by
  obtain ⟨out, s, t32, t16, w1k, w2k, acc, mx, l⟩ := σ
  repeat
    conv => arg 3; whnf
    first
    | with_reducible refine Ok.load_any fun _ => ?_
    | with_reducible refine Ok.store_any fun _ => ?_
    | with_reducible refine Ok.ret ?_
    | refine Ok.load_any fun _ => ?_
  trivial

/-- The first point's set-up, the start of the running sums, and the key blocks before the diagonal. -/
theorem safe_head (σ : St F) : Ok E σ (k0_part144 i E.m2 E.h2 E.m3 E.h3 E.m4 E.h4 E.m5 E.h5 E.m6 E.h6 E.m7 E.h7 E.m8 E.h8 E.m9 E.h9 E.m10 E.h10 E.m11 E.h11 E.m12 E.h12 E.m13 E.h13 E.m14 E.h14 E.m15 E.h15 E.m16 E.h16 E.m17 E.h17 E.m18 E.h18 E.m19 E.h19 E.m20 E.h20) (fun _ _ => True) := by
  rw [k0_part144_eq_skeleton (F := F)]
  unfold k0_part144_skel
  obtain ⟨out, s, t32, t16, w1k, w2k, acc, mx, l⟩ := σ
  refine Ok.dite (fun h1 => ?_) fun h1 => ?_
  · conv => arg 3; whnf
    repeat
      conv => arg 3; whnf
      first
      | with_reducible refine Ok.load_any fun _ => ?_
      | with_reducible refine Ok.store_any fun _ => ?_
      | with_reducible refine Ok.ret ?_
      | refine Ok.load_any fun _ => ?_
    refine Ok.loop_any (fun t σ' => safe_t1 E i h1 t σ') fun σ' => ?_
    obtain ⟨out, s, t32, t16, w1k, w2k, acc, mx, l⟩ := σ'
    repeat
      conv => arg 3; whnf
      first
      | with_reducible refine Ok.load_any fun _ => ?_
      | with_reducible refine Ok.store_any fun _ => ?_
      | with_reducible refine Ok.ret ?_
      | refine Ok.load_any fun _ => ?_
    refine Ok.loop_any (fun t σ' => safe_t2 E i t σ') fun σ' => ?_
    conv => arg 3; whnf
    refine Ok.loop_any (fun t σ' => safe_t3 E i _ _ t σ') fun σ' => ?_
    obtain ⟨out, s, t32, t16, w1k, w2k, acc, mx, l⟩ := σ'
    repeat
      conv => arg 3; whnf
      first
      | with_reducible refine Ok.load_any fun _ => ?_
      | with_reducible refine Ok.store_any fun _ => ?_
      | with_reducible refine Ok.ret ?_
      | refine Ok.load_any fun _ => ?_
    trivial
  · conv => arg 3; whnf
    repeat
      conv => arg 3; whnf
      first
      | with_reducible refine Ok.load_any fun _ => ?_
      | with_reducible refine Ok.store_any fun _ => ?_
      | with_reducible refine Ok.ret ?_
      | refine Ok.load_any fun _ => ?_
    refine Ok.loop_any (fun t σ' => safe_t2 E i t σ') fun σ' => ?_
    conv => arg 3; whnf
    refine Ok.loop_any (fun t σ' => safe_t3 E i _ _ t σ') fun σ' => ?_
    obtain ⟨out, s, t32, t16, w1k, w2k, acc, mx, l⟩ := σ'
    repeat
      conv => arg 3; whnf
      first
      | with_reducible refine Ok.load_any fun _ => ?_
      | with_reducible refine Ok.store_any fun _ => ?_
      | with_reducible refine Ok.ret ?_
      | refine Ok.load_any fun _ => ?_
    trivial

/-- The whole body of a grid point. -/
theorem safe_body (σ : St F) : Ok E σ (cc0_dape_attention i E.m2 E.h2 E.m3 E.h3 E.m4 E.h4 E.m5 E.h5 E.m6 E.h6 E.m7 E.h7 E.m8 E.h8 E.m9 E.h9 E.m10 E.h10 E.m11 E.h11 E.m12 E.h12 E.m13 E.h13 E.m14 E.h14 E.m15 E.h15 E.m16 E.h16 E.m17 E.h17 E.m18 E.h18 E.m19 E.h19 E.m20 E.h20) (fun _ _ => True) := by
  refine Ok.bind' (p := k0_part208 i E.m2 E.h2 E.m3 E.h3 E.m4 E.h4 E.m5 E.h5 E.m6 E.h6 E.m7 E.h7 E.m8 E.h8 E.m9 E.h9 E.m10 E.h10 E.m11 E.h11 E.m12 E.h12 E.m13 E.h13 E.m14 E.h14 E.m15 E.h15 E.m16 E.h16 E.m17 E.h17 E.m18 E.h18 E.m19 E.h19 E.m20 E.h20) (R := fun _ _ => True) ?_ fun v σ' _ => ?_
  · refine Ok.bind' (safe_head E i σ) fun v σ' _ => ?_
    obtain ⟨out, s, t32, t16, w1k, w2k, acc, mx, l⟩ := σ'
    obtain ⟨v1, v2, v3⟩ := v
    repeat
      conv => arg 3; whnf
      first
      | with_reducible refine Ok.load_any fun _ => ?_
      | with_reducible refine Ok.store_any fun _ => ?_
      | with_reducible refine Ok.ret ?_
      | refine Ok.load_any fun _ => ?_
    trivial
  · obtain ⟨out, s, t32, t16, w1k, w2k, acc, mx, l⟩ := σ'
    repeat
      conv => arg 3; whnf
      first
      | with_reducible refine Ok.load_any fun _ => ?_
      | with_reducible refine Ok.store_any fun _ => ?_
      | with_reducible refine Ok.ret ?_
      | refine Ok.load_any fun _ => ?_
    trivial

end Cert.Kernel.Gen

end
-- ==== Proof.K.Run.lean ====
/- The kernel's frame: every run of the program ends, its arguments unchanged and every semaphore at zero.
   The output block's contents are not followed here. -/
module

public import proofs.«01_k».proof.Proof.K.Safe

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Dape

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The operands at grid point `t` of core `c`: the staged blocks and the scratch buffers. -/
def env (c : Dev nD) (t : Fin cfg0.N) : Env F where
  c := c
  m2 := st0_0 t
  h2 := hstage0_0 ((cfg0.slots t 0).cast nbuf0_0)
  X2 := iblk m c 0 t
  m3 := st0_1 t
  h3 := hstage0_1 ((cfg0.slots t 1).cast nbuf0_1)
  X3 := iblk m c 1 t
  m4 := st0_2 t
  h4 := hstage0_2 ((cfg0.slots t 2).cast nbuf0_2)
  X4 := iblk m c 2 t
  m5 := st0_3 t
  h5 := hstage0_3 ((cfg0.slots t 3).cast nbuf0_3)
  X5 := iblk m c 3 t
  m6 := st0_4 t
  h6 := hstage0_4 ((cfg0.slots t 4).cast nbuf0_4)
  X6 := iblk m c 4 t
  m7 := st0_5 t
  h7 := hstage0_5 ((cfg0.slots t 5).cast nbuf0_5)
  X7 := iblk m c 5 t
  m8 := st0_6 t
  h8 := hstage0_6 ((cfg0.slots t 6).cast nbuf0_6)
  X8 := iblk m c 6 t
  m9 := st0_7 t
  h9 := hstage0_7 ((cfg0.slots t 7).cast nbuf0_7)
  X9 := iblk m c 7 t
  m10 := st0_8 t
  h10 := hstage0_8 ((cfg0.slots t 8).cast nbuf0_8)
  X10 := iblk m c 8 t
  m11 := st0_9 t
  h11 := hstage0_9 ((cfg0.slots t 9).cast nbuf0_9)
  X11 := iblk m c 9 t
  m12 := st0_10 t
  h12 := hstage0_10 ((cfg0.slots t 10).cast nbuf0_10)
  m13 := Memref.whole cc0_scratch0
  h13 := Memref.isWhole_whole _
  m14 := Memref.whole cc0_scratch1
  h14 := Memref.isWhole_whole _
  m15 := Memref.whole cc0_scratch2
  h15 := Memref.isWhole_whole _
  m16 := Memref.whole cc0_scratch3
  h16 := Memref.isWhole_whole _
  m17 := Memref.whole cc0_scratch4
  h17 := Memref.isWhole_whole _
  m18 := Memref.whole cc0_scratch5
  h18 := Memref.isWhole_whole _
  m19 := Memref.whole cc0_scratch6
  h19 := Memref.isWhole_whole _
  m20 := Memref.whole cc0_scratch7
  h20 := Memref.isWhole_whole _

namespace Plain

/-- The proof data of the frame: the arrays as the region finds them, each input block left as found; the output
    block is not followed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => fun _ => Classical.choice inferInstance
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-- The window whose contents are not followed: the output's. -/
def fgt (w : Fin cfg0.W) : Bool := match w with
  | ⟨10, _⟩ => true
  | _ => false

def bodyPre (c : Dev nD) (t : Fin cfg0.N) : sProp 𝕄 :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ X, owns (c : Thread nD τ) (st0_10 t) fullShare X))

def bodyPost (c : Dev nD) (t : Fin cfg0.N) : sProp 𝕄 :=
  iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ (∃ X, owns (c : Thread nD τ) (st0_10 t) fullShare X))

theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  rw [show (dats m 0 c).Φ t.castSucc = Pipeline.ΦA spec0 c from rfl]
  unfold Pipeline.ΦA
  rw [scopedRest0_eq]
  iintro ⟨⟨⟨⟨%f0, S0⟩, ⟨%f1, S1⟩, ⟨%f2, S2⟩, ⟨%f3, S3⟩, ⟨%f4, S4⟩, ⟨%f5, S5⟩, ⟨%f6, S6⟩, ⟨%f7, S7⟩⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%X, H10⟩⟩
  have hb := safe_body (env m c t) (grid0.coords t) ⟨X, f0, f1, f2, f3, f4, f5, f6, f7⟩
  unfold Ok at hb
  iapply wp_wand_r frame (wpE (defs₀ (F := F)) Variants.none (c : Thread nD τ) none) Set.univ
  isplitl [S0 S1 S2 S3 S4 S5 S6 S7 H0 H1 H2 H3 H4 H5 H6 H7 H8 H9 H10]
  · iapply hb
    iapply own_intro
    dsimp only [env]
    simp only [owns_whole]
    iframe
  · iintro %a ⟨%σ', -, H⟩
    ihave H := (own_elim (env m c t) σ') $$ H
    dsimp only [env]
    simp only [owns_whole]
    icases H with ⟨H0, H1, H2, H3, H4, H5, H6, H7, H8, H9, H10, S0, S1, S2, S3, S4, S5, S6, S7⟩
    iframe
    isplitl [S0 S1 S2 S3 S4 S5 S6 S7]
    · isplitl [S0]; · iexists _; iexact S0
      isplitl [S1]; · iexists _; iexact S1
      isplitl [S2]; · iexists _; iexact S2
      isplitl [S3]; · iexists _; iexact S3
      isplitl [S4]; · iexists _; iexact S4
      isplitl [S5]; · iexists _; iexact S5
      isplitl [S6]; · iexists _; iexact S6
      iexists _; iexact S7
    · iexists _; iexact H10

theorem defs₀_row (t : Fin cfg0.N) :
    defs₀ (F := F) .tc cfg0.body (cfg0.bodyArgs t (cfg0.slots t)) = bodyAt0 t := by
  unfold defs₀; rw [Defs.onTc_tc]

theorem body_obligation (c : Dev nD) :
    Pipeline.BodyObligationLoose (dats (F := F) m 0 c) (defs₀ (F := F)) Variants.none () Set.univ fgt := fun t => by
  rw [bigSep_W0, bigSep_W0, defs₀_row]
  exact triple_restated (sound_body m c t) rfl .rfl fun _ => .rfl

theorem toRForget_arr (c : Dev nD) (w : Fin cfg0.W) (hw : fgt w = false) (A) :
    ((dats m 0 c).toRForget fgt).ArrAt w cfg0.N A ↔ A = (dats m 0 c).arrAt w cfg0.N :=
  (dats m 0 c).toRForget_arrAt_iff hw _ _

set_option backward.isDefEq.respectTransparency.types false in
set_option maxHeartbeats 800000 in
/-- Every run ends, its arguments unchanged and every semaphore at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) ∧ r.2.sem = fun _ => 0) :=
  Pipeline.θ_run_frame_forget cfgs (dats m) (0 : Fin 1) launch0 defs₀ Variants.none fgt m ρ main
    (hbody := body_obligation m) (hshare := fun c => (dats m 0 c).share_full fun _ => rfl)
    (howed := fun _ _ => rfl) (V := V m) (hmain := hmain m Variants.none) (hA := A_eq m) (hΦ := fun _ _ => rfl) (Q' := _)
    (hQ' := fun r ⟨h, hs⟩ => ⟨fun c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((toRForget_arr m c 6 rfl _).mp ((h c).1 6)).trans (((dats m 0 c).arrAt_in 6 rfl _).trans ((A_eq m c 6).trans (V_main_arg3 m c))),
      ((h c).2 main_arg4 (Pipeline.mem_restRefs_of main_arg4 (by decide) (by decide))).trans (V_main_arg4 m c),
      ((toRForget_arr m c 0 rfl _).mp ((h c).1 0)).trans (((dats m 0 c).arrAt_in 0 rfl _).trans ((A_eq m c 0).trans (V_main_arg5 m c))),
      ((toRForget_arr m c 1 rfl _).mp ((h c).1 1)).trans (((dats m 0 c).arrAt_in 1 rfl _).trans ((A_eq m c 1).trans (V_main_arg6 m c))),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩, hs⟩)

end Plain

end Cert.Kernel.Gen

end
-- ==== Proof.KI.State.lean ====
/- The state of one grid point of the kernel and what running a piece of its body does to it.
   `Env` names the operands: ten input blocks at fixed contents, the output block and eight scratch buffers.
   `Ok E σ p Q` says: holding all buffers, the changing ones at `σ`, the program `p` runs and ends with a
   value and a state in `Q`. -/
module

public import proofs.«01_k».proof.Proof.Cell
public import proofs.«01_k».proof.Proof.Gen.KernelIdeal.Frame
public import proofs.«01_k».proof.Proof.Gen.KernelIdeal.Skeleton

@[expose] public section

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Dape

variable {F : FTy → Type} [FloatOps F]

local notation "𝕄" => MT nD τ sig Unit (Elt F) ℕ (UR sig nD τ) ℕ

/-- The operands of one grid point: the core, every buffer, and the contents of the input blocks. -/
structure Env (F : FTy → Type) [FloatOps F] where
  c : Dev nD
  m2 : Memref sig .tc .smem S15 .f32
  h2 : m2.IsWhole
  X2 : S15.Idx → Elt F .f32
  m3 : Memref sig .tc .smem S15 .f32
  h3 : m3.IsWhole
  X3 : S15.Idx → Elt F .f32
  m4 : Memref sig .tc .vmem S1x256x1920 .fp8e4m3
  h4 : m4.IsWhole
  X4 : S1x256x1920.Idx → Elt F .fp8e4m3
  m5 : Memref sig .tc .vmem S1x2048x1920 .fp8e4m3
  h5 : m5.IsWhole
  X5 : S1x2048x1920.Idx → Elt F .fp8e4m3
  m6 : Memref sig .tc .vmem S1x15x128x2048 .bf16
  h6 : m6.IsWhole
  X6 : S1x15x128x2048.Idx → Elt F .bf16
  m7 : Memref sig .tc .vmem S1x15x256 .f32
  h7 : m7.IsWhole
  X7 : S1x15x256.Idx → Elt F .f32
  m8 : Memref sig .tc .vmem S1x2048x15 .f32
  h8 : m8.IsWhole
  X8 : S1x2048x15.Idx → Elt F .f32
  m9 : Memref sig .tc .vmem S32x30 .bf16
  h9 : m9.IsWhole
  X9 : S32x30.Idx → Elt F .bf16
  m10 : Memref sig .tc .vmem S1x32 .f32
  h10 : m10.IsWhole
  X10 : S1x32.Idx → Elt F .f32
  m11 : Memref sig .tc .vmem S15x32 .bf16
  h11 : m11.IsWhole
  X11 : S15x32.Idx → Elt F .bf16
  m12 : Memref sig .tc .vmem S1x256x1920 .bf16
  h12 : m12.IsWhole
  m13 : Memref sig .tc .vmem S32x16x8x256 .f32
  h13 : m13.IsWhole
  m14 : Memref sig .tc .vmem S256x120x128 .f32
  h14 : m14.IsWhole
  m15 : Memref sig .tc .vmem S256x128x128 .bf16
  h15 : m15.IsWhole
  m16 : Memref sig .tc .vmem S256x256 .bf16
  h16 : m16.IsWhole
  m17 : Memref sig .tc .vmem S128x256 .bf16
  h17 : m17.IsWhole
  m18 : Memref sig .tc .vmem S15x128x256 .f32
  h18 : m18.IsWhole
  m19 : Memref sig .tc .vmem S16x256 .f32
  h19 : m19.IsWhole
  m20 : Memref sig .tc .vmem S16x256 .f32
  h20 : m20.IsWhole

/-- The contents of the buffers a grid point writes. -/
structure St (F : FTy → Type) where
  out : S1x256x1920.Idx → Elt F .bf16
  s : S32x16x8x256.Idx → Elt F .f32
  t32 : S256x120x128.Idx → Elt F .f32
  t16 : S256x128x128.Idx → Elt F .bf16
  w1k : S256x256.Idx → Elt F .bf16
  w2k : S128x256.Idx → Elt F .bf16
  acc : S15x128x256.Idx → Elt F .f32
  mx : S16x256.Idx → Elt F .f32
  l : S16x256.Idx → Elt F .f32

/-- All buffers of a grid point, the changing ones at `σ`. -/
def Own (E : Env F) (σ : St F) : sProp 𝕄 :=
  iprop(held (E.c : Thread nD τ) E.h2 E.X2 ∗ held (E.c : Thread nD τ) E.h3 E.X3 ∗ held (E.c : Thread nD τ) E.h4 E.X4 ∗ held (E.c : Thread nD τ) E.h5 E.X5 ∗ held (E.c : Thread nD τ) E.h6 E.X6 ∗ held (E.c : Thread nD τ) E.h7 E.X7 ∗ held (E.c : Thread nD τ) E.h8 E.X8 ∗ held (E.c : Thread nD τ) E.h9 E.X9 ∗ held (E.c : Thread nD τ) E.h10 E.X10 ∗ held (E.c : Thread nD τ) E.h11 E.X11 ∗ held (E.c : Thread nD τ) E.h12 σ.out ∗ held (E.c : Thread nD τ) E.h13 σ.s ∗ held (E.c : Thread nD τ) E.h14 σ.t32 ∗ held (E.c : Thread nD τ) E.h15 σ.t16 ∗ held (E.c : Thread nD τ) E.h16 σ.w1k ∗ held (E.c : Thread nD τ) E.h17 σ.w2k ∗ held (E.c : Thread nD τ) E.h18 σ.acc ∗ held (E.c : Thread nD τ) E.h19 σ.mx ∗ held (E.c : Thread nD τ) E.h20 σ.l)

/-- Under `E` and `σ` the memref `m` holds `X`. -/
class Holds (E : Env F) (σ : St F) {sp : Space} {s : Shape} {e : EltTy} (m : Memref sig .tc sp s e) (h : outParam m.IsWhole) (X : outParam (s.Idx → Elt F e)) : Prop where
  get : Own E σ ⊢ iprop(held (E.c : Thread nD τ) h X ∗ (held (E.c : Thread nD τ) h X -∗ Own E σ))

/-- Under `E` and `σ` the memref `m` holds `X`, and overwriting it gives the state `put`. -/
class Puts (E : Env F) (σ : St F) {sp : Space} {s : Shape} {e : EltTy} (m : Memref sig .tc sp s e) (h : outParam m.IsWhole) (X : outParam (s.Idx → Elt F e)) (put : outParam ((s.Idx → Elt F e) → St F)) : Prop where
  get : Own E σ ⊢ iprop(held (E.c : Thread nD τ) h X ∗ ∀ X', held (E.c : Thread nD τ) h X' -∗ Own E (put X'))

instance (E : Env F) (σ : St F) : Holds E σ E.m2 E.h2 E.X2 := ⟨by
  unfold Own; iintro ⟨H2, H3, H4, H5, H6, H7, H8, H9, H10, H11, H12, H13, H14, H15, H16, H17, H18, H19, H20⟩; isplitl [H2]; · iexact H2
  iintro H2; iframe⟩
instance (E : Env F) (σ : St F) : Holds E σ E.m3 E.h3 E.X3 := ⟨by
  unfold Own; iintro ⟨H2, H3, H4, H5, H6, H7, H8, H9, H10, H11, H12, H13, H14, H15, H16, H17, H18, H19, H20⟩; isplitl [H3]; · iexact H3
  iintro H3; iframe⟩
instance (E : Env F) (σ : St F) : Holds E σ E.m4 E.h4 E.X4 := ⟨by
  unfold Own; iintro ⟨H2, H3, H4, H5, H6, H7, H8, H9, H10, H11, H12, H13, H14, H15, H16, H17, H18, H19, H20⟩; isplitl [H4]; · iexact H4
  iintro H4; iframe⟩
instance (E : Env F) (σ : St F) : Holds E σ E.m5 E.h5 E.X5 := ⟨by
  unfold Own; iintro ⟨H2, H3, H4, H5, H6, H7, H8, H9, H10, H11, H12, H13, H14, H15, H16, H17, H18, H19, H20⟩; isplitl [H5]; · iexact H5
  iintro H5; iframe⟩
instance (E : Env F) (σ : St F) : Holds E σ E.m6 E.h6 E.X6 := ⟨by
  unfold Own; iintro ⟨H2, H3, H4, H5, H6, H7, H8, H9, H10, H11, H12, H13, H14, H15, H16, H17, H18, H19, H20⟩; isplitl [H6]; · iexact H6
  iintro H6; iframe⟩
instance (E : Env F) (σ : St F) : Holds E σ E.m7 E.h7 E.X7 := ⟨by
  unfold Own; iintro ⟨H2, H3, H4, H5, H6, H7, H8, H9, H10, H11, H12, H13, H14, H15, H16, H17, H18, H19, H20⟩; isplitl [H7]; · iexact H7
  iintro H7; iframe⟩
instance (E : Env F) (σ : St F) : Holds E σ E.m8 E.h8 E.X8 := ⟨by
  unfold Own; iintro ⟨H2, H3, H4, H5, H6, H7, H8, H9, H10, H11, H12, H13, H14, H15, H16, H17, H18, H19, H20⟩; isplitl [H8]; · iexact H8
  iintro H8; iframe⟩
instance (E : Env F) (σ : St F) : Holds E σ E.m9 E.h9 E.X9 := ⟨by
  unfold Own; iintro ⟨H2, H3, H4, H5, H6, H7, H8, H9, H10, H11, H12, H13, H14, H15, H16, H17, H18, H19, H20⟩; isplitl [H9]; · iexact H9
  iintro H9; iframe⟩
instance (E : Env F) (σ : St F) : Holds E σ E.m10 E.h10 E.X10 := ⟨by
  unfold Own; iintro ⟨H2, H3, H4, H5, H6, H7, H8, H9, H10, H11, H12, H13, H14, H15, H16, H17, H18, H19, H20⟩; isplitl [H10]; · iexact H10
  iintro H10; iframe⟩
instance (E : Env F) (σ : St F) : Holds E σ E.m11 E.h11 E.X11 := ⟨by
  unfold Own; iintro ⟨H2, H3, H4, H5, H6, H7, H8, H9, H10, H11, H12, H13, H14, H15, H16, H17, H18, H19, H20⟩; isplitl [H11]; · iexact H11
  iintro H11; iframe⟩

variable (out : S1x256x1920.Idx → Elt F .bf16) (s : S32x16x8x256.Idx → Elt F .f32) (t32 : S256x120x128.Idx → Elt F .f32) (t16 : S256x128x128.Idx → Elt F .bf16) (w1k : S256x256.Idx → Elt F .bf16) (w2k : S128x256.Idx → Elt F .bf16) (acc : S15x128x256.Idx → Elt F .f32) (mx l : S16x256.Idx → Elt F .f32)

instance (E : Env F) : Puts E ⟨out, s, t32, t16, w1k, w2k, acc, mx, l⟩ E.m12 E.h12 out (fun x => ⟨x, s, t32, t16, w1k, w2k, acc, mx, l⟩) := ⟨by
  unfold Own; iintro ⟨H2, H3, H4, H5, H6, H7, H8, H9, H10, H11, H12, H13, H14, H15, H16, H17, H18, H19, H20⟩; isplitl [H12]; · iexact H12
  iintro %x H12; iframe⟩
instance (E : Env F) : Holds E ⟨out, s, t32, t16, w1k, w2k, acc, mx, l⟩ E.m12 E.h12 out := ⟨by
  unfold Own; iintro ⟨H2, H3, H4, H5, H6, H7, H8, H9, H10, H11, H12, H13, H14, H15, H16, H17, H18, H19, H20⟩; isplitl [H12]; · iexact H12
  iintro H12; iframe⟩
instance (E : Env F) : Puts E ⟨out, s, t32, t16, w1k, w2k, acc, mx, l⟩ E.m13 E.h13 s (fun x => ⟨out, x, t32, t16, w1k, w2k, acc, mx, l⟩) := ⟨by
  unfold Own; iintro ⟨H2, H3, H4, H5, H6, H7, H8, H9, H10, H11, H12, H13, H14, H15, H16, H17, H18, H19, H20⟩; isplitl [H13]; · iexact H13
  iintro %x H13; iframe⟩
instance (E : Env F) : Holds E ⟨out, s, t32, t16, w1k, w2k, acc, mx, l⟩ E.m13 E.h13 s := ⟨by
  unfold Own; iintro ⟨H2, H3, H4, H5, H6, H7, H8, H9, H10, H11, H12, H13, H14, H15, H16, H17, H18, H19, H20⟩; isplitl [H13]; · iexact H13
  iintro H13; iframe⟩
instance (E : Env F) : Puts E ⟨out, s, t32, t16, w1k, w2k, acc, mx, l⟩ E.m14 E.h14 t32 (fun x => ⟨out, s, x, t16, w1k, w2k, acc, mx, l⟩) := ⟨by
  unfold Own; iintro ⟨H2, H3, H4, H5, H6, H7, H8, H9, H10, H11, H12, H13, H14, H15, H16, H17, H18, H19, H20⟩; isplitl [H14]; · iexact H14
  iintro %x H14; iframe⟩
instance (E : Env F) : Holds E ⟨out, s, t32, t16, w1k, w2k, acc, mx, l⟩ E.m14 E.h14 t32 := ⟨by
  unfold Own; iintro ⟨H2, H3, H4, H5, H6, H7, H8, H9, H10, H11, H12, H13, H14, H15, H16, H17, H18, H19, H20⟩; isplitl [H14]; · iexact H14
  iintro H14; iframe⟩
instance (E : Env F) : Puts E ⟨out, s, t32, t16, w1k, w2k, acc, mx, l⟩ E.m15 E.h15 t16 (fun x => ⟨out, s, t32, x, w1k, w2k, acc, mx, l⟩) := ⟨by
  unfold Own; iintro ⟨H2, H3, H4, H5, H6, H7, H8, H9, H10, H11, H12, H13, H14, H15, H16, H17, H18, H19, H20⟩; isplitl [H15]; · iexact H15
  iintro %x H15; iframe⟩
instance (E : Env F) : Holds E ⟨out, s, t32, t16, w1k, w2k, acc, mx, l⟩ E.m15 E.h15 t16 := ⟨by
  unfold Own; iintro ⟨H2, H3, H4, H5, H6, H7, H8, H9, H10, H11, H12, H13, H14, H15, H16, H17, H18, H19, H20⟩; isplitl [H15]; · iexact H15
  iintro H15; iframe⟩
instance (E : Env F) : Puts E ⟨out, s, t32, t16, w1k, w2k, acc, mx, l⟩ E.m16 E.h16 w1k (fun x => ⟨out, s, t32, t16, x, w2k, acc, mx, l⟩) := ⟨by
  unfold Own; iintro ⟨H2, H3, H4, H5, H6, H7, H8, H9, H10, H11, H12, H13, H14, H15, H16, H17, H18, H19, H20⟩; isplitl [H16]; · iexact H16
  iintro %x H16; iframe⟩
instance (E : Env F) : Holds E ⟨out, s, t32, t16, w1k, w2k, acc, mx, l⟩ E.m16 E.h16 w1k := ⟨by
  unfold Own; iintro ⟨H2, H3, H4, H5, H6, H7, H8, H9, H10, H11, H12, H13, H14, H15, H16, H17, H18, H19, H20⟩; isplitl [H16]; · iexact H16
  iintro H16; iframe⟩
instance (E : Env F) : Puts E ⟨out, s, t32, t16, w1k, w2k, acc, mx, l⟩ E.m17 E.h17 w2k (fun x => ⟨out, s, t32, t16, w1k, x, acc, mx, l⟩) := ⟨by
  unfold Own; iintro ⟨H2, H3, H4, H5, H6, H7, H8, H9, H10, H11, H12, H13, H14, H15, H16, H17, H18, H19, H20⟩; isplitl [H17]; · iexact H17
  iintro %x H17; iframe⟩
instance (E : Env F) : Holds E ⟨out, s, t32, t16, w1k, w2k, acc, mx, l⟩ E.m17 E.h17 w2k := ⟨by
  unfold Own; iintro ⟨H2, H3, H4, H5, H6, H7, H8, H9, H10, H11, H12, H13, H14, H15, H16, H17, H18, H19, H20⟩; isplitl [H17]; · iexact H17
  iintro H17; iframe⟩
instance (E : Env F) : Puts E ⟨out, s, t32, t16, w1k, w2k, acc, mx, l⟩ E.m18 E.h18 acc (fun x => ⟨out, s, t32, t16, w1k, w2k, x, mx, l⟩) := ⟨by
  unfold Own; iintro ⟨H2, H3, H4, H5, H6, H7, H8, H9, H10, H11, H12, H13, H14, H15, H16, H17, H18, H19, H20⟩; isplitl [H18]; · iexact H18
  iintro %x H18; iframe⟩
instance (E : Env F) : Holds E ⟨out, s, t32, t16, w1k, w2k, acc, mx, l⟩ E.m18 E.h18 acc := ⟨by
  unfold Own; iintro ⟨H2, H3, H4, H5, H6, H7, H8, H9, H10, H11, H12, H13, H14, H15, H16, H17, H18, H19, H20⟩; isplitl [H18]; · iexact H18
  iintro H18; iframe⟩
instance (E : Env F) : Puts E ⟨out, s, t32, t16, w1k, w2k, acc, mx, l⟩ E.m19 E.h19 mx (fun x => ⟨out, s, t32, t16, w1k, w2k, acc, x, l⟩) := ⟨by
  unfold Own; iintro ⟨H2, H3, H4, H5, H6, H7, H8, H9, H10, H11, H12, H13, H14, H15, H16, H17, H18, H19, H20⟩; isplitl [H19]; · iexact H19
  iintro %x H19; iframe⟩
instance (E : Env F) : Holds E ⟨out, s, t32, t16, w1k, w2k, acc, mx, l⟩ E.m19 E.h19 mx := ⟨by
  unfold Own; iintro ⟨H2, H3, H4, H5, H6, H7, H8, H9, H10, H11, H12, H13, H14, H15, H16, H17, H18, H19, H20⟩; isplitl [H19]; · iexact H19
  iintro H19; iframe⟩
instance (E : Env F) : Puts E ⟨out, s, t32, t16, w1k, w2k, acc, mx, l⟩ E.m20 E.h20 l (fun x => ⟨out, s, t32, t16, w1k, w2k, acc, mx, x⟩) := ⟨by
  unfold Own; iintro ⟨H2, H3, H4, H5, H6, H7, H8, H9, H10, H11, H12, H13, H14, H15, H16, H17, H18, H19, H20⟩; isplitl [H20]; · iexact H20
  iintro %x H20; iframe⟩
instance (E : Env F) : Holds E ⟨out, s, t32, t16, w1k, w2k, acc, mx, l⟩ E.m20 E.h20 l := ⟨by
  unfold Own; iintro ⟨H2, H3, H4, H5, H6, H7, H8, H9, H10, H11, H12, H13, H14, H15, H16, H17, H18, H19, H20⟩; isplitl [H20]; · iexact H20
  iintro H20; iframe⟩

/-- The buffers of a grid point, from each one's contents. -/
theorem own_intro (E : Env F) (σ : St F) :
    iprop(owns (E.c : Thread nD τ) E.m2 fullShare E.X2 ∗ owns (E.c : Thread nD τ) E.m3 fullShare E.X3 ∗ owns (E.c : Thread nD τ) E.m4 fullShare E.X4 ∗ owns (E.c : Thread nD τ) E.m5 fullShare E.X5 ∗ owns (E.c : Thread nD τ) E.m6 fullShare E.X6 ∗ owns (E.c : Thread nD τ) E.m7 fullShare E.X7 ∗ owns (E.c : Thread nD τ) E.m8 fullShare E.X8 ∗ owns (E.c : Thread nD τ) E.m9 fullShare E.X9 ∗ owns (E.c : Thread nD τ) E.m10 fullShare E.X10 ∗ owns (E.c : Thread nD τ) E.m11 fullShare E.X11 ∗ owns (E.c : Thread nD τ) E.m12 fullShare σ.out ∗ owns (E.c : Thread nD τ) E.m13 fullShare σ.s ∗ owns (E.c : Thread nD τ) E.m14 fullShare σ.t32 ∗ owns (E.c : Thread nD τ) E.m15 fullShare σ.t16 ∗ owns (E.c : Thread nD τ) E.m16 fullShare σ.w1k ∗ owns (E.c : Thread nD τ) E.m17 fullShare σ.w2k ∗ owns (E.c : Thread nD τ) E.m18 fullShare σ.acc ∗ owns (E.c : Thread nD τ) E.m19 fullShare σ.mx ∗ owns (E.c : Thread nD τ) E.m20 fullShare σ.l) ⊢ (Own E σ : sProp 𝕄) := by
  unfold Own
  refine _root_.Idealize.SL.BI.sep_mono (held_of_owns (c := (E.c : Thread nD τ)) E.h2 E.X2) <| _root_.Idealize.SL.BI.sep_mono (held_of_owns (c := (E.c : Thread nD τ)) E.h3 E.X3) <| _root_.Idealize.SL.BI.sep_mono (held_of_owns (c := (E.c : Thread nD τ)) E.h4 E.X4) <| _root_.Idealize.SL.BI.sep_mono (held_of_owns (c := (E.c : Thread nD τ)) E.h5 E.X5) <| _root_.Idealize.SL.BI.sep_mono (held_of_owns (c := (E.c : Thread nD τ)) E.h6 E.X6) <| _root_.Idealize.SL.BI.sep_mono (held_of_owns (c := (E.c : Thread nD τ)) E.h7 E.X7) <| _root_.Idealize.SL.BI.sep_mono (held_of_owns (c := (E.c : Thread nD τ)) E.h8 E.X8) <| _root_.Idealize.SL.BI.sep_mono (held_of_owns (c := (E.c : Thread nD τ)) E.h9 E.X9) <| _root_.Idealize.SL.BI.sep_mono (held_of_owns (c := (E.c : Thread nD τ)) E.h10 E.X10) <| _root_.Idealize.SL.BI.sep_mono (held_of_owns (c := (E.c : Thread nD τ)) E.h11 E.X11) <| _root_.Idealize.SL.BI.sep_mono (held_of_owns (c := (E.c : Thread nD τ)) E.h12 σ.out) <| _root_.Idealize.SL.BI.sep_mono (held_of_owns (c := (E.c : Thread nD τ)) E.h13 σ.s) <| _root_.Idealize.SL.BI.sep_mono (held_of_owns (c := (E.c : Thread nD τ)) E.h14 σ.t32) <| _root_.Idealize.SL.BI.sep_mono (held_of_owns (c := (E.c : Thread nD τ)) E.h15 σ.t16) <| _root_.Idealize.SL.BI.sep_mono (held_of_owns (c := (E.c : Thread nD τ)) E.h16 σ.w1k) <| _root_.Idealize.SL.BI.sep_mono (held_of_owns (c := (E.c : Thread nD τ)) E.h17 σ.w2k) <| _root_.Idealize.SL.BI.sep_mono (held_of_owns (c := (E.c : Thread nD τ)) E.h18 σ.acc) <| _root_.Idealize.SL.BI.sep_mono (held_of_owns (c := (E.c : Thread nD τ)) E.h19 σ.mx) <| held_of_owns (c := (E.c : Thread nD τ)) E.h20 σ.l

/-- Each buffer's contents, from the buffers of a grid point. -/
theorem own_elim (E : Env F) (σ : St F) :
    (Own E σ : sProp 𝕄) ⊢ iprop(owns (E.c : Thread nD τ) E.m2 fullShare E.X2 ∗ owns (E.c : Thread nD τ) E.m3 fullShare E.X3 ∗ owns (E.c : Thread nD τ) E.m4 fullShare E.X4 ∗ owns (E.c : Thread nD τ) E.m5 fullShare E.X5 ∗ owns (E.c : Thread nD τ) E.m6 fullShare E.X6 ∗ owns (E.c : Thread nD τ) E.m7 fullShare E.X7 ∗ owns (E.c : Thread nD τ) E.m8 fullShare E.X8 ∗ owns (E.c : Thread nD τ) E.m9 fullShare E.X9 ∗ owns (E.c : Thread nD τ) E.m10 fullShare E.X10 ∗ owns (E.c : Thread nD τ) E.m11 fullShare E.X11 ∗ owns (E.c : Thread nD τ) E.m12 fullShare σ.out ∗ owns (E.c : Thread nD τ) E.m13 fullShare σ.s ∗ owns (E.c : Thread nD τ) E.m14 fullShare σ.t32 ∗ owns (E.c : Thread nD τ) E.m15 fullShare σ.t16 ∗ owns (E.c : Thread nD τ) E.m16 fullShare σ.w1k ∗ owns (E.c : Thread nD τ) E.m17 fullShare σ.w2k ∗ owns (E.c : Thread nD τ) E.m18 fullShare σ.acc ∗ owns (E.c : Thread nD τ) E.m19 fullShare σ.mx ∗ owns (E.c : Thread nD τ) E.m20 fullShare σ.l) := by
  unfold Own
  refine _root_.Idealize.SL.BI.sep_mono (owns_of_held (c := (E.c : Thread nD τ)) E.h2 E.X2) <| _root_.Idealize.SL.BI.sep_mono (owns_of_held (c := (E.c : Thread nD τ)) E.h3 E.X3) <| _root_.Idealize.SL.BI.sep_mono (owns_of_held (c := (E.c : Thread nD τ)) E.h4 E.X4) <| _root_.Idealize.SL.BI.sep_mono (owns_of_held (c := (E.c : Thread nD τ)) E.h5 E.X5) <| _root_.Idealize.SL.BI.sep_mono (owns_of_held (c := (E.c : Thread nD τ)) E.h6 E.X6) <| _root_.Idealize.SL.BI.sep_mono (owns_of_held (c := (E.c : Thread nD τ)) E.h7 E.X7) <| _root_.Idealize.SL.BI.sep_mono (owns_of_held (c := (E.c : Thread nD τ)) E.h8 E.X8) <| _root_.Idealize.SL.BI.sep_mono (owns_of_held (c := (E.c : Thread nD τ)) E.h9 E.X9) <| _root_.Idealize.SL.BI.sep_mono (owns_of_held (c := (E.c : Thread nD τ)) E.h10 E.X10) <| _root_.Idealize.SL.BI.sep_mono (owns_of_held (c := (E.c : Thread nD τ)) E.h11 E.X11) <| _root_.Idealize.SL.BI.sep_mono (owns_of_held (c := (E.c : Thread nD τ)) E.h12 σ.out) <| _root_.Idealize.SL.BI.sep_mono (owns_of_held (c := (E.c : Thread nD τ)) E.h13 σ.s) <| _root_.Idealize.SL.BI.sep_mono (owns_of_held (c := (E.c : Thread nD τ)) E.h14 σ.t32) <| _root_.Idealize.SL.BI.sep_mono (owns_of_held (c := (E.c : Thread nD τ)) E.h15 σ.t16) <| _root_.Idealize.SL.BI.sep_mono (owns_of_held (c := (E.c : Thread nD τ)) E.h16 σ.w1k) <| _root_.Idealize.SL.BI.sep_mono (owns_of_held (c := (E.c : Thread nD τ)) E.h17 σ.w2k) <| _root_.Idealize.SL.BI.sep_mono (owns_of_held (c := (E.c : Thread nD τ)) E.h18 σ.acc) <| _root_.Idealize.SL.BI.sep_mono (owns_of_held (c := (E.c : Thread nD τ)) E.h19 σ.mx) <| owns_of_held (c := (E.c : Thread nD τ)) E.h20 σ.l

/-- `p`, run from the state `σ`, ends with a value and a state in `Q`. -/
def Ok {α : Type} (E : Env F) (σ : St F) (p : Prog (TpuEff nD τ sig (Elt F) Λ₀ .tc) α) (Q : α → St F → Prop) : Prop :=
  (Own E σ : sProp 𝕄) ⊢ wp frame (wpE (defs₀ (F := F)) Variants.none (E.c : Thread nD τ) none) Set.univ p
    (fun a => iprop(∃ σ', ⌜Q a σ'⌝ ∗ Own E σ'))

variable {α β : Type} {E : Env F} {σ : St F}

theorem Ok.bind {p : Prog (TpuEff nD τ sig (Elt F) Λ₀ .tc) β} {k : β → Prog (TpuEff nD τ sig (Elt F) Λ₀ .tc) α} {Q : α → St F → Prop}
    (h : Ok E σ p (fun b σ' => Ok E σ' (k b) Q)) : Ok E σ (p >>= k) Q := by
  unfold Ok at h ⊢
  rw [wp_bind]
  refine h.trans (wp_mono _ _ _ fun b => ?_)
  iintro ⟨%σ', %hq, H⟩
  iapply hq
  iexact H

theorem Ok.bind' {p : Prog (TpuEff nD τ sig (Elt F) Λ₀ .tc) β} {k : β → Prog (TpuEff nD τ sig (Elt F) Λ₀ .tc) α} {Q : α → St F → Prop} {R : β → St F → Prop}
    (h : Ok E σ p R) (h' : ∀ b σ', R b σ' → Ok E σ' (k b) Q) : Ok E σ (p >>= k) Q := by
  apply Ok.bind
  unfold Ok at h ⊢
  refine h.trans (wp_mono _ _ _ fun b => ?_)
  iintro ⟨%σ', %hq, H⟩
  iexists σ'
  isplitr
  · ipureintro; exact h' b σ' hq
  · iexact H

theorem Ok.mono {p : Prog (TpuEff nD τ sig (Elt F) Λ₀ .tc) α} {Q R : α → St F → Prop}
    (h : Ok E σ p R) (h' : ∀ b σ', R b σ' → Q b σ') : Ok E σ p Q := by
  unfold Ok at h ⊢
  refine h.trans (wp_mono _ _ _ fun b => ?_)
  iintro ⟨%σ', %hq, H⟩
  iexists σ'
  isplitr
  · ipureintro; exact h' b σ' hq
  · iexact H

theorem Ok.ret {a : α} {Q : α → St F → Prop} (h : Q a σ) : Ok E σ (.ret a) Q := by
  unfold Ok
  rw [wp_ret]
  refine Entails.trans ?_ fupd_intro
  iintro H
  iexists σ
  isplitr
  · ipureintro; exact h
  · iexact H

theorem Ok.load {cs : CoreSpace} {s : Shape} {e : EltTy} {m : Memref sig .tc cs s e} {h : m.IsWhole} {X : s.Idx → Elt F e} [hc : Holds E σ m h X]
    {off size : Fin s.rank → ℕ} {inb : ∀ a, off a + size a ≤ s.size a} {hl : m.view.LoadsAt (Rect.unit off size inb).toLoadRect}
    {k : ((Rect.unit off size inb).shape.Idx → Elt F e) → Prog (TpuEff nD τ sig (Elt F) Λ₀ .tc) α} {Q : α → St F → Prop}
    (hk : Ok E σ (k (rdO off size inb X)) Q) : Ok E σ (.op (.load m (Rect.unit off size inb).toLoadRect hl) k) Q := by
  unfold Ok at hk ⊢
  refine hc.get.trans ?_
  iintro ⟨H, Hb⟩
  iapply (held_load (c := (E.c : Thread nD τ)) h X) $$ H
  iintro H
  iapply hk
  iapply Hb $$ H

theorem Ok.store {cs : CoreSpace} {s : Shape} {e : EltTy} {m : Memref sig .tc cs s e} {h : m.IsWhole} {X : s.Idx → Elt F e}
    {put : (s.Idx → Elt F e) → St F} [hc : Puts E σ m h X put]
    {off size : Fin s.rank → ℕ} {inb : ∀ a, off a + size a ≤ s.size a} {w : (Rect.unit off size inb).shape.Idx → Elt F e}
    {hx : (m.access (Rect.unit off size inb)).Stores Finset.univ} {hm : Finset.univ = Finset.univ ∨ ∀ a, (Rect.unit off size inb).stride a = 1}
    {k : PUnit → Prog (TpuEff nD τ sig (Elt F) Λ₀ .tc) α} {Q : α → St F → Prop}
    (hk : Ok E (put (updO off size inb w X)) (k ⟨⟩) Q) : Ok E σ (.op (.store m (Rect.unit off size inb) w Finset.univ hx hm) k) Q := by
  unfold Ok at hk ⊢
  refine hc.get.trans ?_
  iintro ⟨H, Hb⟩
  iapply (held_store (c := (E.c : Thread nD τ)) h X) $$ H
  iintro H
  iapply hk
  iapply Hb $$ H

/-- A load, its value forgotten. -/
theorem Ok.load_any {cs : CoreSpace} {s : Shape} {e : EltTy} {m : Memref sig .tc cs s e} {h : m.IsWhole} {X : s.Idx → Elt F e} [hc : Holds E σ m h X]
    {off size : Fin s.rank → ℕ} {inb : ∀ a, off a + size a ≤ s.size a} {hl : m.view.LoadsAt (Rect.unit off size inb).toLoadRect}
    {k : ((Rect.unit off size inb).shape.Idx → Elt F e) → Prog (TpuEff nD τ sig (Elt F) Λ₀ .tc) α} {Q : α → St F → Prop}
    (hk : ∀ v, Ok E σ (k v) Q) : Ok E σ (.op (.load m (Rect.unit off size inb).toLoadRect hl) k) Q := Ok.load (hk _)

/-- A store, what it stores forgotten. -/
theorem Ok.store_any {cs : CoreSpace} {s : Shape} {e : EltTy} {m : Memref sig .tc cs s e} {h : m.IsWhole} {X : s.Idx → Elt F e}
    {put : (s.Idx → Elt F e) → St F} [hc : Puts E σ m h X put]
    {off size : Fin s.rank → ℕ} {inb : ∀ a, off a + size a ≤ s.size a} {w : (Rect.unit off size inb).shape.Idx → Elt F e}
    {hx : (m.access (Rect.unit off size inb)).Stores Finset.univ} {hm : Finset.univ = Finset.univ ∨ ∀ a, (Rect.unit off size inb).stride a = 1}
    {k : PUnit → Prog (TpuEff nD τ sig (Elt F) Λ₀ .tc) α} {Q : α → St F → Prop}
    (hk : ∀ x, Ok E (put x) (k ⟨⟩) Q) : Ok E σ (.op (.store m (Rect.unit off size inb) w Finset.univ hx hm) k) Q := Ok.store (hk _)

/-- A counted loop keeps an invariant of the state. -/
theorem Ok.loop {w : ℕ} (l : Scf.Loop w) (hok : l.OK) (I : ℕ → St F → Prop) {body : Fin l.trips → Unit → Prog (TpuEff nD τ sig (Elt F) Λ₀ .tc) Unit}
    (h0 : I 0 σ) (hb : ∀ (k : Fin l.trips) σ', I k σ' → Ok E σ' (body k ⟨⟩) (fun _ σ'' => I (k + 1) σ''))
    {Q : Unit → St F → Prop} (hQ : ∀ σ', I l.trips σ' → Q ⟨⟩ σ') : Ok E σ (Scf.Loop.for l hok ⟨⟩ body) Q := by
  unfold Ok
  have := Scf.wp_for frame (wpE (defs₀ (F := F)) Variants.none (E.c : Thread nD τ) none) Set.univ l.lb l.ub l.st hok ⟨⟩ body
    (fun n _ => iprop(∃ σ', ⌜I n σ'⌝ ∗ Own E σ')) (by
      intro k acc
      iintro ⟨%σ', %hi, H⟩
      have hbk := hb k σ' hi
      unfold Ok at hbk
      iapply hbk
      iexact H) (Q := (fun a => iprop(∃ σ', ⌜Q a σ'⌝ ∗ Own E σ')))
  refine BIBase.Entails.trans ?_ this
  iintro H
  isplitl [H]
  · iexists σ
    isplitr
    · ipureintro; exact h0
    · iexact H
  · iintro %acc ⟨%σ', %hi, H⟩
    iexists σ'
    isplitr
    · ipureintro; exact hQ σ' hi
    · iexact H

/-- A counted loop at the head of a program, the state after it forgotten. -/
theorem Ok.loop_any {w : ℕ} {l : Scf.Loop w} {hok : l.OK} {body : Fin l.trips → Unit → Prog (TpuEff nD τ sig (Elt F) Λ₀ .tc) Unit}
    {k : Unit → Prog (TpuEff nD τ sig (Elt F) Λ₀ .tc) α} {Q : α → St F → Prop}
    (hb : ∀ (t : Fin l.trips) σ', Ok E σ' (body t ⟨⟩) (fun _ _ => True)) (hk : ∀ σ', Ok E σ' (k ⟨⟩) Q) :
    Ok E σ ((Scf.Loop.for l hok ⟨⟩ body).bind k) Q :=
  Ok.bind' (R := fun _ _ => True) (Ok.loop l hok (fun _ _ => True) trivial (fun t σ' _ => hb t σ') fun _ _ => trivial) fun _ σ' _ => hk σ'

theorem Ok.dite {c : Prop} [Decidable c] {t : c → Prog (TpuEff nD τ sig (Elt F) Λ₀ .tc) α} {e : ¬ c → Prog (TpuEff nD τ sig (Elt F) Λ₀ .tc) α}
    {Q : α → St F → Prop} (ht : ∀ h, Ok E σ (t h) Q) (he : ∀ h, Ok E σ (e h) Q) : Ok E σ (if h : c then t h else e h) Q := by
  split
  · exact ht _
  · exact he _

end Cert.KernelIdeal.Gen

end
-- ==== Proof.KI.Safe.lean ====
/- Every grid point of the kernel runs to its end: each access it makes lies in a buffer it holds. The loop
   bodies, the first point's set-up, and the whole body, one operation after another. -/
module

public import proofs.«01_k».proof.Proof.KI.State

@[expose] public section

set_option maxRecDepth 65536
set_option maxHeartbeats 4000000

noncomputable section

namespace Cert.KernelIdeal.Gen

open Idealize.ShloMosaic Idealize.ShloMosaic.TcCoe Idealize.ShloMosaic.Tactic
open Dape

variable {F : FTy → Type} [FloatOps F] (E : Env F) (i : grid0.Coords)

/-- One trip of the loop that fills the bias tables. -/
theorem safe_t1 (h1 : k0_cond1 i = 1#1) (k : Fin k0_t1_loop.trips) (σ : St F) :
    Ok E σ (k0_t1_body i E.m2 E.h2 E.m3 E.h3 E.m4 E.h4 E.m5 E.h5 E.m6 E.h6 E.m7 E.h7 E.m8 E.h8 E.m9 E.h9 E.m10 E.h10 E.m11 E.h11 E.m12 E.h12 E.m13 E.h13 E.m14 E.h14 E.m15 E.h15 E.m16 E.h16 E.m17 E.h17 E.m18 E.h18 E.m19 E.h19 E.m20 E.h20 h1 k ⟨⟩) (fun _ _ => True) := by
  obtain ⟨out, s, t32, t16, w1k, w2k, acc, mx, l⟩ := σ
  repeat
    conv => arg 3; whnf
    first
    | with_reducible refine Ok.load_any fun _ => ?_
    | with_reducible refine Ok.store_any fun _ => ?_
    | with_reducible refine Ok.ret ?_
    | refine Ok.load_any fun _ => ?_
  trivial

/-- One trip of the loop over the key blocks before the diagonal. -/
theorem safe_t2 (k : Fin (k0_t2_loop i).trips) (σ : St F) :
    Ok E σ (k0_t2_body i E.m2 E.h2 E.m3 E.h3 E.m4 E.h4 E.m5 E.h5 E.m6 E.h6 E.m7 E.h7 E.m8 E.h8 E.m9 E.h9 E.m10 E.h10 E.m11 E.h11 E.m12 E.h12 E.m13 E.h13 E.m14 E.h14 E.m15 E.h15 E.m16 E.h16 E.m17 E.h17 E.m18 E.h18 E.m19 E.h19 E.m20 E.h20 (BitVec.ofNat 32 (i 1).val) k ⟨⟩) (fun _ _ => True) := by
  obtain ⟨out, s, t32, t16, w1k, w2k, acc, mx, l⟩ := σ
  repeat
    conv => arg 3; whnf
    first
    | with_reducible refine Ok.load_any fun _ => ?_
    | with_reducible refine Ok.store_any fun _ => ?_
    | with_reducible refine Ok.ret ?_
    | refine Ok.load_any fun _ => ?_
  trivial

/-- One trip of the loop's remainder. -/
theorem safe_t3 (a b : BitVec 32) (k : Fin (k0_t3_loop i).trips) (σ : St F) :
    Ok E σ (k0_t3_body i E.m2 E.h2 E.m3 E.h3 E.m4 E.h4 E.m5 E.h5 E.m6 E.h6 E.m7 E.h7 E.m8 E.h8 E.m9 E.h9 E.m10 E.h10 E.m11 E.h11 E.m12 E.h12 E.m13 E.h13 E.m14 E.h14 E.m15 E.h15 E.m16 E.h16 E.m17 E.h17 E.m18 E.h18 E.m19 E.h19 E.m20 E.h20 a b k ⟨⟩) (fun _ _ => True) := by
  obtain ⟨out, s, t32, t16, w1k, w2k, acc, mx, l⟩ := σ
  repeat
    conv => arg 3; whnf
    first
    | with_reducible refine Ok.load_any fun _ => ?_
    | with_reducible refine Ok.store_any fun _ => ?_
    | with_reducible refine Ok.ret ?_
    | refine Ok.load_any fun _ => ?_
  trivial

/-- The first point's set-up, the start of the running sums, and the key blocks before the diagonal. -/
theorem safe_head (σ : St F) : Ok E σ (k0_part144 i E.m2 E.h2 E.m3 E.h3 E.m4 E.h4 E.m5 E.h5 E.m6 E.h6 E.m7 E.h7 E.m8 E.h8 E.m9 E.h9 E.m10 E.h10 E.m11 E.h11 E.m12 E.h12 E.m13 E.h13 E.m14 E.h14 E.m15 E.h15 E.m16 E.h16 E.m17 E.h17 E.m18 E.h18 E.m19 E.h19 E.m20 E.h20) (fun _ _ => True) := by
  rw [k0_part144_eq_skeleton (F := F)]
  unfold k0_part144_skel
  obtain ⟨out, s, t32, t16, w1k, w2k, acc, mx, l⟩ := σ
  refine Ok.dite (fun h1 => ?_) fun h1 => ?_
  · conv => arg 3; whnf
    repeat
      conv => arg 3; whnf
      first
      | with_reducible refine Ok.load_any fun _ => ?_
      | with_reducible refine Ok.store_any fun _ => ?_
      | with_reducible refine Ok.ret ?_
      | refine Ok.load_any fun _ => ?_
    refine Ok.loop_any (fun t σ' => safe_t1 E i h1 t σ') fun σ' => ?_
    obtain ⟨out, s, t32, t16, w1k, w2k, acc, mx, l⟩ := σ'
    repeat
      conv => arg 3; whnf
      first
      | with_reducible refine Ok.load_any fun _ => ?_
      | with_reducible refine Ok.store_any fun _ => ?_
      | with_reducible refine Ok.ret ?_
      | refine Ok.load_any fun _ => ?_
    refine Ok.loop_any (fun t σ' => safe_t2 E i t σ') fun σ' => ?_
    conv => arg 3; whnf
    refine Ok.loop_any (fun t σ' => safe_t3 E i _ _ t σ') fun σ' => ?_
    obtain ⟨out, s, t32, t16, w1k, w2k, acc, mx, l⟩ := σ'
    repeat
      conv => arg 3; whnf
      first
      | with_reducible refine Ok.load_any fun _ => ?_
      | with_reducible refine Ok.store_any fun _ => ?_
      | with_reducible refine Ok.ret ?_
      | refine Ok.load_any fun _ => ?_
    trivial
  · conv => arg 3; whnf
    repeat
      conv => arg 3; whnf
      first
      | with_reducible refine Ok.load_any fun _ => ?_
      | with_reducible refine Ok.store_any fun _ => ?_
      | with_reducible refine Ok.ret ?_
      | refine Ok.load_any fun _ => ?_
    refine Ok.loop_any (fun t σ' => safe_t2 E i t σ') fun σ' => ?_
    conv => arg 3; whnf
    refine Ok.loop_any (fun t σ' => safe_t3 E i _ _ t σ') fun σ' => ?_
    obtain ⟨out, s, t32, t16, w1k, w2k, acc, mx, l⟩ := σ'
    repeat
      conv => arg 3; whnf
      first
      | with_reducible refine Ok.load_any fun _ => ?_
      | with_reducible refine Ok.store_any fun _ => ?_
      | with_reducible refine Ok.ret ?_
      | refine Ok.load_any fun _ => ?_
    trivial

/-- The whole body of a grid point. -/
theorem safe_body (σ : St F) : Ok E σ (cc0_dape_attention i E.m2 E.h2 E.m3 E.h3 E.m4 E.h4 E.m5 E.h5 E.m6 E.h6 E.m7 E.h7 E.m8 E.h8 E.m9 E.h9 E.m10 E.h10 E.m11 E.h11 E.m12 E.h12 E.m13 E.h13 E.m14 E.h14 E.m15 E.h15 E.m16 E.h16 E.m17 E.h17 E.m18 E.h18 E.m19 E.h19 E.m20 E.h20) (fun _ _ => True) := by
  refine Ok.bind' (p := k0_part208 i E.m2 E.h2 E.m3 E.h3 E.m4 E.h4 E.m5 E.h5 E.m6 E.h6 E.m7 E.h7 E.m8 E.h8 E.m9 E.h9 E.m10 E.h10 E.m11 E.h11 E.m12 E.h12 E.m13 E.h13 E.m14 E.h14 E.m15 E.h15 E.m16 E.h16 E.m17 E.h17 E.m18 E.h18 E.m19 E.h19 E.m20 E.h20) (R := fun _ _ => True) ?_ fun v σ' _ => ?_
  · refine Ok.bind' (safe_head E i σ) fun v σ' _ => ?_
    obtain ⟨out, s, t32, t16, w1k, w2k, acc, mx, l⟩ := σ'
    obtain ⟨v1, v2, v3⟩ := v
    repeat
      conv => arg 3; whnf
      first
      | with_reducible refine Ok.load_any fun _ => ?_
      | with_reducible refine Ok.store_any fun _ => ?_
      | with_reducible refine Ok.ret ?_
      | refine Ok.load_any fun _ => ?_
    trivial
  · obtain ⟨out, s, t32, t16, w1k, w2k, acc, mx, l⟩ := σ'
    repeat
      conv => arg 3; whnf
      first
      | with_reducible refine Ok.load_any fun _ => ?_
      | with_reducible refine Ok.store_any fun _ => ?_
      | with_reducible refine Ok.ret ?_
      | refine Ok.load_any fun _ => ?_
    trivial

end Cert.KernelIdeal.Gen

end
-- ==== Proof.KI.Run.lean ====
/- The kernel's frame: every run of the program ends, its arguments unchanged and every semaphore at zero.
   The output block's contents are not followed here. -/
module

public import proofs.«01_k».proof.Proof.KI.Safe

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Dape

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The operands at grid point `t` of core `c`: the staged blocks and the scratch buffers. -/
def env (c : Dev nD) (t : Fin cfg0.N) : Env F where
  c := c
  m2 := st0_0 t
  h2 := hstage0_0 ((cfg0.slots t 0).cast nbuf0_0)
  X2 := iblk m c 0 t
  m3 := st0_1 t
  h3 := hstage0_1 ((cfg0.slots t 1).cast nbuf0_1)
  X3 := iblk m c 1 t
  m4 := st0_2 t
  h4 := hstage0_2 ((cfg0.slots t 2).cast nbuf0_2)
  X4 := iblk m c 2 t
  m5 := st0_3 t
  h5 := hstage0_3 ((cfg0.slots t 3).cast nbuf0_3)
  X5 := iblk m c 3 t
  m6 := st0_4 t
  h6 := hstage0_4 ((cfg0.slots t 4).cast nbuf0_4)
  X6 := iblk m c 4 t
  m7 := st0_5 t
  h7 := hstage0_5 ((cfg0.slots t 5).cast nbuf0_5)
  X7 := iblk m c 5 t
  m8 := st0_6 t
  h8 := hstage0_6 ((cfg0.slots t 6).cast nbuf0_6)
  X8 := iblk m c 6 t
  m9 := st0_7 t
  h9 := hstage0_7 ((cfg0.slots t 7).cast nbuf0_7)
  X9 := iblk m c 7 t
  m10 := st0_8 t
  h10 := hstage0_8 ((cfg0.slots t 8).cast nbuf0_8)
  X10 := iblk m c 8 t
  m11 := st0_9 t
  h11 := hstage0_9 ((cfg0.slots t 9).cast nbuf0_9)
  X11 := iblk m c 9 t
  m12 := st0_10 t
  h12 := hstage0_10 ((cfg0.slots t 10).cast nbuf0_10)
  m13 := Memref.whole cc0_scratch0
  h13 := Memref.isWhole_whole _
  m14 := Memref.whole cc0_scratch1
  h14 := Memref.isWhole_whole _
  m15 := Memref.whole cc0_scratch2
  h15 := Memref.isWhole_whole _
  m16 := Memref.whole cc0_scratch3
  h16 := Memref.isWhole_whole _
  m17 := Memref.whole cc0_scratch4
  h17 := Memref.isWhole_whole _
  m18 := Memref.whole cc0_scratch5
  h18 := Memref.isWhole_whole _
  m19 := Memref.whole cc0_scratch6
  h19 := Memref.isWhole_whole _
  m20 := Memref.whole cc0_scratch7
  h20 := Memref.isWhole_whole _

namespace Plain

/-- The proof data of the frame: the arrays as the region finds them, each input block left as found; the output
    block is not followed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => fun _ => Classical.choice inferInstance
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-- The window whose contents are not followed: the output's. -/
def fgt (w : Fin cfg0.W) : Bool := match w with
  | ⟨10, _⟩ => true
  | _ => false

def bodyPre (c : Dev nD) (t : Fin cfg0.N) : sProp 𝕄 :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ X, owns (c : Thread nD τ) (st0_10 t) fullShare X))

def bodyPost (c : Dev nD) (t : Fin cfg0.N) : sProp 𝕄 :=
  iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ (∃ X, owns (c : Thread nD τ) (st0_10 t) fullShare X))

theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  rw [show (dats m 0 c).Φ t.castSucc = Pipeline.ΦA spec0 c from rfl]
  unfold Pipeline.ΦA
  rw [scopedRest0_eq]
  iintro ⟨⟨⟨⟨%f0, S0⟩, ⟨%f1, S1⟩, ⟨%f2, S2⟩, ⟨%f3, S3⟩, ⟨%f4, S4⟩, ⟨%f5, S5⟩, ⟨%f6, S6⟩, ⟨%f7, S7⟩⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%X, H10⟩⟩
  have hb := safe_body (env m c t) (grid0.coords t) ⟨X, f0, f1, f2, f3, f4, f5, f6, f7⟩
  unfold Ok at hb
  iapply wp_wand_r frame (wpE (defs₀ (F := F)) Variants.none (c : Thread nD τ) none) Set.univ
  isplitl [S0 S1 S2 S3 S4 S5 S6 S7 H0 H1 H2 H3 H4 H5 H6 H7 H8 H9 H10]
  · iapply hb
    iapply own_intro
    dsimp only [env]
    simp only [owns_whole]
    iframe
  · iintro %a ⟨%σ', -, H⟩
    ihave H := (own_elim (env m c t) σ') $$ H
    dsimp only [env]
    simp only [owns_whole]
    icases H with ⟨H0, H1, H2, H3, H4, H5, H6, H7, H8, H9, H10, S0, S1, S2, S3, S4, S5, S6, S7⟩
    iframe
    isplitl [S0 S1 S2 S3 S4 S5 S6 S7]
    · isplitl [S0]; · iexists _; iexact S0
      isplitl [S1]; · iexists _; iexact S1
      isplitl [S2]; · iexists _; iexact S2
      isplitl [S3]; · iexists _; iexact S3
      isplitl [S4]; · iexists _; iexact S4
      isplitl [S5]; · iexists _; iexact S5
      isplitl [S6]; · iexists _; iexact S6
      iexists _; iexact S7
    · iexists _; iexact H10

theorem defs₀_row (t : Fin cfg0.N) :
    defs₀ (F := F) .tc cfg0.body (cfg0.bodyArgs t (cfg0.slots t)) = bodyAt0 t := by
  unfold defs₀; rw [Defs.onTc_tc]

theorem body_obligation (c : Dev nD) :
    Pipeline.BodyObligationLoose (dats (F := F) m 0 c) (defs₀ (F := F)) Variants.none () Set.univ fgt := fun t => by
  rw [bigSep_W0, bigSep_W0, defs₀_row]
  exact triple_restated (sound_body m c t) rfl .rfl fun _ => .rfl

theorem toRForget_arr (c : Dev nD) (w : Fin cfg0.W) (hw : fgt w = false) (A) :
    ((dats m 0 c).toRForget fgt).ArrAt w cfg0.N A ↔ A = (dats m 0 c).arrAt w cfg0.N :=
  (dats m 0 c).toRForget_arrAt_iff hw _ _

set_option backward.isDefEq.respectTransparency.types false in
set_option maxHeartbeats 800000 in
/-- Every run ends, its arguments unchanged and every semaphore at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) ∧ r.2.sem = fun _ => 0) :=
  Pipeline.θ_run_frame_forget cfgs (dats m) (0 : Fin 1) launch0 defs₀ Variants.none fgt m ρ main
    (hbody := body_obligation m) (hshare := fun c => (dats m 0 c).share_full fun _ => rfl)
    (howed := fun _ _ => rfl) (V := V m) (hmain := hmain m Variants.none) (hA := A_eq m) (hΦ := fun _ _ => rfl) (Q' := _)
    (hQ' := fun r ⟨h, hs⟩ => ⟨fun c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((toRForget_arr m c 6 rfl _).mp ((h c).1 6)).trans (((dats m 0 c).arrAt_in 6 rfl _).trans ((A_eq m c 6).trans (V_main_arg3 m c))),
      ((h c).2 main_arg4 (Pipeline.mem_restRefs_of main_arg4 (by decide) (by decide))).trans (V_main_arg4 m c),
      ((toRForget_arr m c 0 rfl _).mp ((h c).1 0)).trans (((dats m 0 c).arrAt_in 0 rfl _).trans ((A_eq m c 0).trans (V_main_arg5 m c))),
      ((toRForget_arr m c 1 rfl _).mp ((h c).1 1)).trans (((dats m 0 c).arrAt_in 1 rfl _).trans ((A_eq m c 1).trans (V_main_arg6 m c))),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩, hs⟩)

end Plain

end Cert.KernelIdeal.Gen

end
-- ==== Proof.Spec.lean ====
/- The mathematics of the kernel over the extended reals, without any program.
   One batch of the problem is a `Prob`; the definitions below are plain attention with its learned additive
   bias; the theorems are the running softmax and the equality of its quotient with the plain one. -/
module

public import Idealize.ShloMosaic.PureOps.Ideal.Laws

@[expose] public section

noncomputable section

namespace Dape

open Idealize.ShloMosaic Finset

/-- `1/√128`, the factor of the scores, as the programs spell it. -/
def cScore : EReal := FloatOps.ofBits (F := Ideal) FTy.f32 1035273459#32
/-- `√½`, the factor in the hidden activation, as the programs spell it. -/
def cErf : EReal := FloatOps.ofBits (F := Ideal) FTy.f32 1060439283#32
/-- One half, as the programs spell it. -/
def cHalf : EReal := FloatOps.ofBits (F := Ideal) FTy.f32 1056964608#32

/-- One batch: codes by row, head and channel; scales by row and head; rates by head; the two layers. -/
structure Prob where
  Q : ℕ → ℕ → ℕ → EReal
  K : ℕ → ℕ → ℕ → EReal
  V : ℕ → ℕ → ℕ → EReal
  qs : ℕ → ℕ → EReal
  ks : ℕ → ℕ → EReal
  r1 : ℕ → EReal
  r2 : ℕ → EReal
  w1 : ℕ → ℕ → EReal
  b1 : ℕ → EReal
  w2 : ℕ → ℕ → EReal

namespace Prob

variable (p : Prob)

/-- The score of query `q` against key `k` at head `h`. -/
def sc (q k h : ℕ) : EReal := (∑ d ∈ range 128, p.K k h d * p.Q q h d) * p.qs q h * (p.ks k h * cScore)

/-- The bias at distance `d` and head `h`. -/
def kb (h d : ℕ) : EReal := -p.r1 h * Ideal.log1p (p.r2 h * ((d : ℝ) : EReal))

/-- The hidden activation before its nonlinearity. -/
def pre (q k m : ℕ) : EReal :=
  ∑ h ∈ range 15, p.w1 h m * p.sc q k h + ∑ h ∈ range 15, p.w1 (15 + h) m * p.kb h (q - k) + p.b1 m

/-- The hidden activation, doubled. -/
def act (x : EReal) : EReal := x * (1 + Ideal.erf (x * cErf))

/-- The learned addition to the logit. -/
def f (q k h : ℕ) : EReal := ∑ m ∈ range 32, cHalf * p.w2 m h * act (p.pre q k m)

/-- The logit under the causal mask. -/
def lg (q k h : ℕ) : EReal := if k ≤ q then p.sc q k h + p.kb h (q - k) + p.f q k h else ⊥

end Prob

/-- The largest of the first `n` logits. -/
def mxOf (L : ℕ → EReal) (n : ℕ) : EReal := (range n).sup L
/-- The sum of the first `n` exponentials below their largest. -/
def sumOf (L : ℕ → EReal) (n : ℕ) : EReal := ∑ k ∈ range n, Ideal.exp (L k - mxOf L n)
/-- The sum of the first `n` values weighted by these exponentials. -/
def accOf (L V : ℕ → EReal) (n : ℕ) : EReal := ∑ k ∈ range n, V k * Ideal.exp (L k - mxOf L n)

theorem exp_bot : Ideal.exp ⊥ = 0 := rfl
theorem exp_top : Ideal.exp ⊤ = ⊤ := rfl
theorem exp_coe (r : ℝ) : Ideal.exp (r : EReal) = (Real.exp r : EReal) := rfl

theorem exp_nonneg (x : EReal) : 0 ≤ Ideal.exp x := by
  induction x using EReal.rec with
  | bot => rw [exp_bot]
  | coe r => rw [exp_coe]; exact_mod_cast (Real.exp_pos r).le
  | top => rw [exp_top]; exact le_top

theorem exp_ne_top {x : EReal} (h : x ≠ ⊤) : Ideal.exp x ≠ ⊤ := by
  induction x using EReal.rec with
  | bot => rw [exp_bot]; exact EReal.zero_ne_top
  | coe r => rw [exp_coe]; exact EReal.coe_ne_top _
  | top => exact absurd rfl h

theorem bot_sub (x : EReal) : (⊥ : EReal) - x = ⊥ := by rw [sub_eq_add_neg, EReal.bot_add]
theorem sub_top (x : EReal) : x - (⊤ : EReal) = ⊥ := by rw [sub_eq_add_neg, EReal.neg_top, EReal.add_bot]

theorem exp_shift {L m m' : EReal} (h : L ≤ m) (h' : m ≤ m') :
    Ideal.exp (L - m) * Ideal.exp (m - m') = Ideal.exp (L - m') := by
  induction m' using EReal.rec with
  | top => simp only [sub_top, exp_bot, mul_zero]
  | bot =>
    obtain rfl := le_bot_iff.mp h'
    obtain rfl := le_bot_iff.mp h
    simp only [bot_sub, exp_bot, mul_zero]
  | coe c =>
    induction m using EReal.rec with
    | top => simp at h'
    | bot =>
      obtain rfl := le_bot_iff.mp h
      simp only [bot_sub, exp_bot, mul_zero]
    | coe b =>
      induction L using EReal.rec with
      | top => simp at h
      | bot => simp only [bot_sub, exp_bot, zero_mul]
      | coe a =>
        rw [← EReal.coe_sub, ← EReal.coe_sub, ← EReal.coe_sub, exp_coe, exp_coe, exp_coe, ← EReal.coe_mul, ← Real.exp_add]
        congr 2; ring

theorem sub_ne_top {m m' : EReal} (h : m ≤ m') : m - m' ≠ ⊤ := by
  induction m' using EReal.rec with
  | top => rw [sub_top]; exact bot_ne_top
  | bot => obtain rfl := le_bot_iff.mp h; rw [bot_sub]; exact bot_ne_top
  | coe c =>
    induction m using EReal.rec with
    | top => simp at h
    | bot => rw [bot_sub]; exact bot_ne_top
    | coe b => rw [← EReal.coe_sub]; exact EReal.coe_ne_top _

theorem sum_mul_of {ι : Type} (s : Finset ι) (e : ι → EReal) {α : EReal} (h0 : 0 ≤ α) (ht : α ≠ ⊤) :
    (∑ k ∈ s, e k) * α = ∑ k ∈ s, e k * α := by
  classical
  induction s using Finset.induction_on with
  | empty => simp
  | insert a s ha ih => rw [sum_insert ha, sum_insert ha, EReal.right_distrib_of_nonneg_of_ne_top h0 ht, ih]

theorem mxOf_add (L : ℕ → EReal) (n k : ℕ) : mxOf L (n + k) = max (mxOf L n) ((range k).sup fun j => L (n + j)) := by
  induction k with
  | zero => simp [mxOf]
  | succ k ih =>
    rw [← add_assoc, mxOf, range_add_one, sup_insert, range_add_one, sup_insert, ← mxOf, ih]
    exact max_left_comm _ _ _

theorem le_mxOf {L : ℕ → EReal} {n k : ℕ} (h : k < n) : L k ≤ mxOf L n := Finset.le_sup (f := L) (mem_range.mpr h)

theorem mxOf_mono (L : ℕ → EReal) (n k : ℕ) : mxOf L n ≤ mxOf L (n + k) := by
  rw [mxOf_add]; exact le_max_left _ _

/-- One more block of keys: the old sum rescaled plus the block's own. -/
theorem sumOf_add (L : ℕ → EReal) (n k : ℕ) :
    sumOf L n * Ideal.exp (mxOf L n - mxOf L (n + k)) + ∑ j ∈ range k, Ideal.exp (L (n + j) - mxOf L (n + k)) = sumOf L (n + k) := by
  rw [sumOf, sumOf, sum_range_add, sum_mul_of _ _ (exp_nonneg _) (exp_ne_top (sub_ne_top (mxOf_mono L n k)))]
  congr 1
  exact sum_congr rfl fun j hj => exp_shift (le_mxOf (mem_range.mp hj)) (mxOf_mono L n k)

theorem accOf_add (L V : ℕ → EReal) (n k : ℕ) :
    accOf L V n * Ideal.exp (mxOf L n - mxOf L (n + k)) + ∑ j ∈ range k, V (n + j) * Ideal.exp (L (n + j) - mxOf L (n + k)) = accOf L V (n + k) := by
  rw [accOf, accOf, sum_range_add, sum_mul_of _ _ (exp_nonneg _) (exp_ne_top (sub_ne_top (mxOf_mono L n k)))]
  congr 1
  refine sum_congr rfl fun j hj => ?_
  rw [mul_assoc, exp_shift (le_mxOf (mem_range.mp hj)) (mxOf_mono L n k)]

/-- The plain softmax average over `N` keys. -/
def avg (L V : ℕ → EReal) (N : ℕ) : EReal := ∑ k ∈ range N, V k * Ideal.div (Ideal.exp (L k - mxOf L N)) (sumOf L N)

theorem inv_ne_top (x : EReal) : x⁻¹ ≠ ⊤ := by
  induction x using EReal.rec with
  | top => rw [EReal.inv_top]; exact EReal.zero_ne_top
  | bot => rw [EReal.inv_bot]; exact EReal.zero_ne_top
  | coe r => rw [← EReal.coe_inv]; exact EReal.coe_ne_top _

theorem sum_eq_bot {ι : Type} (s : Finset ι) (f : ι → EReal) {a : ι} (ha : a ∈ s) (h : f a = ⊥) : ∑ k ∈ s, f k = ⊥ := by
  classical
  rw [← add_sum_erase s f ha, h, EReal.bot_add]

/-- The keys after the first `n` are masked: they change neither the largest logit nor the sums. -/
theorem tail_bot {L : ℕ → EReal} {n N : ℕ} (hn : n ≤ N) (hL : ∀ k, n ≤ k → k < N → L k = ⊥) : mxOf L N = mxOf L n := by
  obtain ⟨k, rfl⟩ := Nat.exists_eq_add_of_le hn
  rw [mxOf_add, max_eq_left]
  refine Finset.sup_le fun j hj => ?_
  rw [hL _ (Nat.le_add_right n j) (by have := mem_range.mp hj; omega)]
  exact bot_le

/-- The quotient of the running sums is the plain softmax average. -/
theorem quot_eq {L V : ℕ → EReal} {n N : ℕ} (hn : n ≤ N) (h0 : 0 < n) (hL : ∀ k, n ≤ k → k < N → L k = ⊥)
    (hV : ∃ k, k < N ∧ 0 < V k) : Ideal.div (accOf L V n) (sumOf L n) = avg L V N := by
  have hM := tail_bot hn hL
  have hsum : sumOf L N = sumOf L n := by
    obtain ⟨k, rfl⟩ := Nat.exists_eq_add_of_le hn
    rw [sumOf, sumOf, sum_range_add, hM]
    refine (congrArg _ (sum_eq_zero fun j hj => ?_)).trans (add_zero _)
    rw [hL _ (Nat.le_add_right n j) (by have := mem_range.mp hj; omega), bot_sub, exp_bot]
  by_cases hr : mxOf L n = ⊤ ∨ mxOf L n = ⊥
  · have he : ∀ k, k < N → Ideal.exp (L k - mxOf L n) = 0 := by
      intro k hk
      rcases hr with h | h
      · rw [h, sub_top, exp_bot]
      · have : L k = ⊥ := le_bot_iff.mp (h ▸ hM ▸ le_mxOf hk)
        rw [this, bot_sub, exp_bot]
    have hs : sumOf L n = 0 := sum_eq_zero fun k hk => he k (lt_of_lt_of_le (mem_range.mp hk) hn)
    have ha : accOf L V n = 0 := sum_eq_zero fun k hk => by rw [he k (lt_of_lt_of_le (mem_range.mp hk) hn), mul_zero]
    have hd : Ideal.div 0 0 = ⊥ := by simp [Ideal.div]
    obtain ⟨k, hk, hp⟩ := hV
    rw [hs, ha, hd, avg]
    refine (sum_eq_bot _ _ (mem_range.mpr hk) ?_).symm
    rw [hM, he k hk, hsum, hs, hd, EReal.mul_bot_of_pos hp]
  · push Not at hr
    obtain ⟨k₀, hk₀, hm⟩ := Finset.exists_mem_eq_sup (range n) ⟨0, mem_range.mpr h0⟩ L
    have h1 : Ideal.exp (L k₀ - mxOf L n) = 1 := by
      have : mxOf L n = L k₀ := hm
      rw [← this]
      generalize mxOf L n = M at hr
      induction M using EReal.rec with
      | top => exact absurd rfl hr.1
      | bot => exact absurd rfl hr.2
      | coe r => rw [← EReal.coe_sub, sub_self, exp_coe, Real.exp_zero, EReal.coe_one]
    have hS : 1 ≤ sumOf L n := h1 ▸ single_le_sum (f := fun k => Ideal.exp (L k - mxOf L n)) (fun k _ => exp_nonneg _) hk₀
    have hS0 : sumOf L n ≠ 0 := fun h => by rw [h] at hS; exact absurd hS (by norm_num)
    have hdiv : ∀ x, Ideal.div x (sumOf L n) = x * (sumOf L n)⁻¹ := fun x => by rw [Ideal.div, if_neg hS0]
    have hi : 0 ≤ (sumOf L n)⁻¹ := EReal.inv_nonneg_of_nonneg (le_trans zero_le_one hS)
    have hacc : accOf L V N = accOf L V n := by
      obtain ⟨k, rfl⟩ := Nat.exists_eq_add_of_le hn
      rw [accOf, accOf, sum_range_add, hM]
      refine (congrArg _ (sum_eq_zero fun j hj => ?_)).trans (add_zero _)
      rw [hL _ (Nat.le_add_right n j) (by have := mem_range.mp hj; omega), bot_sub, exp_bot, mul_zero]
    rw [← hacc, hdiv, accOf, sum_mul_of _ _ hi (inv_ne_top _), avg, hsum]
    exact sum_congr rfl fun k _ => by rw [hdiv, mul_assoc]

/-- The activation in the form with the complementary error function. -/
theorem act_erfc (x w : EReal) : cHalf * w * Prob.act x = w * (cHalf * x * Ideal.erfc (-x * cErf)) := by
  rw [EReal.neg_mul, Ideal.erfc_neg, Prob.act]; ac_rfl

/-- The kernel's logarithm of `1 + x` at a real `x`. -/
theorem log1p_of (x : ℝ) : (if ((1 : EReal) + x - 1 = 0) then (x : EReal) else
    Ideal.log (1 + x) * Ideal.div x (if ((1 : EReal) + x - 1 = 0) then 1 else 1 + x - 1)) = Ideal.log1p x := by
  have hd : ((1 : EReal) + x - 1) = x := by
    rw [← EReal.coe_one, ← EReal.coe_add, ← EReal.coe_sub]; congr 1; ring
  rw [hd]
  by_cases h : x = 0
  · subst h
    simp only [EReal.coe_zero, if_true]
    rw [Ideal.log1p, add_zero, ← EReal.coe_one]
    show (0 : EReal) = if (1 : ℝ) ≤ 0 then ⊥ else (Real.log 1 : EReal)
    norm_num
  · have hx : (x : EReal) ≠ 0 := fun e => h (by exact_mod_cast e)
    rw [if_neg hx, if_neg hx, Ideal.log1p, Ideal.div, if_neg hx, ← EReal.coe_inv, ← EReal.coe_mul, mul_inv_cancel₀ h, EReal.coe_one, mul_one]

/-- A sum over `n * k` positions, by blocks of `k`. -/
theorem sum_blocks (n k : ℕ) (f : ℕ → EReal) : ∑ i ∈ range (n * k), f i = ∑ a ∈ range n, ∑ b ∈ range k, f (k * a + b) := by
  induction n with
  | zero => simp
  | succ n ih => rw [Nat.succ_mul, sum_range_add, ih, sum_range_succ]; congr 1; exact sum_congr rfl fun b _ => by rw [mul_comm]

theorem sup_blocks (n k : ℕ) (f : ℕ → EReal) : (range (n * k)).sup f = (range n).sup fun a => (range k).sup fun b => f (k * a + b) := by
  induction n with
  | zero => simp
  | succ n ih =>
    have := mxOf_add f (n * k) k
    unfold mxOf at this
    rw [Nat.succ_mul, this, ih, range_add_one, sup_insert, max_comm]
    simp only [mul_comm n k]

theorem neg_inf : Ideal.ofBits FTy.f32 4286578688#32 = ⊥ := by
  show Ideal.ieee 8 23 4286578688#32 = ⊥
  unfold Ideal.ieee
  have h1 : (BitVec.extractLsb' 23 8 4286578688#32).toNat = 2 ^ 8 - 1 := by decide
  have h2 : (BitVec.extractLsb' 0 23 4286578688#32).toNat = 0 := by decide
  have h3 : (BitVec.extractLsb' (8 + 23) 1 4286578688#32 == 1#1) = true := by decide
  simp only [h1, h2, h3, if_true]

theorem fold_max (n : ℕ) (f : ℕ → EReal) : Finset.fold max ⊥ (fun i : Fin n => f i) Finset.univ = (Finset.range n).sup f := by
  show Finset.univ.sup (fun i : Fin n => f i) = _
  refine le_antisymm (Finset.sup_le fun i _ => Finset.le_sup (f := f) (Finset.mem_range.mpr i.isLt)) (Finset.sup_le fun i hi => ?_)
  exact Finset.le_sup (f := fun i : Fin n => f i) (Finset.mem_univ ⟨i, Finset.mem_range.mp hi⟩)

end Dape

end
-- ==== Proof.At.lean ====
/- Reading an array of extended reals at natural-number positions, and what a load and a store through a
   rectangle do to such readings. -/
module

public import proofs.«01_k».proof.Proof.Cell
public import proofs.«01_k».proof.Proof.Spec
public import Idealize.ShloMosaic.Lib.Pointwise

@[expose] public section

noncomputable section

namespace Dape

open Idealize.ShloMosaic Idealize.ShloMosaic.TcCoe

/-- The element at position `v`, zero outside the array. -/
def av {s : Shape} (X : s.Idx → EReal) (v : Fin s.rank → ℕ) : EReal :=
  if h : ∀ a, v a < s.size a then X fun a => ⟨v a, h a⟩ else 0

theorem av_idx {s : Shape} (X : s.Idx → EReal) (x : s.Idx) : av X (fun a => (x a : ℕ)) = X x := by
  unfold av; rw [dif_pos fun a => (x a).isLt]

theorem ix1_eq {n0 : ℕ} (X : (⟨1, ![n0]⟩ : Shape).Idx → EReal) (a : Fin n0) : X (ix1 a) = av X ![a.val] := by
  rw [← av_idx X]; congr 1; funext i; fin_cases i; rfl
theorem ix2_eq {n0 n1 : ℕ} (X : (⟨2, ![n0, n1]⟩ : Shape).Idx → EReal) (a : Fin n0) (b : Fin n1) : X (ix2 a b) = av X ![a.val, b.val] := by
  rw [← av_idx X]; congr 1; funext i; fin_cases i <;> rfl
theorem ix3_eq {n0 n1 n2 : ℕ} (X : (⟨3, ![n0, n1, n2]⟩ : Shape).Idx → EReal) (a : Fin n0) (b : Fin n1) (c : Fin n2) :
    X (ix3 a b c) = av X ![a.val, b.val, c.val] := by
  rw [← av_idx X]; congr 1; funext i; fin_cases i <;> rfl
theorem ix4_eq {n0 n1 n2 n3 : ℕ} (X : (⟨4, ![n0, n1, n2, n3]⟩ : Shape).Idx → EReal) (a : Fin n0) (b : Fin n1) (c : Fin n2) (d : Fin n3) :
    X (ix4 a b c d) = av X ![a.val, b.val, c.val, d.val] := by
  rw [← av_idx X]; congr 1; funext i; fin_cases i <;> rfl

theorem rd_av {s : Shape} {off size : Fin s.rank → ℕ} {inb : ∀ a, off a + size a ≤ s.size a} (X : s.Idx → EReal)
    (x : (Rect.unit off size inb).shape.Idx) : rdO off size inb X x = av X (fun a => off a + (x a : ℕ)) := by
  unfold rdO
  rw [← av_idx X]
  congr 1; funext a
  show off a + 1 * (x a : ℕ) = _; rw [one_mul]

theorem rd1 {n0 m0 o0 : ℕ} {inb} (X : (⟨1, ![n0]⟩ : Shape).Idx → EReal) (a : Fin m0) :
    rdO (s := ⟨1, ![n0]⟩) ![o0] ![m0] inb X (ix1 a) = av X ![o0 + a] := by
  rw [rd_av]; congr 1; funext i; fin_cases i; rfl
theorem rd2 {n0 n1 m0 m1 o0 o1 : ℕ} {inb} (X : (⟨2, ![n0, n1]⟩ : Shape).Idx → EReal) (a : Fin m0) (b : Fin m1) :
    rdO (s := ⟨2, ![n0, n1]⟩) ![o0, o1] ![m0, m1] inb X (ix2 a b) = av X ![o0 + a, o1 + b] := by
  rw [rd_av]; congr 1; funext i; fin_cases i <;> rfl
theorem rd3 {n0 n1 n2 m0 m1 m2 o0 o1 o2 : ℕ} {inb} (X : (⟨3, ![n0, n1, n2]⟩ : Shape).Idx → EReal) (a : Fin m0) (b : Fin m1) (c : Fin m2) :
    rdO (s := ⟨3, ![n0, n1, n2]⟩) ![o0, o1, o2] ![m0, m1, m2] inb X (ix3 a b c) = av X ![o0 + a, o1 + b, o2 + c] := by
  rw [rd_av]; congr 1; funext i; fin_cases i <;> rfl
theorem rd4 {n0 n1 n2 n3 m0 m1 m2 m3 o0 o1 o2 o3 : ℕ} {inb} (X : (⟨4, ![n0, n1, n2, n3]⟩ : Shape).Idx → EReal)
    (a : Fin m0) (b : Fin m1) (c : Fin m2) (d : Fin m3) :
    rdO (s := ⟨4, ![n0, n1, n2, n3]⟩) ![o0, o1, o2, o3] ![m0, m1, m2, m3] inb X (ix4 a b c d) = av X ![o0 + a, o1 + b, o2 + c, o3 + d] := by
  rw [rd_av]; congr 1; funext i; fin_cases i <;> rfl

theorem av_upd {s : Shape} {off size : Fin s.rank → ℕ} {inb : ∀ a, off a + size a ≤ s.size a}
    (w : (Rect.unit off size inb).shape.Idx → EReal) (X : s.Idx → EReal) (v : Fin s.rank → ℕ) :
    av (updO off size inb w X) v = if ∀ a, off a ≤ v a ∧ v a - off a < size a then av (s := (Rect.unit off size inb).shape) w (fun a => v a - off a) else av X v := by
  by_cases h : ∀ a, off a ≤ v a ∧ v a - off a < size a
  · have h' : ∀ a, v a < s.size a := fun a => by have := h a; have := inb a; omega
    rw [if_pos h]
    refine Eq.trans ?_ (av_idx (s := (Rect.unit off size inb).shape) w (fun a => ⟨v a - off a, (h a).2⟩)).symm
    unfold av updO
    rw [dif_pos h']
    exact dif_pos h
  · rw [if_neg h]
    unfold av updO
    by_cases h' : ∀ a, v a < s.size a
    · rw [dif_pos h', dif_pos h']
      exact dif_neg h
    · rw [dif_neg h', dif_neg h']

theorem upd2 {n0 n1 m0 m1 o0 o1 : ℕ} {inb} (w : (⟨2, ![m0, m1]⟩ : Shape).Idx → EReal) (X : (⟨2, ![n0, n1]⟩ : Shape).Idx → EReal) (a b : ℕ) :
    av (updO (s := ⟨2, ![n0, n1]⟩) ![o0, o1] ![m0, m1] inb w X) ![a, b]
      = if h : (o0 ≤ a ∧ a - o0 < m0) ∧ (o1 ≤ b ∧ b - o1 < m1) then w (ix2 ⟨a - o0, h.1.2⟩ ⟨b - o1, h.2.2⟩) else av X ![a, b] := by
  rw [av_upd]
  have hi : (∀ i : Fin 2, (![o0, o1] : Fin 2 → ℕ) i ≤ (![a, b] : Fin 2 → ℕ) i ∧ (![a, b] : Fin 2 → ℕ) i - (![o0, o1] : Fin 2 → ℕ) i < (![m0, m1] : Fin 2 → ℕ) i)
      ↔ ((o0 ≤ a ∧ a - o0 < m0) ∧ (o1 ≤ b ∧ b - o1 < m1)) := by
    simp [Fin.forall_fin_succ]
  by_cases h : (o0 ≤ a ∧ a - o0 < m0) ∧ (o1 ≤ b ∧ b - o1 < m1)
  · rw [dif_pos h, ix2_eq w]
    refine (if_pos (hi.mpr h)).trans ?_
    refine congrArg (av (s := ⟨2, ![m0, m1]⟩) w) ?_
    funext i; fin_cases i <;> rfl
  · rw [dif_neg h]
    exact if_neg (fun h' => h (hi.mp h'))

theorem upd3 {n0 n1 n2 m0 m1 m2 o0 o1 o2 : ℕ} {inb} (w : (⟨3, ![m0, m1, m2]⟩ : Shape).Idx → EReal) (X : (⟨3, ![n0, n1, n2]⟩ : Shape).Idx → EReal) (a b c : ℕ) :
    av (updO (s := ⟨3, ![n0, n1, n2]⟩) ![o0, o1, o2] ![m0, m1, m2] inb w X) ![a, b, c]
      = if h : (o0 ≤ a ∧ a - o0 < m0) ∧ (o1 ≤ b ∧ b - o1 < m1) ∧ (o2 ≤ c ∧ c - o2 < m2) then
        w (ix3 ⟨a - o0, h.1.2⟩ ⟨b - o1, h.2.1.2⟩ ⟨c - o2, h.2.2.2⟩) else av X ![a, b, c] := by
  rw [av_upd]
  have hi : (∀ i : Fin 3, (![o0, o1, o2] : Fin 3 → ℕ) i ≤ (![a, b, c] : Fin 3 → ℕ) i ∧ (![a, b, c] : Fin 3 → ℕ) i - (![o0, o1, o2] : Fin 3 → ℕ) i < (![m0, m1, m2] : Fin 3 → ℕ) i)
      ↔ ((o0 ≤ a ∧ a - o0 < m0) ∧ (o1 ≤ b ∧ b - o1 < m1) ∧ (o2 ≤ c ∧ c - o2 < m2)) := by
    simp [Fin.forall_fin_succ]
  by_cases h : (o0 ≤ a ∧ a - o0 < m0) ∧ (o1 ≤ b ∧ b - o1 < m1) ∧ (o2 ≤ c ∧ c - o2 < m2)
  · rw [dif_pos h, ix3_eq w]
    refine (if_pos (hi.mpr h)).trans ?_
    refine congrArg (av (s := ⟨3, ![m0, m1, m2]⟩) w) ?_
    funext i; fin_cases i <;> rfl
  · rw [dif_neg h]
    exact if_neg (fun h' => h (hi.mp h'))

theorem upd4 {n0 n1 n2 n3 m0 m1 m2 m3 o0 o1 o2 o3 : ℕ} {inb} (w : (⟨4, ![m0, m1, m2, m3]⟩ : Shape).Idx → EReal)
    (X : (⟨4, ![n0, n1, n2, n3]⟩ : Shape).Idx → EReal) (a b c d : ℕ) :
    av (updO (s := ⟨4, ![n0, n1, n2, n3]⟩) ![o0, o1, o2, o3] ![m0, m1, m2, m3] inb w X) ![a, b, c, d]
      = if h : (o0 ≤ a ∧ a - o0 < m0) ∧ (o1 ≤ b ∧ b - o1 < m1) ∧ (o2 ≤ c ∧ c - o2 < m2) ∧ (o3 ≤ d ∧ d - o3 < m3) then
        w (ix4 ⟨a - o0, h.1.2⟩ ⟨b - o1, h.2.1.2⟩ ⟨c - o2, h.2.2.1.2⟩ ⟨d - o3, h.2.2.2.2⟩) else av X ![a, b, c, d] := by
  rw [av_upd]
  have hi : (∀ i : Fin 4, (![o0, o1, o2, o3] : Fin 4 → ℕ) i ≤ (![a, b, c, d] : Fin 4 → ℕ) i ∧ (![a, b, c, d] : Fin 4 → ℕ) i - (![o0, o1, o2, o3] : Fin 4 → ℕ) i < (![m0, m1, m2, m3] : Fin 4 → ℕ) i)
      ↔ ((o0 ≤ a ∧ a - o0 < m0) ∧ (o1 ≤ b ∧ b - o1 < m1) ∧ (o2 ≤ c ∧ c - o2 < m2) ∧ (o3 ≤ d ∧ d - o3 < m3)) := by
    simp [Fin.forall_fin_succ]
  by_cases h : (o0 ≤ a ∧ a - o0 < m0) ∧ (o1 ≤ b ∧ b - o1 < m1) ∧ (o2 ≤ c ∧ c - o2 < m2) ∧ (o3 ≤ d ∧ d - o3 < m3)
  · rw [dif_pos h, ix4_eq w]
    refine (if_pos (hi.mpr h)).trans ?_
    refine congrArg (av (s := ⟨4, ![m0, m1, m2, m3]⟩) w) ?_
    funext i; fin_cases i <;> rfl
  · rw [dif_neg h]
    exact if_neg (fun h' => h (hi.mp h'))

theorem sum_fin (n : ℕ) (f : ℕ → EReal) : ∑ i : Fin n, f i.val = ∑ i ∈ Finset.range n, f i := Fin.sum_univ_eq_sum_range f n

end Dape

end
-- ==== Proof.KI.Score.lean ====
/- The scores of one block of keys: what storing a head's scores leaves in the score buffer. -/
module

public import proofs.«01_k».proof.Proof.KI.State
public import proofs.«01_k».proof.Proof.At

@[expose] public section

noncomputable section

namespace Cert.KernelIdeal.Gen

open Idealize.ShloMosaic Idealize.ShloMosaic.TcCoe
open Dape

/-- The blocks a grid point reads are those of the batch `p` at query block `qi`. -/
structure Fits (p : Prob) (qi : ℕ) (E : Env Ideal) : Prop where
  q : ∀ x h d, x < 256 → h < 15 → d < 128 → av E.X4 ![0, x, 128 * h + d] = p.Q (256 * qi + x) h d
  k : ∀ k h d, k < 2048 → h < 15 → d < 128 → av E.X5 ![0, k, 128 * h + d] = p.K k h d
  v : ∀ k h d, k < 2048 → h < 15 → d < 128 → av E.X6 ![0, h, d, k] = p.V k h d
  qs : ∀ x h, x < 256 → h < 15 → av E.X7 ![0, h, x] = p.qs (256 * qi + x) h
  ks : ∀ k h, k < 2048 → h < 15 → av E.X8 ![0, k, h] = p.ks k h
  r1 : ∀ h, h < 15 → av E.X2 ![h] = p.r1 h
  r2 : ∀ h, h < 15 → av E.X3 ![h] = p.r2 h
  w1 : ∀ m h, m < 32 → h < 30 → av E.X9 ![m, h] = p.w1 h m
  b1 : ∀ m, m < 32 → av E.X10 ![0, m] = p.b1 m
  w2 : ∀ m h, m < 32 → h < 15 → av E.X11 ![h, m] = p.w2 m h

/-- The score buffer's last row holds ones; its first `n` rows hold the scores of key block `ki`. -/
def Sc (p : Prob) (qi ki n : ℕ) (s : S32x16x8x256.Idx → EReal) : Prop :=
  ∀ g u x, g < 32 → u < 8 → x < 256 → av s ![g, 15, u, x] = 1 ∧
    ∀ h, h < n → av s ![g, h, u, x] = p.sc (256 * qi + x) (256 * ki + (8 * g + u)) h

theorem score_pay (n : ℕ) (hn : n < 15) (q k : FVec Ideal S1x256x128 .fp8e4m3) (a : FVec Ideal S1x1x256 .f32) (b : FVec Ideal S1x256x15 .f32)
    (g : Fin 32) (u : Fin 8) (x : Fin 256) {h1 h2 h3 h4 h5 h6 h7 h8} :
    (shapeCast S32x1x8x256 (shapeCast S32x8x256 (mulf (mulf (matmul dot_S256x128_S256x128_S256x256_1_1_0_0_n_n none (shapeCast S256x128 k h1) (shapeCast S256x128 q h1) (constant S256x256 FTy.f32 0#32)) (broadcastTo S256x256 (shapeCast S1x256 a h2) h3)) (broadcastTo S256x256 (extractStridedSlice S256x1 ![0,n] (mulf (shapeCast S256x15 b h4) (broadcast S256x15 (FloatOps.ofBits FTy.f32 1035273459#32))) h5) h6)) h7) h8 : FVec Ideal S32x1x8x256 .f32) (ix4 g 0 u x)
      = (∑ d : Fin 128, k (ix3 0 ⟨g * 8 + u, by omega⟩ d) * q (ix3 0 x d)) * a (ix3 0 0 x) * (b (ix3 0 ⟨g * 8 + u, by omega⟩ ⟨n, hn⟩) * cScore) := by
  pointwise
  rfl

theorem score_step {p : Prob} {qi ki n : ℕ} {E : Env Ideal} (hE : Fits p qi E) (hn : n < 15) (hk : ki < 8)
    {s : S32x16x8x256.Idx → EReal} (hs : Sc p qi ki n s) {ok : Fin 3 → ℕ} {ob : Fin 3 → ℕ}
    (hok : ok = ![0, 256 * ki, 128 * n]) (hob : ob = ![0, 256 * ki, 0])
    {i0 i1 i2 i3 i4 h1 h2 h3 h4 h5 h6 h7 h8 h9} :
    Sc p qi ki (n + 1) (updO (s := S32x16x8x256) ![0, n, 0, 0] S32x1x8x256.size i0 (shapeCast S32x1x8x256 (shapeCast S32x8x256 (mulf (mulf (matmul (F := Ideal) (φ₁ := .fp8e4m3) (φ₂ := .fp8e4m3) dot_S256x128_S256x128_S256x256_1_1_0_0_n_n none
      (shapeCast S256x128 (rdO (s := S1x2048x1920) ok S1x256x128.size i1 E.X5) h1) (shapeCast S256x128 (rdO (s := S1x256x1920) ![0, 0, 128 * n] S1x256x128.size i2 E.X4) h2) (constant S256x256 FTy.f32 0#32))
      (broadcastTo S256x256 (shapeCast S1x256 (rdO (s := S1x15x256) ![0, n, 0] S1x1x256.size i3 E.X7) h3) h4))
      (broadcastTo S256x256 (extractStridedSlice S256x1 ![0,n] (mulf (shapeCast S256x15 (rdO (s := S1x2048x15) ob S1x256x15.size i4 E.X8) h5) (broadcast S256x15 (FloatOps.ofBits FTy.f32 1035273459#32))) h6) h7)) h8) h9 : FVec Ideal S32x1x8x256 .f32) s) := by
  subst hok hob
  intro g u x hg hu hx
  refine ⟨?_, fun h hh => ?_⟩
  · refine (upd4 ..).trans ?_
    rw [dif_neg (by omega)]
    exact (hs g u x hg hu hx).1
  · refine (upd4 ..).trans ?_
    split
    · obtain rfl : h = n := by omega
      simp only [Nat.sub_zero, Nat.sub_self]
      refine (score_pay h hn _ _ _ _ ⟨g, hg⟩ ⟨u, hu⟩ ⟨x, hx⟩).trans ?_
      simp only [rd3]
      simp only [Fin.val_zero, Nat.zero_add, Nat.add_zero, Nat.mul_comm g 8]
      rw [hE.ks _ _ (by omega) hn, hE.qs _ _ hx hn, Prob.sc, ← sum_fin]
      refine congrArg (· * _ * _) (Finset.sum_congr rfl fun d _ => ?_)
      rw [hE.k _ _ _ (by omega) hn d.isLt, hE.q _ _ _ hx hn d.isLt]
    · exact (hs g u x hg hu hx).2 h (by omega)

end Cert.KernelIdeal.Gen

end
-- ==== Proof.KI.Logits.lean ====
/- The logits of one block of keys: what the small network on the scores and biases computes, and what
   storing the logits of a group of eight keys leaves in the score buffer. -/
module

public import proofs.«01_k».proof.Proof.KI.Score

@[expose] public section

noncomputable section

namespace Cert.KernelIdeal.Gen

open Idealize.ShloMosaic Idealize.ShloMosaic.TcCoe
open Dape

/-- The two expanded weight matrices: entries off the diagonal of the groups of eight are zero; column 120 of the
    first holds the hidden bias. -/
def Wt (p : Prob) (w1k : S256x256.Idx → EReal) (w2k : S128x256.Idx → EReal) : Prop :=
  ∀ m u b, m < 32 → u < 8 → b < 8 →
    (∀ h, h < 15 → av w1k ![8 * m + u, 8 * h + b] = (if u = b then p.w1 h m else 0) ∧
      av w1k ![8 * m + u, 128 + (8 * h + b)] = (if u = b then p.w1 (15 + h) m else 0) ∧
      av w2k ![8 * h + u, 8 * m + b] = (if u = b then cHalf * p.w2 m h else 0)) ∧
    av w1k ![8 * m + u, 120 + b] = if b = 0 then p.b1 m else 0

/-- The two bias tables: entry `i` covers the distances `8 i + lane − row − 120`; the first is masked below zero. -/
def Tab (p : Prob) (t32 : S256x120x128.Idx → EReal) (t16 : S256x128x128.Idx → EReal) : Prop :=
  ∀ i u x, i < 256 → u < 8 → x < 128 →
    (∀ h, h < 15 → av t32 ![i, 8 * h + u, x] = (if u + 120 ≤ 8 * i + x then p.kb h (8 * i + x - (u + 120)) else ⊥) ∧
      (u + 120 ≤ 8 * i + x → av t16 ![i, 8 * h + u, x] = p.kb h (8 * i + x - (u + 120)))) ∧
    av t16 ![i, 120 + u, x] = 0

/-- The network's first layer, at one row. -/
theorem layer1 {p : Prob} {w1k : S256x256.Idx → EReal} {w2k : S128x256.Idx → EReal} (hw : Wt p w1k w2k)
    (S T : ℕ → EReal) (hS : ∀ b, b < 8 → S (120 + b) = 1) (hT : ∀ b, b < 8 → T (120 + b) = 0) {m u : ℕ} (hm : m < 32) (hu : u < 8) :
    ∑ c ∈ Finset.range 128, av w1k ![8 * m + u, c] * S c + ∑ c ∈ Finset.range 128, av w1k ![8 * m + u, 128 + c] * T c
      = ∑ h ∈ Finset.range 15, p.w1 h m * S (8 * h + u) + ∑ h ∈ Finset.range 15, p.w1 (15 + h) m * T (8 * h + u) + p.b1 m := by
  have e1 : ∀ F : ℕ → EReal, ∑ c ∈ Finset.range 128, F c = ∑ h ∈ Finset.range 15, ∑ b ∈ Finset.range 8, F (8 * h + b) + ∑ b ∈ Finset.range 8, F (120 + b) :=
    fun F => (sum_blocks 16 8 F).trans (Finset.sum_range_succ ..)
  rw [e1, e1]
  have a1 : ∀ h ∈ Finset.range 15, ∑ b ∈ Finset.range 8, av w1k ![8 * m + u, 8 * h + b] * S (8 * h + b) = p.w1 h m * S (8 * h + u) := by
    intro h hh
    rw [Finset.sum_eq_single u]
    · rw [((hw m u u hm hu hu).1 h (Finset.mem_range.mp hh)).1, if_pos rfl]
    · intro b hb hne
      rw [((hw m u b hm hu (Finset.mem_range.mp hb)).1 h (Finset.mem_range.mp hh)).1, if_neg (Ne.symm hne), zero_mul]
    · intro h; exact absurd (Finset.mem_range.mpr hu) h
  have a2 : ∀ h ∈ Finset.range 15, ∑ b ∈ Finset.range 8, av w1k ![8 * m + u, 128 + (8 * h + b)] * T (8 * h + b) = p.w1 (15 + h) m * T (8 * h + u) := by
    intro h hh
    rw [Finset.sum_eq_single u]
    · rw [((hw m u u hm hu hu).1 h (Finset.mem_range.mp hh)).2.1, if_pos rfl]
    · intro b hb hne
      rw [((hw m u b hm hu (Finset.mem_range.mp hb)).1 h (Finset.mem_range.mp hh)).2.1, if_neg (Ne.symm hne), zero_mul]
    · intro h; exact absurd (Finset.mem_range.mpr hu) h
  have a3 : ∑ b ∈ Finset.range 8, av w1k ![8 * m + u, 120 + b] * S (120 + b) = p.b1 m := by
    rw [Finset.sum_eq_single 0]
    · rw [(hw m u 0 hm hu (by omega)).2, if_pos rfl, hS 0 (by omega), mul_one]
    · intro b hb hne
      rw [(hw m u b hm hu (Finset.mem_range.mp hb)).2, if_neg hne, zero_mul]
    · intro h; exact absurd (Finset.mem_range.mpr (by omega)) h
  have a4 : ∑ b ∈ Finset.range 8, av w1k ![8 * m + u, 128 + (120 + b)] * T (120 + b) = 0 :=
    Finset.sum_eq_zero fun b hb => by rw [hT b (Finset.mem_range.mp hb), mul_zero]
  rw [Finset.sum_congr rfl a1, Finset.sum_congr rfl a2, a3, a4, add_zero, add_right_comm]

/-- The network's second layer, at one row. -/
theorem layer2 {p : Prob} {w1k : S256x256.Idx → EReal} {w2k : S128x256.Idx → EReal} (hw : Wt p w1k w2k)
    (X : ℕ → EReal) {h u : ℕ} (hh : h < 15) (hu : u < 8) :
    ∑ r ∈ Finset.range 256, av w2k ![8 * h + u, r] * X r = ∑ m ∈ Finset.range 32, cHalf * p.w2 m h * X (8 * m + u) := by
  rw [sum_blocks 32 8]
  refine Finset.sum_congr rfl fun m hm => ?_
  rw [Finset.sum_eq_single u]
  · rw [((hw m u u (Finset.mem_range.mp hm) hu hu).1 h hh).2.2, if_pos rfl]
  · intro b hb hne
    rw [((hw m u b (Finset.mem_range.mp hm) hu (Finset.mem_range.mp hb)).1 h hh).2.2, if_neg (Ne.symm hne), zero_mul]
  · intro h; exact absurd (Finset.mem_range.mpr hu) h

/-- The network's rows of pre-activations. -/
abbrev preT (w1k : FVec Ideal S256x256 .bf16) (sb : FVec Ideal S128x256 .f32) (kb : FVec Ideal S128x256 .bf16) (hc : Shape.Concatenates [S128x256, S128x256] S256x256 0) : FVec Ideal S256x256 .f32 :=
  matmul dot_S256x256_S256x256_S256x256_1_0_0_1_n_n none w1k
    (concatenate S256x256 0 [⟨S128x256, truncf FTy.bf16 sb⟩, ⟨S128x256, kb⟩] hc) (constant S256x256 FTy.f32 0#32)

/-- The rows of logits. -/
abbrev lgT (w2k : FVec Ideal S128x256 .bf16) (sb : FVec Ideal S128x256 .f32) (kb32 : FVec Ideal S120x256 .f32) (X : FVec Ideal S256x256 .f32) (hc : S128x256.Slices ![0, 0] S120x256) : FVec Ideal S120x256 .f32 :=
  addf (addf (extractStridedSlice S120x256 ![0, 0] sb hc) kb32)
    (extractStridedSlice S120x256 ![0, 0] (matmul dot_S128x256_S256x256_S128x256_1_0_0_1_n_n none w2k
      (truncf FTy.bf16 (mulf X (addf (broadcast S256x256 (FloatOps.ofBits FTy.f32 1065353216#32))
        (erf (mulf X (broadcast S256x256 (FloatOps.ofBits FTy.f32 1060439283#32))))))) (constant S128x256 FTy.f32 0#32)) hc)

theorem preT_apply (w1k : FVec Ideal S256x256 .bf16) (sb : FVec Ideal S128x256 .f32) (kb : FVec Ideal S128x256 .bf16) {hc} (r x : Fin 256) :
    preT w1k sb kb hc (ix2 r x)
      = ∑ c ∈ Finset.range 128, av w1k ![r, c] * av sb ![c, x] + ∑ c ∈ Finset.range 128, av w1k ![r, 128 + c] * av kb ![c, x] := by
  unfold preT
  pointwise
  simp only [ix2_eq]
  rw [sum_fin 128 fun c => av w1k ![r, c] * av sb ![c, x], sum_fin 128 fun c => av w1k ![r, 128 + c] * av kb ![c, x]]

theorem lgT_apply (w2k : FVec Ideal S128x256 .bf16) (sb : FVec Ideal S128x256 .f32) (kb32 : FVec Ideal S120x256 .f32) (X : FVec Ideal S256x256 .f32) {hc}
    (r : Fin 120) (x : Fin 256) :
    lgT w2k sb kb32 X hc (ix2 r x)
      = av sb ![r, x] + av kb32 ![r, x] + ∑ c ∈ Finset.range 256, av w2k ![r, c] * Prob.act (av X ![c, x]) := by
  unfold lgT
  pointwise
  simp only [ix2_eq]
  rw [← sum_fin 256]
  rfl

/-- The logit of one query and key, from the rows of scores and biases at its place. -/
theorem lg_ok {p : Prob} {w1k : S256x256.Idx → EReal} {w2k : S128x256.Idx → EReal} (hw : Wt p w1k w2k)
    (sb : FVec Ideal S128x256 .f32) (kb32 : FVec Ideal S120x256 .f32) (kb : FVec Ideal S128x256 .bf16) {hc hc'}
    {u x q k : ℕ} (hu : u < 8) (hx : x < 256)
    (h1s : ∀ b, b < 8 → av sb ![120 + b, x] = 1) (h0 : ∀ b, b < 8 → av kb ![120 + b, x] = 0)
    (hs : ∀ h, h < 15 → av sb ![8 * h + u, x] = p.sc q k h)
    (hk32 : ∀ h, h < 15 → av kb32 ![8 * h + u, x] = if k ≤ q then p.kb h (q - k) else ⊥)
    (hk : k ≤ q → ∀ h, h < 15 → av kb ![8 * h + u, x] = p.kb h (q - k)) {h : ℕ} (hh : h < 15) :
    lgT w2k sb kb32 (preT w1k sb kb hc) hc' (ix2 ⟨8 * h + u, by omega⟩ ⟨x, hx⟩) = p.lg q k h := by
  rw [lgT_apply, hs h hh, hk32 h hh, layer2 hw _ hh hu, Prob.lg]
  by_cases hc : k ≤ q
  · rw [if_pos hc, if_pos hc, Prob.f]
    congr 1
    refine Finset.sum_congr rfl fun m hm => ?_
    have hm := Finset.mem_range.mp hm
    congr 2
    rw [← ix2_eq _ ⟨8 * m + u, by omega⟩ ⟨x, hx⟩, preT_apply]
    refine (layer1 hw (fun c => av sb ![c, x]) (fun c => av kb ![c, x]) h1s h0 hm hu).trans ?_
    rw [Prob.pre]
    refine congrArg₂ (· + · + _) (Finset.sum_congr rfl fun h hh => ?_) (Finset.sum_congr rfl fun h hh => ?_)
    · rw [hs h (Finset.mem_range.mp hh)]
    · rw [hk hc h (Finset.mem_range.mp hh)]
  · rw [if_neg hc, if_neg hc, EReal.add_bot, EReal.bot_add]

theorem cat32_apply (a b : FVec Ideal S1x120x128 .f32) {h1 h2 h3} (r : Fin 120) (x : Fin 256) :
    (concatenate S120x256 1 [⟨S120x128, shapeCast S120x128 a h1⟩, ⟨S120x128, shapeCast S120x128 b h2⟩] h3 : FVec Ideal S120x256 .f32) (ix2 r x)
      = if h : x.val < 128 then a (ix3 0 r ⟨x, h⟩) else b (ix3 0 r ⟨x - 128, by omega⟩) := by
  pointwise

theorem cat16_apply (a b : FVec Ideal S1x128x128 .bf16) {h1 h2 h3} (r : Fin 128) (x : Fin 256) :
    (concatenate S128x256 1 [⟨S128x128, shapeCast S128x128 a h1⟩, ⟨S128x128, shapeCast S128x128 b h2⟩] h3 : FVec Ideal S128x256 .bf16) (ix2 r x)
      = if h : x.val < 128 then a (ix3 0 r ⟨x, h⟩) else b (ix3 0 r ⟨x - 128, by omega⟩) := by
  pointwise

theorem sb_apply (v : FVec Ideal S1x16x8x256 .f32) {h1 h2} (r : Fin 128) (x : Fin 256) :
    (shapeCast S128x256 (shapeCast S16x8x256 v h1) h2 : FVec Ideal S128x256 .f32) (ix2 r x)
      = v (ix4 0 ⟨r / 8, by omega⟩ ⟨r % 8, by omega⟩ x) := by
  pointwise

theorem split_apply (v : FVec Ideal S120x256 .f32) {h1 h2} (h : Fin 15) (u : Fin 8) (x : Fin 256) :
    (shapeCast S1x15x8x256 (shapeCast S15x8x256 v h1) h2 : FVec Ideal S1x15x8x256 .f32) (ix4 0 h u x) = v (ix2 ⟨8 * h + u, by omega⟩ x) := by
  pointwise
  exact congrArg v (by congr 2; omega)

/-- The score buffer's last row holds ones; its first `G` groups hold logits, the others scores. -/
def Lg (p : Prob) (qi ki G : ℕ) (s : S32x16x8x256.Idx → EReal) : Prop :=
  ∀ g u x, g < 32 → u < 8 → x < 256 → av s ![g, 15, u, x] = 1 ∧
    ∀ h, h < 15 → av s ![g, h, u, x] = if g < G then p.lg (256 * qi + x) (256 * ki + (8 * g + u)) h else p.sc (256 * qi + x) (256 * ki + (8 * g + u)) h

theorem Lg_of_Sc {p : Prob} {qi ki : ℕ} {s : S32x16x8x256.Idx → EReal} (h : Sc p qi ki 15 s) : Lg p qi ki 0 s := by
  intro g u x hg hu hx
  refine ⟨(h g u x hg hu hx).1, fun i hi => ?_⟩
  rw [if_neg (by omega)]
  exact (h g u x hg hu hx).2 i hi

theorem av2 {n0 n1 : ℕ} (X : (⟨2, ![n0, n1]⟩ : Shape).Idx → EReal) {a b : ℕ} (ha : a < n0) (hb : b < n1) : av X ![a, b] = X (ix2 ⟨a, ha⟩ ⟨b, hb⟩) :=
  (ix2_eq X ⟨a, ha⟩ ⟨b, hb⟩).symm

/-- Loading the weights whole. -/
theorem Wt_rd {p : Prob} {w1k : S256x256.Idx → EReal} {w2k : S128x256.Idx → EReal} (hw : Wt p w1k w2k) {i6 i7} :
    Wt p (rdO (s := S256x256) ![0, 0] S256x256.size i7 w1k) (rdO (s := S128x256) ![0, 0] S128x256.size i6 w2k) := by
  have e1 : (rdO (s := S256x256) ![0, 0] S256x256.size i7 w1k : S256x256.Idx → EReal) = w1k := by
    funext x
    exact (rd_av _ _).trans ((congrArg (av w1k) (by funext i; fin_cases i <;> simp)).trans (av_idx _ x))
  have e2 : (rdO (s := S128x256) ![0, 0] S128x256.size i6 w2k : S128x256.Idx → EReal) = w2k := by
    funext x
    exact (rd_av _ _).trans ((congrArg (av w2k) (by funext i; fin_cases i <;> simp)).trans (av_idx _ x))
  rw [e1, e2]
  exact hw

/-- The two halves of a masked bias block, loaded at entries `a` and `b`. -/
theorem cat32_ld {t32 : S256x120x128.Idx → EReal} {a b : ℕ} {o0 o1 : Fin 3 → ℕ} (e0 : o0 = ![a, 0, 0]) (e1 : o1 = ![b, 0, 0]) {i2 i3 h3 h4 h5}
    (r x : ℕ) (hr : r < 120) (hx : x < 256) :
    av (concatenate S120x256 1 [⟨S120x128, shapeCast S120x128 (rdO (s := S256x120x128) o0 S1x120x128.size i2 t32) h3⟩, ⟨S120x128, shapeCast S120x128 (rdO (s := S256x120x128) o1 S1x120x128.size i3 t32) h4⟩] h5 : FVec Ideal S120x256 .f32) ![r, x]
      = if x < 128 then av t32 ![a, r, x] else av t32 ![b, r, x - 128] := by
  subst e0 e1
  refine (av2 _ hr hx).trans ((cat32_apply _ _ ⟨r, hr⟩ ⟨x, hx⟩).trans ?_)
  split
  · refine (rd3 ..).trans ?_
    simp only [Fin.val_zero, Nat.zero_add, Nat.add_zero]
  · refine (rd3 ..).trans ?_
    simp only [Fin.val_zero, Nat.zero_add, Nat.add_zero]

/-- The two halves of a rounded bias block, loaded at entries `a` and `b`. -/
theorem cat16_ld {t16 : S256x128x128.Idx → EReal} {a b : ℕ} {o0 o1 : Fin 3 → ℕ} (e0 : o0 = ![a, 0, 0]) (e1 : o1 = ![b, 0, 0]) {i2 i3 h3 h4 h5}
    (r x : ℕ) (hr : r < 128) (hx : x < 256) :
    av (concatenate S128x256 1 [⟨S128x128, shapeCast S128x128 (rdO (s := S256x128x128) o0 S1x128x128.size i2 t16) h3⟩, ⟨S128x128, shapeCast S128x128 (rdO (s := S256x128x128) o1 S1x128x128.size i3 t16) h4⟩] h5 : FVec Ideal S128x256 .bf16) ![r, x]
      = if x < 128 then av t16 ![a, r, x] else av t16 ![b, r, x - 128] := by
  subst e0 e1
  refine (av2 _ hr hx).trans ((cat16_apply _ _ ⟨r, hr⟩ ⟨x, hx⟩).trans ?_)
  split
  · refine (rd3 ..).trans ?_
    simp only [Fin.val_zero, Nat.zero_add, Nat.add_zero]
  · refine (rd3 ..).trans ?_
    simp only [Fin.val_zero, Nat.zero_add, Nat.add_zero]

/-- A group's rows of the score buffer. -/
theorem sb_ld {s : S32x16x8x256.Idx → EReal} {G : ℕ} {i1 h1 h2} (r x : ℕ) (hr : r < 128) (hx : x < 256) :
    av (shapeCast S128x256 (shapeCast S16x8x256 (rdO (s := S32x16x8x256) ![G, 0, 0, 0] S1x16x8x256.size i1 s) h1) h2 : FVec Ideal S128x256 .f32) ![r, x]
      = av s ![G, r / 8, r % 8, x] := by
  refine (av2 _ hr hx).trans ((sb_apply _ ⟨r, hr⟩ ⟨x, hx⟩).trans ((rd4 ..).trans ?_))
  simp only [Fin.val_zero, Nat.zero_add, Nat.add_zero]

/-- Storing the logits of one group. -/
theorem logits_step {p : Prob} {qi ki G : ℕ} (hG : G < 32) (hq : qi < 8) (hkq : ki ≤ qi) (hd : ki = qi → G < 16)
    {t32 : S256x120x128.Idx → EReal} {t16 : S256x128x128.Idx → EReal} (ht : Tab p t32 t16) {s : S32x16x8x256.Idx → EReal} (hs : Lg p qi ki G s)
    {w1k : FVec Ideal S256x256 .bf16} {w2k : FVec Ideal S128x256 .bf16} (hw : Wt p w1k w2k)
    {sb : FVec Ideal S128x256 .f32} (hsb : ∀ r x, r < 128 → x < 256 → av sb ![r, x] = av s ![G, r / 8, r % 8, x])
    {kb32 : FVec Ideal S120x256 .f32} (h32 : ∀ r x, r < 120 → x < 256 → av kb32 ![r, x] =
      if x < 128 then av t32 ![32 * (qi - ki) + 15 - G, r, x] else av t32 ![32 * (qi - ki) + 31 - G, r, x - 128])
    {kb16 : FVec Ideal S128x256 .bf16} (h16 : ∀ r x, r < 128 → x < 256 → av kb16 ![r, x] =
      if x < 128 then av t16 ![32 * (qi - ki) + 15 - G, r, x] else av t16 ![32 * (qi - ki) + 31 - G, r, x - 128])
    {i0 h14 h15 hc hc'} :
    Lg p qi ki (G + 1) (updO (s := S32x16x8x256) ![G, 0, 0, 0] S1x15x8x256.size i0 (shapeCast S1x15x8x256 (shapeCast S15x8x256
      (lgT w2k sb kb32 (preT w1k sb kb16 hc) hc') h14) h15 : FVec Ideal S1x15x8x256 .f32) s) := by
  intro g u x hg hu hx
  refine ⟨?_, fun h hh => ?_⟩
  · refine (upd4 ..).trans ?_
    rw [dif_neg (by omega)]
    exact (hs g u x hg hu hx).1
  refine (upd4 ..).trans ?_
  split
  · obtain rfl : g = G := by omega
    rw [if_pos (by omega)]
    simp only [Nat.sub_zero, Nat.sub_self]
    refine (split_apply _ ⟨h, hh⟩ ⟨u, hu⟩ ⟨x, hx⟩).trans ?_
    have hi0 : 32 * (qi - ki) + 15 - g < 256 := by omega
    have hi1 : 32 * (qi - ki) + 31 - g < 256 := by omega
    have hgi : 32 * (qi - ki) + 15 - g + g = 32 * (qi - ki) + 15 := by omega
    refine lg_ok hw _ _ _ hu hx (k := 256 * ki + (8 * g + u)) (q := 256 * qi + x) ?_ ?_ ?_ ?_ ?_ hh
    · intro b hb
      rw [hsb _ _ (by omega) hx, show (120 + b) / 8 = 15 by omega]
      exact (hs g _ x hg (by omega) hx).1
    · intro b hb
      rw [h16 _ _ (by omega) hx]
      split
      · exact (ht _ b x hi0 hb (by omega)).2
      · exact (ht _ b (x - 128) hi1 hb (by omega)).2
    · intro h hh
      rw [hsb _ _ (by omega) hx, show (8 * h + u) / 8 = h by omega, show (8 * h + u) % 8 = u by omega,
        (hs g u x hg hu hx).2 h hh, if_neg (by omega)]
    · intro h hh
      rw [h32 _ _ (by omega) hx]
      split
      · rw [((ht _ u x hi0 hu (by omega)).1 h hh).1]
        refine if_congr (by omega) (congrArg _ (by omega)) rfl
      · rw [((ht _ u (x - 128) hi1 hu (by omega)).1 h hh).1]
        refine if_congr (by omega) (congrArg _ (by omega)) rfl
    · intro hc h hh
      rw [h16 _ _ (by omega) hx]
      split
      · rw [((ht _ u x hi0 hu (by omega)).1 h hh).2 (by omega)]
        exact congrArg _ (by omega)
      · rw [((ht _ u (x - 128) hi1 hu (by omega)).1 h hh).2 (by omega)]
        exact congrArg _ (by omega)
  · rw [(hs g u x hg hu hx).2 h hh]
    by_cases hgG : g < G
    · rw [if_pos hgG, if_pos (by omega)]
    · rw [if_neg hgG, if_neg (by omega)]

end Cert.KernelIdeal.Gen

end
-- ==== Proof.KI.Acc.lean ====
/- The running softmax: what storing a head's running sum, running maximum and weighted values leaves. -/
module

public import proofs.«01_k».proof.Proof.KI.Logits

@[expose] public section

noncomputable section

namespace Cert.KernelIdeal.Gen

open Idealize.ShloMosaic Idealize.ShloMosaic.TcCoe
open Dape

/-- The maxima: of the first `n` heads over `N'` keys, of the others over `N`. -/
def Mx (p : Prob) (qi N N' n : ℕ) (mx : S16x256.Idx → EReal) : Prop :=
  ∀ h x, h < 15 → x < 256 → av mx ![h, x] = mxOf (fun k => p.lg (256 * qi + x) k h) (if h < n then N' else N)
/-- The sums of exponentials, likewise. -/
def Su (p : Prob) (qi N N' n : ℕ) (l : S16x256.Idx → EReal) : Prop :=
  ∀ h x, h < 15 → x < 256 → av l ![h, x] = sumOf (fun k => p.lg (256 * qi + x) k h) (if h < n then N' else N)
/-- The weighted values, likewise. -/
def Ac (p : Prob) (qi N N' n : ℕ) (acc : S15x128x256.Idx → EReal) : Prop :=
  ∀ h d x, h < 15 → d < 128 → x < 256 →
    av acc ![h, d, x] = accOf (fun k => p.lg (256 * qi + x) k h) (fun k => p.V k h d) (if h < n then N' else N)

theorem mnew_pay (m : FVec Ideal S1x256 .f32) (s : FVec Ideal S32x1x8x256 .f32) (x : Fin 256) {h1 h2 h3 h4 h5 h6 h7 h8} :
    (maximumf m (shapeCast S1x256 (multiReduction FKind.maximumf [0] S256 (multiReduction FKind.maximumf [0] S8x256 (shapeCast S32x8x256 s h1) 4286578688#32 h2 h3 h4) 4286578688#32 h5 h6 h7) h8) : FVec Ideal S1x256 .f32) (ix2 0 x)
      = max (m (ix2 0 x)) (Finset.fold max (Ideal.ofBits FTy.f32 4286578688#32)
        (fun u : Fin 8 => Finset.fold max (Ideal.ofBits FTy.f32 4286578688#32) (fun g : Fin 32 => s (ix4 g 0 u x)) Finset.univ) Finset.univ) := by
  pointwise

theorem l_pay (l mx mn : FVec Ideal S1x256 .f32) (s : FVec Ideal S32x1x8x256 .f32) (x : Fin 256) {h1 h2 h3 h4 h5 h6 h7 h8 h9 h10 h11} :
    (shapeCast S1x256 (addf (mulf l (exp (subf mx mn))) (shapeCast S1x256 (multiReduction FKind.add [0] S256 (multiReduction FKind.add [0] S8x256
      (exp (subf (shapeCast S32x8x256 s h1) (broadcastTo S32x8x256 (shapeCast S1x1x256 mn h2) h3))) 0#32 h4 h5 h6) 0#32 h7 h8 h9) h10)) h11 : FVec Ideal S1x256 .f32) (ix2 0 x)
      = l (ix2 0 x) * Ideal.exp (mx (ix2 0 x) - mn (ix2 0 x)) + ∑ u : Fin 8, ∑ g : Fin 32, Ideal.exp (s (ix4 g 0 u x) - mn (ix2 0 x)) := by
  pointwise

theorem acc_pay (acc : FVec Ideal S1x128x256 .f32) (mx mn : FVec Ideal S1x256 .f32) (v : FVec Ideal S1x1x128x256 .bf16) (s : FVec Ideal S32x1x8x256 .f32) (d : Fin 128) (x : Fin 256) {h1 h2 h3 h4 h5 h6 h7 h8 h9} :
    (shapeCast S1x128x256 (addf (mulf (shapeCast S128x256 acc h1) (broadcastTo S128x256 (exp (subf mx mn)) h2)) (matmul dot_S128x256_S256x256_S128x256_1_0_0_1_n_n none
      (shapeCast S128x256 v h3) (truncf FTy.bf16 (shapeCast S256x256 (exp (subf (shapeCast S32x8x256 s h4) (broadcastTo S32x8x256 (shapeCast S1x1x256 mn h5) h6))) h7) h8) (constant S128x256 FTy.f32 0#32))) h9 : FVec Ideal S1x128x256 .f32) (ix3 0 d x)
      = acc (ix3 0 d x) * Ideal.exp (mx (ix2 0 x) - mn (ix2 0 x)) +
        ∑ k : Fin 256, v (ix4 0 0 d k) * Ideal.exp (s (ix4 ⟨k / 8, by omega⟩ 0 ⟨k % 8, by omega⟩ x) - mn (ix2 0 x)) := by
  pointwise

/-- A logit as the score buffer's block for one head reads it. -/
theorem blk_ld {p : Prob} {qi ki n : ℕ} (hn : n < 15) {s : S32x16x8x256.Idx → EReal} (hs : Lg p qi ki 32 s) {i2} (g : Fin 32) (u : Fin 8) (x : Fin 256) :
    (rdO (s := S32x16x8x256) ![0, n, 0, 0] S32x1x8x256.size i2 s : FVec Ideal S32x1x8x256 .f32) (ix4 g 0 u x) = p.lg (256 * qi + x) (256 * ki + (8 * g + u)) n := by
  refine (rd4 ..).trans ?_
  simp only [Fin.val_zero, Nat.zero_add, Nat.add_zero]
  rw [(hs g u x g.isLt u.isLt x.isLt).2 n hn, if_pos g.isLt]

theorem row_ld {f : S16x256.Idx → EReal} {n : ℕ} {i1} (x : Fin 256) :
    (rdO (s := S16x256) ![n, 0] S1x256.size i1 f : FVec Ideal S1x256 .f32) (ix2 0 x) = av f ![n, x] := by
  refine (rd2 ..).trans ?_
  simp only [Fin.val_zero, Nat.zero_add, Nat.add_zero]

/-- A head's new maximum. -/
theorem mnew_ok {p : Prob} {qi ki n : ℕ} (hn : n < 15) {s : S32x16x8x256.Idx → EReal} (hs : Lg p qi ki 32 s)
    {mx : S16x256.Idx → EReal} (hm : Mx p qi (256 * ki) (256 * ki + 256) n mx) {i1 i2 h1 h2 h3 h4 h5 h6 h7 h8} (x : Fin 256) :
    (maximumf (rdO (s := S16x256) ![n, 0] S1x256.size i1 mx) (shapeCast S1x256 (multiReduction FKind.maximumf [0] S256 (multiReduction FKind.maximumf [0] S8x256 (shapeCast S32x8x256 (rdO (s := S32x16x8x256) ![0, n, 0, 0] S32x1x8x256.size i2 s) h1) 4286578688#32 h2 h3 h4) 4286578688#32 h5 h6 h7) h8) : FVec Ideal S1x256 .f32) (ix2 0 x)
      = mxOf (fun k => p.lg (256 * qi + x) k n) (256 * ki + 256) := by
  refine (mnew_pay ..).trans ?_
  rw [row_ld, hm n x hn x.isLt, if_neg (lt_irrefl n), mxOf_add, neg_inf]
  refine congrArg (max _) ?_
  have e : ∀ u : Fin 8, Finset.fold max ⊥ (fun g : Fin 32 => (rdO (s := S32x16x8x256) ![0, n, 0, 0] S32x1x8x256.size i2 s : FVec Ideal S32x1x8x256 .f32) (ix4 g 0 u x)) Finset.univ
      = (Finset.range 32).sup fun g => p.lg (256 * qi + x) (256 * ki + (8 * g + u)) n := by
    intro u
    rw [← fold_max]
    exact congrArg (fun f => Finset.fold max ⊥ f Finset.univ) (funext fun g => blk_ld hn hs g u x)
  refine (congrArg (fun f => Finset.fold max ⊥ f Finset.univ) (funext e)).trans ?_
  rw [fold_max 8 fun u => (Finset.range 32).sup fun g => p.lg (256 * qi + x) (256 * ki + (8 * g + u)) n, Finset.sup_comm]
  exact (sup_blocks 32 8 fun j => p.lg (256 * qi + x) (256 * ki + j) n).symm

/-- Storing a head's maximum. -/
theorem mx_step {p : Prob} {qi N N' n : ℕ} (hn : n < 15) {mx : S16x256.Idx → EReal} (hm : Mx p qi N N' n mx)
    {mn : FVec Ideal S1x256 .f32} (hmn : ∀ x : Fin 256, mn (ix2 0 x) = mxOf (fun k => p.lg (256 * qi + x) k n) N') {i h} :
    Mx p qi N N' (n + 1) (updO (s := S16x256) ![n, 0] S1x256.size i (shapeCast S1x256 mn h : FVec Ideal S1x256 .f32) mx) := by
  intro h x hh hx
  refine (upd2 ..).trans ?_
  split
  · obtain rfl : h = n := by omega
    rw [if_pos (by omega)]
    simp only [Nat.sub_zero, Nat.sub_self]
    refine Eq.trans ?_ (hmn ⟨x, hx⟩)
    exact (by intro x; pointwise : ∀ x : Fin 256, (shapeCast S1x256 mn _ : FVec Ideal S1x256 .f32) (ix2 0 x) = mn (ix2 0 x)) ⟨x, hx⟩
  · rw [hm h x hh hx]
    exact congrArg _ (if_congr (by omega) rfl rfl)

/-- Storing a head's sum. -/
theorem l_step {p : Prob} {qi ki n : ℕ} (hn : n < 15) {s : S32x16x8x256.Idx → EReal} (hs : Lg p qi ki 32 s)
    {mx l : S16x256.Idx → EReal} (hm : Mx p qi (256 * ki) (256 * ki + 256) n mx) (hl : Su p qi (256 * ki) (256 * ki + 256) n l)
    {mn : FVec Ideal S1x256 .f32} (hmn : ∀ x : Fin 256, mn (ix2 0 x) = mxOf (fun k => p.lg (256 * qi + x) k n) (256 * ki + 256))
    {i0 i1 i2 i3 h1 h2 h3 h4 h5 h6 h7 h8 h9 h10 h11} :
    Su p qi (256 * ki) (256 * ki + 256) (n + 1) (updO (s := S16x256) ![n, 0] S1x256.size i0 (shapeCast S1x256 (addf (mulf (rdO (s := S16x256) ![n, 0] S1x256.size i1 l)
      (exp (subf (rdO (s := S16x256) ![n, 0] S1x256.size i2 mx) mn))) (shapeCast S1x256 (multiReduction FKind.add [0] S256 (multiReduction FKind.add [0] S8x256
      (exp (subf (shapeCast S32x8x256 (rdO (s := S32x16x8x256) ![0, n, 0, 0] S32x1x8x256.size i3 s) h1) (broadcastTo S32x8x256 (shapeCast S1x1x256 mn h2) h3))) 0#32 h4 h5 h6) 0#32 h7 h8 h9) h10)) h11 : FVec Ideal S1x256 .f32) l) := by
  intro h x hh hx
  refine (upd2 ..).trans ?_
  split
  · obtain rfl : h = n := by omega
    rw [if_pos (by omega)]
    simp only [Nat.sub_zero, Nat.sub_self]
    refine (l_pay _ _ _ _ ⟨x, hx⟩).trans ?_
    rw [hmn, row_ld, row_ld, hl h x hn hx, hm h x hn hx, if_neg (lt_irrefl h), ← sumOf_add]
    congr 1
    rw [sum_blocks 32 8 fun j => Ideal.exp (p.lg (256 * qi + x) (256 * ki + j) h - mxOf (fun k => p.lg (256 * qi + x) k h) (256 * ki + 256)), Finset.sum_comm, ← sum_fin]
    refine Finset.sum_congr rfl fun g _ => ?_
    rw [← sum_fin]
    refine Finset.sum_congr rfl fun u _ => ?_
    rw [blk_ld hn hs]
  · rw [hl h x hh hx]
    exact congrArg _ (if_congr (by omega) rfl rfl)

/-- Storing a head's weighted values. -/
theorem acc_step {p : Prob} {qi ki n : ℕ} {E : Env Ideal} (hE : Fits p qi E) (hn : n < 15) (hk : ki < 8) {s : S32x16x8x256.Idx → EReal} (hs : Lg p qi ki 32 s)
    {mx : S16x256.Idx → EReal} {acc : S15x128x256.Idx → EReal} (hm : Mx p qi (256 * ki) (256 * ki + 256) n mx) (ha : Ac p qi (256 * ki) (256 * ki + 256) n acc)
    {mn : FVec Ideal S1x256 .f32} (hmn : ∀ x : Fin 256, mn (ix2 0 x) = mxOf (fun k => p.lg (256 * qi + x) k n) (256 * ki + 256))
    {ov : Fin 4 → ℕ} (eov : ov = ![0, n, 0, 256 * ki])
    {i0 i1 i2 i3 i4 h1 h2 h3 h4 h5 h6 h7 h8 h9} :
    Ac p qi (256 * ki) (256 * ki + 256) (n + 1) (updO (s := S15x128x256) ![n, 0, 0] S1x128x256.size i0 (shapeCast S1x128x256 (addf (mulf (shapeCast S128x256 (rdO (s := S15x128x256) ![n, 0, 0] S1x128x256.size i1 acc) h1)
      (broadcastTo S128x256 (exp (subf (rdO (s := S16x256) ![n, 0] S1x256.size i2 mx) mn)) h2)) (matmul (φ₁ := .bf16) dot_S128x256_S256x256_S128x256_1_0_0_1_n_n none
      (shapeCast S128x256 (rdO (s := S1x15x128x2048) ov S1x1x128x256.size i3 E.X6) h3) (truncf FTy.bf16 (shapeCast S256x256 (exp (subf (shapeCast S32x8x256 (rdO (s := S32x16x8x256) ![0, n, 0, 0] S32x1x8x256.size i4 s) h4)
        (broadcastTo S32x8x256 (shapeCast S1x1x256 mn h5) h6))) h7) h8) (constant S128x256 FTy.f32 0#32))) h9 : FVec Ideal S1x128x256 .f32) acc) := by
  subst eov
  intro h d x hh hd hx
  refine (upd3 ..).trans ?_
  split
  · obtain rfl : h = n := by omega
    rw [if_pos (by omega)]
    simp only [Nat.sub_zero, Nat.sub_self]
    refine (acc_pay _ _ _ _ _ ⟨d, hd⟩ ⟨x, hx⟩).trans ?_
    rw [hmn, row_ld, hm h x hn hx, if_neg (lt_irrefl h), ← accOf_add]
    refine congrArg₂ (· * _ + ·) ?_ ?_
    · refine (rd3 ..).trans ?_
      simp only [Fin.val_zero, Nat.zero_add, Nat.add_zero]
      rw [ha h d x hn hd hx, if_neg (lt_irrefl h)]
    · rw [← sum_fin]
      refine Finset.sum_congr rfl fun k _ => ?_
      rw [blk_ld hn hs]
      refine congrArg₂ (· * ·) ?_ ?_
      · refine (rd4 ..).trans ?_
        simp only [Fin.val_zero, Nat.zero_add, Nat.add_zero]
        exact hE.v _ _ _ (by omega) hn hd
      · rw [show 8 * (k.val / 8) + k.val % 8 = k by omega]
  · rw [ha h d x hh hd hx]
    exact congrArg _ (if_congr (by omega) rfl rfl)

end Cert.KernelIdeal.Gen

end
-- ==== Proof.KI.Block.lean ====
/- One key block before the diagonal: its scores, its logits, and its part of the running softmax. -/
module

public import proofs.«01_k».proof.Proof.KI.Acc

@[expose] public section

set_option maxRecDepth 65536
set_option maxHeartbeats 4000000

noncomputable section

namespace Cert.KernelIdeal.Gen

open Idealize.ShloMosaic Idealize.ShloMosaic.TcCoe
open Dape
open Idealize.SL.Sem

theorem Mx.start {p : Prob} {qi N N' N'' : ℕ} {mx} (h : Mx p qi N N'' 0 mx) : Mx p qi N N' 0 mx := by
  intro a x ha hx; rw [h a x ha hx, if_neg (by omega), if_neg (by omega)]
theorem Mx.fin {p : Prob} {qi N N' N'' : ℕ} {mx} (h : Mx p qi N N' 15 mx) : Mx p qi N' N'' 0 mx := by
  intro a x ha hx; rw [h a x ha hx, if_pos (by omega), if_neg (by omega)]
theorem Su.start {p : Prob} {qi N N' N'' : ℕ} {mx} (h : Su p qi N N'' 0 mx) : Su p qi N N' 0 mx := by
  intro a x ha hx; rw [h a x ha hx, if_neg (by omega), if_neg (by omega)]
theorem Su.fin {p : Prob} {qi N N' N'' : ℕ} {mx} (h : Su p qi N N' 15 mx) : Su p qi N' N'' 0 mx := by
  intro a x ha hx; rw [h a x ha hx, if_pos (by omega), if_neg (by omega)]
theorem Ac.start {p : Prob} {qi N N' N'' : ℕ} {mx} (h : Ac p qi N N'' 0 mx) : Ac p qi N N' 0 mx := by
  intro a d x ha hd hx; rw [h a d x ha hd hx, if_neg (by omega), if_neg (by omega)]
theorem Ac.fin {p : Prob} {qi N N' N'' : ℕ} {mx} (h : Ac p qi N N' 15 mx) : Ac p qi N' N'' 0 mx := by
  intro a d x ha hd hx; rw [h a d x ha hd hx, if_pos (by omega), if_neg (by omega)]
theorem Sc.start {p : Prob} {qi ki qi' ki' : ℕ} {s} (h : Sc p qi ki 0 s) : Sc p qi' ki' 0 s :=
  fun g u x hg hu hx => ⟨(h g u x hg hu hx).1, fun _ h => absurd h (by omega)⟩
theorem Lg.start' {p : Prob} {qi ki qi' ki' : ℕ} {s} (h : Lg p qi ki 32 s) : Sc p qi' ki' 0 s :=
  fun g u x hg hu hx => ⟨(h g u x hg hu hx).1, fun _ h => absurd h (by omega)⟩

/-- What holds before the key block at position `N` of the keys. -/
structure Inv (p : Prob) (qi N : ℕ) (σ : St Ideal) : Prop where
  tab : Tab p σ.t32 σ.t16
  wt : Wt p σ.w1k σ.w2k
  ones : Sc p qi 0 0 σ.s
  mx : Mx p qi N N 0 σ.mx
  l : Su p qi N N 0 σ.l
  acc : Ac p qi N N 0 σ.acc

section rules
variable {α : Type} {E : Env Ideal} {prog : Prog (TpuEff nD τ sig (Elt Ideal) Λ₀ .tc) α} {Q : α → St Ideal → Prop}
variable {out : S1x256x1920.Idx → EReal} {s : S32x16x8x256.Idx → EReal} {t32 : S256x120x128.Idx → EReal} {t16 : S256x128x128.Idx → EReal} {w1k : S256x256.Idx → EReal} {w2k : S128x256.Idx → EReal} {acc : S15x128x256.Idx → EReal} {mx l : S16x256.Idx → EReal}

theorem Ok.set_s (P : (S32x16x8x256.Idx → EReal) → Prop) (h : P s) (H : ∀ s, P s → Ok E ⟨out, s, t32, t16, w1k, w2k, acc, mx, l⟩ prog Q) :
    Ok E ⟨out, s, t32, t16, w1k, w2k, acc, mx, l⟩ prog Q := H s h
theorem Ok.set_mx (P : (S16x256.Idx → EReal) → Prop) (h : P mx) (H : ∀ mx, P mx → Ok E ⟨out, s, t32, t16, w1k, w2k, acc, mx, l⟩ prog Q) :
    Ok E ⟨out, s, t32, t16, w1k, w2k, acc, mx, l⟩ prog Q := H mx h
theorem Ok.set_l (P : (S16x256.Idx → EReal) → Prop) (h : P l) (H : ∀ l, P l → Ok E ⟨out, s, t32, t16, w1k, w2k, acc, mx, l⟩ prog Q) :
    Ok E ⟨out, s, t32, t16, w1k, w2k, acc, mx, l⟩ prog Q := H l h
theorem Ok.set_acc (P : (S15x128x256.Idx → EReal) → Prop) (h : P acc) (H : ∀ acc, P acc → Ok E ⟨out, s, t32, t16, w1k, w2k, acc, mx, l⟩ prog Q) :
    Ok E ⟨out, s, t32, t16, w1k, w2k, acc, mx, l⟩ prog Q := H acc h
theorem Ok.set_out (P : (S1x256x1920.Idx → EReal) → Prop) (h : P out) (H : ∀ out, P out → Ok E ⟨out, s, t32, t16, w1k, w2k, acc, mx, l⟩ prog Q) :
    Ok E ⟨out, s, t32, t16, w1k, w2k, acc, mx, l⟩ prog Q := H out h
end rules

/-- The base of key block `k`, as the kernel computes it in its loop. -/
theorem base_loop {k : ℕ} (hk : k < 8) : (Scalar.indexCast (Scalar.muli (Scf.iv 0#32 1#32 k) 256#32)).toNat = 256 * k :=
  (by decide +kernel : ∀ k : Fin 8, (Scalar.indexCast (Scalar.muli (Scf.iv 0#32 1#32 k.val) 256#32)).toNat = 256 * k.val) ⟨k, hk⟩

theorem off3_eq {k c : ℕ} (hk : k < 8) : ![0, (Scalar.indexCast (Scalar.muli (Scf.iv 0#32 1#32 k) 256#32)).toNat, c] = ![0, 256 * k, c] := by rw [base_loop hk]
theorem off4_eq {k c : ℕ} (hk : k < 8) : ![0, c, 0, (Scalar.indexCast (Scalar.muli (Scf.iv 0#32 1#32 k) 256#32)).toNat] = ![0, c, 0, 256 * k] := by rw [base_loop hk]

theorem ent_loop {a : BitVec 32} {n qi k G : ℕ} (ha : a = 15#32 ∧ n = 15 ∨ a = 31#32 ∧ n = 31) (hq : qi < 8) (hk : k < qi) (hG : G < 32) :
    (Scalar.indexCast (Scalar.addi (Scalar.muli (Scalar.subi (BitVec.ofNat 32 qi) (Scf.iv 0#32 1#32 k)) 32#32) (a - BitVec.ofNat 32 G))).toNat = 32 * (qi - k) + n - G := by
  rcases ha with ⟨rfl, rfl⟩ | ⟨rfl, rfl⟩
  · exact (by decide +kernel : ∀ qi k : Fin 8, ∀ G : Fin 32, k < qi → (Scalar.indexCast (Scalar.addi (Scalar.muli (Scalar.subi (BitVec.ofNat 32 qi.val) (Scf.iv 0#32 1#32 k.val)) 32#32) (15#32 - BitVec.ofNat 32 G.val))).toNat = 32 * (qi.val - k.val) + 15 - G.val)
      ⟨qi, hq⟩ ⟨k, by omega⟩ ⟨G, hG⟩ hk
  · exact (by decide +kernel : ∀ qi k : Fin 8, ∀ G : Fin 32, k < qi → (Scalar.indexCast (Scalar.addi (Scalar.muli (Scalar.subi (BitVec.ofNat 32 qi.val) (Scf.iv 0#32 1#32 k.val)) 32#32) (31#32 - BitVec.ofNat 32 G.val))).toNat = 32 * (qi.val - k.val) + 31 - G.val)
      ⟨qi, hq⟩ ⟨k, by omega⟩ ⟨G, hG⟩ hk

theorem offT0_eq {c : BitVec 32} {qi k G : ℕ} (hq : qi < 8) (hk : k < qi) (hG : G < 32) (hc : c = 15#32 - BitVec.ofNat 32 G) :
    ![(Scalar.indexCast (Scalar.addi (Scalar.muli (Scalar.subi (BitVec.ofNat 32 qi) (Scf.iv 0#32 1#32 k)) 32#32) c)).toNat, 0, 0] = ![32 * (qi - k) + 15 - G, 0, 0] := by
  rw [hc, ent_loop (.inl ⟨rfl, rfl⟩) hq hk hG]
theorem offT1_eq {c : BitVec 32} {qi k G : ℕ} (hq : qi < 8) (hk : k < qi) (hG : G < 32) (hc : c = 31#32 - BitVec.ofNat 32 G) :
    ![(Scalar.indexCast (Scalar.addi (Scalar.muli (Scalar.subi (BitVec.ofNat 32 qi) (Scf.iv 0#32 1#32 k)) 32#32) c)).toNat, 0, 0] = ![32 * (qi - k) + 31 - G, 0, 0] := by
  rw [hc, ent_loop (.inr ⟨rfl, rfl⟩) hq hk hG]

theorem block_trips (i : grid0.Coords) : (k0_t2_loop i).trips = (i 1).val :=
  (by decide +kernel : ∀ a : Fin 8, (Scf.Loop.trips ⟨0#32, Scalar.addi 0#32 (Scalar.muli (Scalar.divsi (Scalar.subi (BitVec.ofNat 32 a.val) 0#32) 1#32) 1#32), 1#32⟩) = a.val) (i 1)

variable (E : Env Ideal) (i : grid0.Coords)

theorem block_step {p : Prob} (hE : Fits p (i 1).val E) (k : Fin (k0_t2_loop i).trips) (σ : St Ideal) (hσ : Inv p (i 1).val (256 * k.val) σ) :
    Ok E σ (k0_t2_body i E.m2 E.h2 E.m3 E.h3 E.m4 E.h4 E.m5 E.h5 E.m6 E.h6 E.m7 E.h7 E.m8 E.h8 E.m9 E.h9 E.m10 E.h10 E.m11 E.h11 E.m12 E.h12 E.m13 E.h13 E.m14 E.h14 E.m15 E.h15 E.m16 E.h16 E.m17 E.h17 E.m18 E.h18 E.m19 E.h19 E.m20 E.h20 (BitVec.ofNat 32 (i 1).val) k ⟨⟩)
      (fun _ σ' => Inv p (i 1).val (256 * (k.val + 1)) σ') := by
  have hq : (i 1).val < 8 := (i 1).isLt
  have hkq : k.val < (i 1).val := lt_of_lt_of_eq k.isLt (block_trips i)
  have hk : k.val < 8 := by omega
  obtain ⟨out, s, t32, t16, w1k, w2k, acc, mx, l⟩ := σ
  obtain ⟨ht, hw, hs, hm, hl, ha⟩ := hσ
  replace hs : Sc p (i 1).val k.val 0 s := hs.start
  iterate 15
    repeat
      conv => arg 3; whnf
      first
      | with_reducible refine Ok.load ?_
      | (fail_if_success (with_reducible refine Ok.store ?_)); refine Ok.load ?_
    conv => arg 3; whnf
    with_reducible refine Ok.store ?_
    refine Ok.set_s (Sc p (i 1).val k.val (_ + 1)) (score_step hE (by omega) hk hs (off3_eq hk) (off3_eq hk)) fun s hs => ?_
  replace hs := Lg_of_Sc hs
  iterate 32
    repeat
      conv => arg 3; whnf
      first
      | with_reducible refine Ok.load ?_
      | (fail_if_success (with_reducible refine Ok.store ?_)); refine Ok.load ?_
    conv => arg 3; whnf
    with_reducible refine Ok.store ?_
    refine Ok.set_s (Lg p (i 1).val k.val (_ + 1)) (logits_step (by omega) hq hkq.le (fun h => absurd h hkq.ne) ht hs (Wt_rd hw) sb_ld
      (cat32_ld (offT0_eq hq hkq (by omega) (by decide)) (offT1_eq hq hkq (by omega) (by decide)))
      (cat16_ld (offT0_eq hq hkq (by omega) (by decide)) (offT1_eq hq hkq (by omega) (by decide)))) fun s hs => ?_
  replace hm : Mx p (i 1).val (256 * k.val) (256 * k.val + 256) 0 mx := hm.start
  replace hl : Su p (i 1).val (256 * k.val) (256 * k.val + 256) 0 l := hl.start
  replace ha : Ac p (i 1).val (256 * k.val) (256 * k.val + 256) 0 acc := ha.start
  iterate 15
    repeat
      conv => arg 3; whnf
      first
      | with_reducible refine Ok.load ?_
      | (fail_if_success (with_reducible refine Ok.store ?_)); refine Ok.load ?_
    conv => arg 3; whnf
    with_reducible refine Ok.store ?_
    refine Ok.set_l (Su p (i 1).val (256 * k.val) (256 * k.val + 256) (_ + 1)) (l_step (by omega) hs hm hl (mnew_ok (by omega) hs hm)) fun l hl => ?_
    repeat
      conv => arg 3; whnf
      first
      | with_reducible refine Ok.load ?_
      | (fail_if_success (with_reducible refine Ok.store ?_)); refine Ok.load ?_
    conv => arg 3; whnf
    with_reducible refine Ok.store ?_
    refine Ok.set_mx (Mx p (i 1).val (256 * k.val) (256 * k.val + 256) (_ + 1)) (mx_step (by omega) hm (mnew_ok (by omega) hs hm)) fun mx hm' => ?_
    repeat
      conv => arg 3; whnf
      first
      | with_reducible refine Ok.load ?_
      | (fail_if_success (with_reducible refine Ok.store ?_)); refine Ok.load ?_
    conv => arg 3; whnf
    with_reducible refine Ok.store ?_
    refine Ok.set_acc (Ac p (i 1).val (256 * k.val) (256 * k.val + 256) (_ + 1)) (acc_step hE (by omega) hk hs hm ha (mnew_ok (by omega) hs hm) (off4_eq hk)) fun acc ha => ?_
    replace hm := hm'
    clear hm'
  conv => arg 3; whnf
  exact Ok.ret ⟨ht, hw, hs.start', hm.fin, hl.fin, ha.fin⟩

end Cert.KernelIdeal.Gen

end
-- ==== Proof.KI.Upper.lean ====
/- Two groups of the diagonal key block whose first half of queries comes before all their keys. -/
module

public import proofs.«01_k».proof.Proof.KI.Acc

@[expose] public section

noncomputable section

namespace Cert.KernelIdeal.Gen

open Idealize.ShloMosaic Idealize.ShloMosaic.TcCoe
open Dape

theorem sbU_apply (v w : FVec Ideal S1x16x8x128 .f32) {h1 h2 h3} (r : Fin 128) (x : Fin 256) :
    (concatenate S128x256 1 [⟨S128x128, shapeCast S128x128 (shapeCast S16x8x128 v h1) h2⟩, ⟨S128x128, shapeCast S128x128 (shapeCast S16x8x128 w h1) h2⟩] h3 : FVec Ideal S128x256 .f32) (ix2 r x)
      = if h : x.val < 128 then v (ix4 0 ⟨r / 8, by omega⟩ ⟨r % 8, by omega⟩ ⟨x, h⟩) else w (ix4 0 ⟨r / 8, by omega⟩ ⟨r % 8, by omega⟩ ⟨x - 128, by omega⟩) := by
  pointwise

/-- The second halves of two groups' rows of the score buffer, side by side. -/
theorem sbU_ld {s : S32x16x8x256.Idx → EReal} {G : ℕ} {i1 i2 h1 h2 h3} (r x : ℕ) (hr : r < 128) (hx : x < 256) :
    av (concatenate S128x256 1 [⟨S128x128, shapeCast S128x128 (shapeCast S16x8x128 (rdO (s := S32x16x8x256) ![G, 0, 0, 128] S1x16x8x128.size i1 s) h1) h2⟩,
      ⟨S128x128, shapeCast S128x128 (shapeCast S16x8x128 (rdO (s := S32x16x8x256) ![G + 1, 0, 0, 128] S1x16x8x128.size i2 s) h1) h2⟩] h3 : FVec Ideal S128x256 .f32) ![r, x]
      = if x < 128 then av s ![G, r / 8, r % 8, 128 + x] else av s ![G + 1, r / 8, r % 8, x] := by
  refine (av2 _ hr hx).trans ((sbU_apply _ _ ⟨r, hr⟩ ⟨x, hx⟩).trans ?_)
  split
  · refine (rd4 ..).trans ?_
    simp only [Fin.val_zero, Nat.zero_add, Nat.add_zero]
  · rename_i hh
    refine (rd4 ..).trans ?_
    replace hh : ¬ x < 128 := hh
    simp only [Fin.val_zero, Nat.zero_add, Nat.add_zero, show 128 + (x - 128) = x by omega]

theorem halfL_apply (v : FVec Ideal S120x256 .f32) {h0 h1 h2} (h : Fin 15) (u : Fin 8) (x : Fin 128) :
    (shapeCast S1x15x8x128 (shapeCast S15x8x128 (extractStridedSlice S120x128 ![0, 0] v h0) h1) h2 : FVec Ideal S1x15x8x128 .f32) (ix4 0 h u x)
      = v (ix2 ⟨8 * h + u, by omega⟩ ⟨x, by omega⟩) := by
  pointwise
  exact congrArg v (by congr 2; omega)

theorem halfR_apply (v : FVec Ideal S120x256 .f32) {h0 h1 h2} (h : Fin 15) (u : Fin 8) (x : Fin 128) :
    (shapeCast S1x15x8x128 (shapeCast S15x8x128 (extractStridedSlice S120x128 ![0, 128] v h0) h1) h2 : FVec Ideal S1x15x8x128 .f32) (ix4 0 h u x)
      = v (ix2 ⟨8 * h + u, by omega⟩ ⟨128 + x, by omega⟩) := by
  pointwise
  exact congrArg v (by congr 2; omega)

theorem neg_pay {h} (x : S1x15x8x128.Idx) : (shapeCast S1x15x8x128 (broadcast S15x8x128 (FloatOps.ofBits (F := Ideal) FTy.f32 4286578688#32)) h : FVec Ideal S1x15x8x128 .f32) x = ⊥ := by
  revert x; intro x; exact neg_inf

/-- Storing the logits of two groups and covering their first halves. -/
theorem upper_step {p : Prob} {qi G : ℕ} (hG : G + 1 < 32) (hG' : 16 ≤ G)
    {t32 : S256x120x128.Idx → EReal} {t16 : S256x128x128.Idx → EReal} (ht : Tab p t32 t16) {s : S32x16x8x256.Idx → EReal} (hs : Lg p qi qi G s)
    {w1k : FVec Ideal S256x256 .bf16} {w2k : FVec Ideal S128x256 .bf16} (hw : Wt p w1k w2k)
    {sb : FVec Ideal S128x256 .f32} (hsb : ∀ r x, r < 128 → x < 256 → av sb ![r, x] = if x < 128 then av s ![G, r / 8, r % 8, 128 + x] else av s ![G + 1, r / 8, r % 8, x])
    {kb32 : FVec Ideal S120x256 .f32} (h32 : ∀ r x, r < 120 → x < 256 → av kb32 ![r, x] =
      if x < 128 then av t32 ![31 - G, r, x] else av t32 ![31 - (G + 1), r, x - 128])
    {kb16 : FVec Ideal S128x256 .bf16} (h16 : ∀ r x, r < 128 → x < 256 → av kb16 ![r, x] =
      if x < 128 then av t16 ![31 - G, r, x] else av t16 ![31 - (G + 1), r, x - 128])
    {ng ng' : FVec Ideal S1x15x8x128 .f32} (hng : ∀ x, ng x = ⊥) (hng' : ∀ x, ng' x = ⊥)
    {i0 i1 i2 i3 h1 h2 h3 h4 hc hc'} :
    Lg p qi qi (G + 1 + 1) (updO (s := S32x16x8x256) ![G + 1, 0, 0, 0] S1x15x8x128.size i3 ng' (updO (s := S32x16x8x256) ![G, 0, 0, 0] S1x15x8x128.size i2 ng
      (updO (s := S32x16x8x256) ![G + 1, 0, 0, 128] S1x15x8x128.size i1 (shapeCast S1x15x8x128 (shapeCast S15x8x128 (extractStridedSlice S120x128 ![0, 128]
        (lgT w2k sb kb32 (preT w1k sb kb16 hc) hc') h4) h1) h2 : FVec Ideal S1x15x8x128 .f32)
      (updO (s := S32x16x8x256) ![G, 0, 0, 128] S1x15x8x128.size i0 (shapeCast S1x15x8x128 (shapeCast S15x8x128 (extractStridedSlice S120x128 ![0, 0]
        (lgT w2k sb kb32 (preT w1k sb kb16 hc) hc') h3) h1) h2 : FVec Ideal S1x15x8x128 .f32) s)))) := by
  have key : ∀ h u x, h < 15 → (hu : u < 8) → (hx : x < 256) → (hr : 8 * h + u < 120) → lgT w2k sb kb32 (preT w1k sb kb16 hc) hc' (ix2 ⟨8 * h + u, hr⟩ ⟨x, hx⟩)
      = if x < 128 then p.lg (256 * qi + (128 + x)) (256 * qi + (8 * G + u)) h else p.lg (256 * qi + x) (256 * qi + (8 * (G + 1) + u)) h := by
    intro h u x hh hu hx hr
    by_cases hx1 : x < 128
    · rw [if_pos hx1]
      refine lg_ok hw _ _ _ hu hx (k := 256 * qi + (8 * G + u)) (q := 256 * qi + (128 + x)) ?_ ?_ ?_ ?_ ?_ hh
      · intro b hb
        rw [hsb _ _ (by omega) hx, if_pos hx1, show (120 + b) / 8 = 15 by omega]
        exact (hs G _ (128 + x) (by omega) (by omega) (by omega)).1
      · intro b hb
        rw [h16 _ _ (by omega) hx, if_pos hx1]
        exact (ht _ b x (by omega) hb (by omega)).2
      · intro h hh
        rw [hsb _ _ (by omega) hx, if_pos hx1, show (8 * h + u) / 8 = h by omega, show (8 * h + u) % 8 = u by omega,
          (hs G u (128 + x) (by omega) hu (by omega)).2 h hh, if_neg (by omega)]
      · intro h hh
        rw [h32 _ _ (by omega) hx, if_pos hx1, ((ht _ u x (by omega) hu (by omega)).1 h hh).1]
        refine if_congr (by omega) (congrArg _ (by omega)) rfl
      · intro hc h hh
        rw [h16 _ _ (by omega) hx, if_pos hx1, ((ht _ u x (by omega) hu (by omega)).1 h hh).2 (by omega)]
        exact congrArg _ (by omega)
    · rw [if_neg hx1]
      refine lg_ok hw _ _ _ hu hx (k := 256 * qi + (8 * (G + 1) + u)) (q := 256 * qi + x) ?_ ?_ ?_ ?_ ?_ hh
      · intro b hb
        rw [hsb _ _ (by omega) hx, if_neg hx1, show (120 + b) / 8 = 15 by omega]
        exact (hs (G + 1) _ x (by omega) (by omega) (by omega)).1
      · intro b hb
        rw [h16 _ _ (by omega) hx, if_neg hx1]
        exact (ht _ b _ (by omega) hb (by omega)).2
      · intro h hh
        rw [hsb _ _ (by omega) hx, if_neg hx1, show (8 * h + u) / 8 = h by omega, show (8 * h + u) % 8 = u by omega,
          (hs (G + 1) u x (by omega) hu (by omega)).2 h hh, if_neg (by omega)]
      · intro h hh
        rw [h32 _ _ (by omega) hx, if_neg hx1, ((ht _ u (x - 128) (by omega) hu (by omega)).1 h hh).1]
        refine if_congr (by omega) (congrArg _ (by omega)) rfl
      · intro hc h hh
        rw [h16 _ _ (by omega) hx, if_neg hx1, ((ht _ u (x - 128) (by omega) hu (by omega)).1 h hh).2 (by omega)]
        exact congrArg _ (by omega)
  intro g u x hg hu hx
  refine ⟨?_, fun h hh => ?_⟩
  · refine (upd4 ..).trans ?_
    rw [dif_neg (by omega)]
    refine (upd4 ..).trans ?_
    rw [dif_neg (by omega)]
    refine (upd4 ..).trans ?_
    rw [dif_neg (by omega)]
    refine (upd4 ..).trans ?_
    rw [dif_neg (by omega)]
    exact (hs g u x hg hu hx).1
  refine (upd4 ..).trans ?_
  by_cases c1 : g = G + 1 ∧ x < 128
  · rw [dif_pos (by omega), hng', if_pos (by omega), Prob.lg, if_neg (by omega)]
  rw [dif_neg (by omega)]
  refine (upd4 ..).trans ?_
  by_cases c2 : g = G ∧ x < 128
  · rw [dif_pos (by omega), hng, if_pos (by omega), Prob.lg, if_neg (by omega)]
  rw [dif_neg (by omega)]
  refine (upd4 ..).trans ?_
  by_cases c3 : g = G + 1
  · subst c3
    rw [dif_pos (by omega), if_pos (by omega)]
    simp only [Nat.sub_zero, Nat.sub_self]
    refine (halfR_apply _ ⟨h, hh⟩ ⟨u, hu⟩ ⟨x - 128, by omega⟩).trans ((key h u (128 + (x - 128)) hh hu (by omega) (by omega)).trans ?_)
    rw [if_neg (by omega), show 128 + (x - 128) = x by omega]
  rw [dif_neg (by omega)]
  refine (upd4 ..).trans ?_
  by_cases c4 : g = G
  · subst c4
    rw [dif_pos (by omega), if_pos (by omega)]
    simp only [Nat.sub_zero, Nat.sub_self]
    refine (halfL_apply _ ⟨h, hh⟩ ⟨u, hu⟩ ⟨x - 128, by omega⟩).trans ((key h u (x - 128) hh hu (by omega) (by omega)).trans ?_)
    rw [if_pos (by omega), show 128 + (x - 128) = x by omega]
  rw [dif_neg (by omega), (hs g u x hg hu hx).2 h hh]
  by_cases hgG : g < G
  · rw [if_pos hgG, if_pos (by omega)]
  · rw [if_neg hgG, if_neg (by omega)]

/-- The first `n` heads of the result block are the averages over all keys. -/
def Out (p : Prob) (qi n : ℕ) (out : S1x256x1920.Idx → EReal) : Prop :=
  ∀ h x d, h < n → x < 256 → d < 128 → av out ![0, x, 128 * h + d] = avg (fun k => p.lg (256 * qi + x) k h) (fun k => p.V k h d) 2048

theorem out_pay (a : FVec Ideal S1x128x256 .f32) (l : FVec Ideal S1x256 .f32) {h1 h2 h3 h5} (x : Fin 256) (d : Fin 128) :
    (shapeCast S1x256x128 (truncf FTy.bf16 (transpose S256x128 [1, 0] (divf (shapeCast S128x256 a h1) (broadcastTo S128x256 l h2) : FVec Ideal S128x256 .f32) h3) : FVec Ideal S256x128 .bf16) h5 : FVec Ideal S1x256x128 .bf16) (ix3 0 x d)
      = Ideal.div (a (ix3 0 d x)) (l (ix2 0 x)) := by
  pointwise

/-- Storing one head of the result. -/
theorem out_step {p : Prob} {qi n : ℕ} (hn : n < 15) (hq : qi < 8) (hV : ∀ h d, h < 15 → d < 128 → ∃ k, k < 2048 ∧ 0 < p.V k h d)
    {out : S1x256x1920.Idx → EReal} {acc : S15x128x256.Idx → EReal} {l : S16x256.Idx → EReal} {N : ℕ}
    (ho : Out p qi n out) (ha : Ac p qi N (256 * qi + 256) 15 acc) (hl : Su p qi N (256 * qi + 256) 15 l)
    {o : Fin 3 → ℕ} (ho' : o = ![0, 0, 128 * n]) {i0 i1 i2 h1 h2 h3 h5} :
    Out p qi (n + 1) (updO (s := S1x256x1920) o S1x256x128.size i0 (shapeCast S1x256x128 (truncf FTy.bf16 (transpose S256x128 [1, 0] (divf (shapeCast S128x256 (rdO (s := S15x128x256) ![n, 0, 0] S1x128x256.size i1 acc) h1)
      (broadcastTo S128x256 (rdO (s := S16x256) ![n, 0] S1x256.size i2 l) h2) : FVec Ideal S128x256 .f32) h3) : FVec Ideal S256x128 .bf16) h5 : FVec Ideal S1x256x128 .bf16) out) := by
  subst ho'
  intro h x d hh hx hd
  refine (upd3 ..).trans ?_
  by_cases c : h = n
  · subst c
    rw [dif_pos (by omega)]
    simp only [Nat.sub_zero, Nat.sub_self, Nat.add_sub_cancel_left]
    refine (out_pay _ _ ⟨x, hx⟩ ⟨d, hd⟩).trans ?_
    have e1 := ha h d x hn hd hx
    have e2 := hl h x hn hx
    rw [if_pos hn] at e1 e2
    refine (congrArg₂ Ideal.div ((rd3 ..).trans (Eq.trans ?_ e1)) ((rd2 ..).trans (Eq.trans ?_ e2))).trans ?_
    · simp only [Fin.val_zero, Nat.zero_add, Nat.add_zero]
    · simp only [Fin.val_zero, Nat.zero_add, Nat.add_zero]
    · exact quot_eq (by omega) (by omega) (fun k hk _ => by rw [Prob.lg, if_neg (by omega)]) (hV h d hn hd)
  · rw [dif_neg (by omega)]
    exact ho h x d (by omega) hx hd

end Cert.KernelIdeal.Gen

end
-- ==== Proof.KI.Diag.lean ====
/- The key block on the diagonal and the result of a grid point. -/
module

public import proofs.«01_k».proof.Proof.KI.Block
public import proofs.«01_k».proof.Proof.KI.Upper

@[expose] public section

set_option maxRecDepth 65536
set_option maxHeartbeats 4000000

noncomputable section

namespace Cert.KernelIdeal.Gen

open Idealize.ShloMosaic Idealize.ShloMosaic.TcCoe
open Idealize.SL.Sem
open Dape

/-- The base of the diagonal key block. -/
theorem base_diag (i : grid0.Coords) : (Scalar.indexCast (Scalar.muli (BitVec.ofNat 32 (i 1).val) 256#32)).toNat = 256 * (i 1).val :=
  (by decide +kernel : ∀ k : Fin 8, (Scalar.indexCast (Scalar.muli (BitVec.ofNat 32 k.val) 256#32)).toNat = 256 * k.val) (i 1)

theorem off70_eq {i : grid0.Coords} {c : ℕ} : ![0, (Scalar.indexCast (Scalar.muli (BitVec.ofNat 32 (i 1).val) 256#32)).toNat, c] = ![0, 256 * (i 1).val, c] := by rw [base_diag i]
theorem off87_eq {i : grid0.Coords} {c : ℕ} : ![0, c, 0, (Scalar.indexCast (Scalar.muli (BitVec.ofNat 32 (i 1).val) 256#32)).toNat] = ![0, c, 0, 256 * (i 1).val] := by rw [base_diag i]

theorem ent_diag {a : BitVec 32} (i : grid0.Coords) :
    (Scalar.indexCast (Scalar.addi (Scalar.muli (Scalar.subi (BitVec.ofNat 32 (i 1).val) (BitVec.ofNat 32 (i 1).val)) 32#32) a)).toNat = a.toNat := by
  simp [Scalar.indexCast, Scalar.addi, Scalar.muli, Scalar.subi, IntOp.addi, IntOp.muli, IntOp.subi]

theorem offD0_eq {c : BitVec 32} {i : grid0.Coords} {G : ℕ} (hc : c.toNat = 15 - G) (hG : G < 16) :
    ![(Scalar.indexCast (Scalar.addi (Scalar.muli (Scalar.subi (BitVec.ofNat 32 (i 1).val) (BitVec.ofNat 32 (i 1).val)) 32#32) c)).toNat, 0, 0] = ![32 * ((i 1).val - (i 1).val) + 15 - G, 0, 0] := by
  rw [ent_diag, hc]; simp
theorem offD1_eq {c : BitVec 32} {i : grid0.Coords} {G : ℕ} (hc : c.toNat = 31 - G) (hG : G < 32) :
    ![(Scalar.indexCast (Scalar.addi (Scalar.muli (Scalar.subi (BitVec.ofNat 32 (i 1).val) (BitVec.ofNat 32 (i 1).val)) 32#32) c)).toNat, 0, 0] = ![32 * ((i 1).val - (i 1).val) + 31 - G, 0, 0] := by
  rw [ent_diag, hc]; simp
theorem offU_eq {c : BitVec 32} {i : grid0.Coords} {G : ℕ} (hc : c.toNat = 31 - G) :
    ![(Scalar.indexCast (Scalar.addi (Scalar.muli (Scalar.subi (BitVec.ofNat 32 (i 1).val) (BitVec.ofNat 32 (i 1).val)) 32#32) c)).toNat, 0, 0] = ![31 - G, 0, 0] := by
  rw [ent_diag, hc]

variable (E : Env Ideal) (i : grid0.Coords)

/-- What a grid point hands to the next: the weights, the bias tables and the row of ones. -/
structure Kept (p : Prob) (σ : St Ideal) : Prop where
  tab : Tab p σ.t32 σ.t16
  wt : Wt p σ.w1k σ.w2k
  ones : Sc p 0 0 0 σ.s

/-- A grid point's result, given what holds when the diagonal block begins. -/
theorem diag_step {p : Prob} (hE : Fits p (i 1).val E) (hV : ∀ h d, h < 15 → d < 128 → ∃ k, k < 2048 ∧ 0 < p.V k h d) (σ : St Ideal)
    (hhead : Ok E σ (k0_part144 i E.m2 E.h2 E.m3 E.h3 E.m4 E.h4 E.m5 E.h5 E.m6 E.h6 E.m7 E.h7 E.m8 E.h8 E.m9 E.h9 E.m10 E.h10 E.m11 E.h11 E.m12 E.h12 E.m13 E.h13 E.m14 E.h14 E.m15 E.h15 E.m16 E.h16 E.m17 E.h17 E.m18 E.h18 E.m19 E.h19 E.m20 E.h20) (fun v σ' => v = ⟨BitVec.ofNat 32 (i 1).val, Scalar.muli (BitVec.ofNat 32 (i 1).val) 256#32, k0_pay559 (rdO (s := S1x2048x15) (k0_off69 i) S1x256x15.size (k0_off69_inb i) E.X8)⟩ ∧ Inv p (i 1).val (256 * (i 1).val) σ')) :
    Ok E σ (cc0_dape_attention i E.m2 E.h2 E.m3 E.h3 E.m4 E.h4 E.m5 E.h5 E.m6 E.h6 E.m7 E.h7 E.m8 E.h8 E.m9 E.h9 E.m10 E.h10 E.m11 E.h11 E.m12 E.h12 E.m13 E.h13 E.m14 E.h14 E.m15 E.h15 E.m16 E.h16 E.m17 E.h17 E.m18 E.h18 E.m19 E.h19 E.m20 E.h20)
      (fun _ σ' => Kept p σ' ∧ Out p (i 1).val 15 σ'.out) := by
  refine Ok.bind' (p := k0_part208 i E.m2 E.h2 E.m3 E.h3 E.m4 E.h4 E.m5 E.h5 E.m6 E.h6 E.m7 E.h7 E.m8 E.h8 E.m9 E.h9 E.m10 E.h10 E.m11 E.h11 E.m12 E.h12 E.m13 E.h13 E.m14 E.h14 E.m15 E.h15 E.m16 E.h16 E.m17 E.h17 E.m18 E.h18 E.m19 E.h19 E.m20 E.h20) ?_ fun v σ' h => h
  refine Ok.bind' hhead fun v σ' h => ?_
  obtain ⟨rfl, hσ⟩ := h
  have hq : (i 1).val < 8 := (i 1).isLt
  obtain ⟨out, s, t32, t16, w1k, w2k, acc, mx, l⟩ := σ'
  obtain ⟨ht, hw, hs, hm, hl, ha⟩ := hσ
  replace hs : Sc p (i 1).val (i 1).val 0 s := hs.start
  iterate 15
    repeat
      conv => arg 3; whnf
      first
      | with_reducible refine Ok.load ?_
      | (fail_if_success (with_reducible refine Ok.store ?_)); refine Ok.load ?_
    conv => arg 3; whnf
    with_reducible refine Ok.store ?_
    refine Ok.set_s (Sc p (i 1).val (i 1).val (_ + 1)) (score_step hE (by omega) hq hs off70_eq off70_eq) fun s hs => ?_
  replace hs := Lg_of_Sc hs
  iterate 16
    repeat
      conv => arg 3; whnf
      first
      | with_reducible refine Ok.load ?_
      | (fail_if_success (with_reducible refine Ok.store ?_)); refine Ok.load ?_
    conv => arg 3; whnf
    with_reducible refine Ok.store ?_
    refine Ok.set_s (Lg p (i 1).val (i 1).val (_ + 1)) (logits_step (by omega) hq le_rfl (fun _ => by omega) ht hs (Wt_rd hw) sb_ld
      (cat32_ld (offD0_eq (by decide) (by omega)) (offD1_eq (by decide) (by omega)))
      (cat16_ld (offD0_eq (by decide) (by omega)) (offD1_eq (by decide) (by omega)))) fun s hs => ?_
  iterate 8
    iterate 4
      repeat
        conv => arg 3; whnf
        first
        | with_reducible refine Ok.load ?_
        | (fail_if_success (with_reducible refine Ok.store ?_)); refine Ok.load ?_
      conv => arg 3; whnf
      with_reducible refine Ok.store ?_
    refine Ok.set_s (Lg p (i 1).val (i 1).val (_ + 1 + 1)) (upper_step (by omega) (by omega) ht hs (Wt_rd hw) sbU_ld
      (cat32_ld (offU_eq (by decide)) (offU_eq (by decide))) (cat16_ld (offU_eq (by decide)) (offU_eq (by decide))) neg_pay neg_pay) fun s hs => ?_
  replace hm : Mx p (i 1).val (256 * (i 1).val) (256 * (i 1).val + 256) 0 mx := hm.start
  replace hl : Su p (i 1).val (256 * (i 1).val) (256 * (i 1).val + 256) 0 l := hl.start
  replace ha : Ac p (i 1).val (256 * (i 1).val) (256 * (i 1).val + 256) 0 acc := ha.start
  iterate 15
    repeat
      conv => arg 3; whnf
      first
      | with_reducible refine Ok.load ?_
      | (fail_if_success (with_reducible refine Ok.store ?_)); refine Ok.load ?_
    conv => arg 3; whnf
    with_reducible refine Ok.store ?_
    refine Ok.set_l (Su p (i 1).val (256 * (i 1).val) (256 * (i 1).val + 256) (_ + 1)) (l_step (by omega) hs hm hl (mnew_ok (by omega) hs hm)) fun l hl => ?_
    repeat
      conv => arg 3; whnf
      first
      | with_reducible refine Ok.load ?_
      | (fail_if_success (with_reducible refine Ok.store ?_)); refine Ok.load ?_
    conv => arg 3; whnf
    with_reducible refine Ok.store ?_
    refine Ok.set_mx (Mx p (i 1).val (256 * (i 1).val) (256 * (i 1).val + 256) (_ + 1)) (mx_step (by omega) hm (mnew_ok (by omega) hs hm)) fun mx hm' => ?_
    repeat
      conv => arg 3; whnf
      first
      | with_reducible refine Ok.load ?_
      | (fail_if_success (with_reducible refine Ok.store ?_)); refine Ok.load ?_
    conv => arg 3; whnf
    with_reducible refine Ok.store ?_
    refine Ok.set_acc (Ac p (i 1).val (256 * (i 1).val) (256 * (i 1).val + 256) (_ + 1)) (acc_step hE (by omega) hq hs hm ha (mnew_ok (by omega) hs hm) off87_eq) fun acc ha => ?_
    replace hm := hm'
    clear hm'
  have ho : Out p (i 1).val 0 out := fun h x d hh => absurd hh (by omega)
  iterate 15
    repeat
      conv => arg 3; whnf
      first
      | with_reducible refine Ok.load ?_
      | (with_reducible refine Ok.ret ?_); beta_reduce
      | (fail_if_success (with_reducible refine Ok.store ?_)); refine Ok.load ?_
    conv => arg 3; whnf
    with_reducible refine Ok.store ?_
    refine Ok.set_out (Out p (i 1).val (_ + 1)) (out_step (by omega) hq hV ho ha hl rfl) fun out ho => ?_
  conv => arg 3; whnf
  exact Ok.ret ⟨⟨ht, hw, hs.start'⟩, ho⟩

end Cert.KernelIdeal.Gen

end
-- ==== Proof.KI.Tables.lean ====
/- The first point's set-up: the two tables of distance biases. -/
module

public import proofs.«01_k».proof.Proof.KI.Block
public import Idealize.ShloMosaic.Lib.Pointwise

@[expose] public section

set_option maxRecDepth 65536
set_option maxHeartbeats 4000000

noncomputable section

namespace Cert.KernelIdeal.Gen

open Idealize.ShloMosaic Idealize.ShloMosaic.TcCoe
open Idealize.SL.Sem
open Dape

/-- Fifteen blocks of eight rows, stacked. -/
theorem stack_apply {f : ℕ → ℕ → ℕ → EReal} {a0 a1 a2 a3 a4 a5 a6 a7 a8 a9 a10 a11 a12 a13 a14 : FVec Ideal S8x128 .f32}
    (h0 : ∀ (u : Fin 8) (x : Fin 128), a0 (ix2 u x) = f 0 u x) (h1 : ∀ (u : Fin 8) (x : Fin 128), a1 (ix2 u x) = f 1 u x)
    (h2 : ∀ (u : Fin 8) (x : Fin 128), a2 (ix2 u x) = f 2 u x) (h3 : ∀ (u : Fin 8) (x : Fin 128), a3 (ix2 u x) = f 3 u x)
    (h4 : ∀ (u : Fin 8) (x : Fin 128), a4 (ix2 u x) = f 4 u x) (h5 : ∀ (u : Fin 8) (x : Fin 128), a5 (ix2 u x) = f 5 u x)
    (h6 : ∀ (u : Fin 8) (x : Fin 128), a6 (ix2 u x) = f 6 u x) (h7 : ∀ (u : Fin 8) (x : Fin 128), a7 (ix2 u x) = f 7 u x)
    (h8 : ∀ (u : Fin 8) (x : Fin 128), a8 (ix2 u x) = f 8 u x) (h9 : ∀ (u : Fin 8) (x : Fin 128), a9 (ix2 u x) = f 9 u x)
    (h10 : ∀ (u : Fin 8) (x : Fin 128), a10 (ix2 u x) = f 10 u x) (h11 : ∀ (u : Fin 8) (x : Fin 128), a11 (ix2 u x) = f 11 u x)
    (h12 : ∀ (u : Fin 8) (x : Fin 128), a12 (ix2 u x) = f 12 u x) (h13 : ∀ (u : Fin 8) (x : Fin 128), a13 (ix2 u x) = f 13 u x)
    (h14 : ∀ (u : Fin 8) (x : Fin 128), a14 (ix2 u x) = f 14 u x) {hc} (r : Fin 120) (x : Fin 128) :
    (concatenate S120x128 0 [⟨S8x128, a0⟩, ⟨S8x128, a1⟩, ⟨S8x128, a2⟩, ⟨S8x128, a3⟩, ⟨S8x128, a4⟩, ⟨S8x128, a5⟩, ⟨S8x128, a6⟩, ⟨S8x128, a7⟩, ⟨S8x128, a8⟩, ⟨S8x128, a9⟩,
      ⟨S8x128, a10⟩, ⟨S8x128, a11⟩, ⟨S8x128, a12⟩, ⟨S8x128, a13⟩, ⟨S8x128, a14⟩] hc : FVec Ideal S120x128 .f32) (ix2 r x) = f (r / 8) (r % 8) x := by
  have hg : ∀ (n : Fin 15) (u : Fin 8) (x : Fin 128), (![a0, a1, a2, a3, a4, a5, a6, a7, a8, a9, a10, a11, a12, a13, a14] : Fin 15 → FVec Ideal S8x128 .f32) n (ix2 u x) = f n u x := by
    intro n
    fin_cases n
    exacts [h0, h1, h2, h3, h4, h5, h6, h7, h8, h9, h10, h11, h12, h13, h14]
  refine (concatenate_ofFn_apply (0 : Fin S120x128.rank) (![a0, a1, a2, a3, a4, a5, a6, a7, a8, a9, a10, a11, a12, a13, a14] : Fin 15 → FVec Ideal S8x128 .f32) hc rfl 8 rfl (ix2 r x)
    ⟨r / 8, by omega⟩ rfl (ix2 ⟨r % 8, by omega⟩ x) rfl ?_).trans (hg _ _ _)
  intro b hb
  match b, hb with
  | 0, hb => exact absurd rfl hb
  | 1, _ => rfl

/-- One head's bias at a distance, as the kernel computes it. -/
theorem val_apply {a b : EReal} {D : FVec Ideal S8x128 .f32} {u : Fin 8} {x : Fin 128} {z ρ : ℝ} (hz : D (ix2 u x) = (z : EReal)) (hb : b = (ρ : EReal)) :
    (mulf (broadcast S8x128 (Scalar.subf (F := Ideal) (φ := .f32) (FloatOps.ofBits (F := Ideal) FTy.f32 0#32) a))
      (select (cmpf .oeq (subf (addf (broadcast S8x128 (FloatOps.ofBits (F := Ideal) FTy.f32 1065353216#32)) (mulf (broadcast S8x128 b) (absf D))) (broadcast S8x128 (FloatOps.ofBits (F := Ideal) FTy.f32 1065353216#32))) (broadcast S8x128 (FloatOps.ofBits (F := Ideal) FTy.f32 0#32)))
        (mulf (broadcast S8x128 b) (absf D))
        (mulf (log (addf (broadcast S8x128 (FloatOps.ofBits (F := Ideal) FTy.f32 1065353216#32)) (mulf (broadcast S8x128 b) (absf D))))
          (divf (mulf (broadcast S8x128 b) (absf D)) (select (cmpf .oeq (subf (addf (broadcast S8x128 (FloatOps.ofBits (F := Ideal) FTy.f32 1065353216#32)) (mulf (broadcast S8x128 b) (absf D))) (broadcast S8x128 (FloatOps.ofBits (F := Ideal) FTy.f32 1065353216#32))) (broadcast S8x128 (FloatOps.ofBits (F := Ideal) FTy.f32 0#32)))
            (broadcast S8x128 (FloatOps.ofBits (F := Ideal) FTy.f32 1065353216#32)) (subf (addf (broadcast S8x128 (FloatOps.ofBits (F := Ideal) FTy.f32 1065353216#32)) (mulf (broadcast S8x128 b) (absf D))) (broadcast S8x128 (FloatOps.ofBits (F := Ideal) FTy.f32 1065353216#32)))))) : FVec Ideal S8x128 .f32) : FVec Ideal S8x128 .f32) (ix2 u x)
      = -a * Ideal.log1p (b * ((|z| : ℝ) : EReal)) := by
  pointwise
  have ha : FloatOps.absf (F := Ideal) (φ := .f32) (z : EReal) = ((|z| : ℝ) : EReal) := by
    show max (z : EReal) (-(z : EReal)) = _
    rw [← EReal.coe_neg]
    exact (EReal.coe_strictMono.monotone.map_max (a := z) (b := -z)).symm
  rw [hz, ha, hb, ← EReal.coe_mul, log1p_of, zero_sub]

/-- The signed distance held in 32 bits. -/
theorem dist_int {k : ℕ} (hk : k < 256) (u : Fin 8) (x : Fin 128) (c : BitVec 32) (hc : c.toNat = 4294967176) :
    BitVec.toInt (IntOp.addi (IntOp.subi (BitVec.ofNat 32 x.val) (BitVec.ofNat 32 u.val)) (Scalar.addi (Scalar.muli (Scf.iv 0#32 1#32 k) 8#32) c))
      = (8 * k + x.val - (u.val + 120) : ℤ) := by
  unfold Scalar.addi Scalar.muli IntOp.addi IntOp.muli IntOp.subi Scf.iv
  have := u.isLt
  have := x.isLt
  rw [BitVec.toInt_eq_toNat_cond]
  simp only [BitVec.toNat_add, BitVec.toNat_sub, BitVec.toNat_mul, BitVec.toNat_ofNat, hc]
  omega

/-- The signed distance of entry `k` of the tables. -/
theorem dist_apply {k : ℕ} (hk : k < 256) (u : Fin 8) (x : Fin 128) :
    (sitofp FTy.f32 (addi k0_pay551 (broadcast S8x128 (Scalar.addi (Scalar.muli (Scf.iv 0#32 1#32 k) 8#32) 4294967176#32))) : FVec Ideal S8x128 .f32) (ix2 u x)
      = (((8 * k + x.val - (u.val + 120) : ℤ) : ℝ) : EReal) := by
  unfold k0_pay551
  pointwise
  exact congrArg (fun z : ℤ => ((z : ℝ) : EReal)) (dist_int hk u x _ rfl)

/-- A scalar read. -/
theorem scalar_at {n : ℕ} {inb h} (X : S15.Idx → EReal) : rdO (s := S15) ![n] S1.size inb X (Shape.Idx.first h) = av X ![n] := by
  rw [rd_av]
  congr 1

theorem mask_apply (d : FVec Ideal S8x128 .f32) (v : FVec Ideal S120x128 .f32) (r : Fin 120) (x : Fin 128) :
    (k0_pay553 d v : FVec Ideal S1x120x128 .f32) (ix3 0 r x) = if d (ix2 ⟨r % 8, by omega⟩ x) < 0 then ⊥ else v (ix2 r x) := by
  obtain ⟨g, hg⟩ : ∃ g : ℕ → ℕ → EReal, ∀ (u : Fin 8) (x : Fin 128), d (ix2 u x) = g u x := by
    refine ⟨fun u x => if h : u < 8 ∧ x < 128 then d (ix2 ⟨u, h.1⟩ ⟨x, h.2⟩) else 0, fun u x => ?_⟩
    show _ = dite _ _ _
    rw [dif_pos ⟨u.isLt, x.isLt⟩]
  have e := stack_apply (f := fun _ => g) (hc := concatenates_S8x128_S8x128_S8x128_S8x128_S8x128_S8x128_S8x128_S8x128_S8x128_S8x128_S8x128_S8x128_S8x128_S8x128_S8x128_S120x128_d0) hg hg hg hg hg hg hg hg hg hg hg hg hg hg hg r x
  rw [hg]
  unfold k0_pay553
  generalize concatenate S120x128 0 _ _ = C at e ⊢
  pointwise
  rw [e, neg_inf]

theorem low_apply (v : FVec Ideal S120x128 .f32) (r x : Fin 128) :
    (k0_pay554 v : FVec Ideal S1x128x128 .bf16) (ix3 0 r x) = if h : r.val < 120 then v (ix2 ⟨r, h⟩ x) else 0 := by
  unfold k0_pay554
  pointwise

/-- The tables' first `n` entries. -/
def TabN (p : Prob) (n : ℕ) (t32 : S256x120x128.Idx → EReal) (t16 : S256x128x128.Idx → EReal) : Prop :=
  ∀ i u x, i < n → u < 8 → x < 128 →
    (∀ h, h < 15 → av t32 ![i, 8 * h + u, x] = (if u + 120 ≤ 8 * i + x then p.kb h (8 * i + x - (u + 120)) else ⊥) ∧
      (u + 120 ≤ 8 * i + x → av t16 ![i, 8 * h + u, x] = p.kb h (8 * i + x - (u + 120)))) ∧
    av t16 ![i, 120 + u, x] = 0

/-- A head's bias at a signed distance. -/
def bias (p : Prob) (k h u x : ℕ) : EReal := -p.r1 h * Ideal.log1p (p.r2 h * ((|(8 * k + x - (u + 120) : ℤ)| : ℝ) : EReal))

theorem bias_kb {p : Prob} {k h u x : ℕ} (hd : u + 120 ≤ 8 * k + x) : bias p k h u x = p.kb h (8 * k + x - (u + 120)) := by
  unfold bias Prob.kb
  have : ((8 * k + x - (u + 120) : ℤ) : ℝ) = ((8 * k + x - (u + 120) : ℕ) : ℝ) := by
    rw [Nat.cast_sub hd]; push_cast; ring
  rw [this, abs_of_nonneg (Nat.cast_nonneg _)]

/-- The same, at entry `k` of the tables. -/
theorem val_bias {p : Prob} {k n : ℕ} {a b : EReal} {D : FVec Ideal S8x128 .f32} {u : Fin 8} {x : Fin 128}
    (hz : D (ix2 u x) = (((8 * k + x.val - (u.val + 120) : ℤ) : ℝ) : EReal)) (ha : a = p.r1 n) (hb : b = p.r2 n) (hr : ∃ ρ : ℝ, p.r2 n = (ρ : EReal)) :
    (mulf (broadcast S8x128 (Scalar.subf (F := Ideal) (φ := .f32) (FloatOps.ofBits (F := Ideal) FTy.f32 0#32) a))
      (select (cmpf .oeq (subf (addf (broadcast S8x128 (FloatOps.ofBits (F := Ideal) FTy.f32 1065353216#32)) (mulf (broadcast S8x128 b) (absf D))) (broadcast S8x128 (FloatOps.ofBits (F := Ideal) FTy.f32 1065353216#32))) (broadcast S8x128 (FloatOps.ofBits (F := Ideal) FTy.f32 0#32)))
        (mulf (broadcast S8x128 b) (absf D))
        (mulf (log (addf (broadcast S8x128 (FloatOps.ofBits (F := Ideal) FTy.f32 1065353216#32)) (mulf (broadcast S8x128 b) (absf D))))
          (divf (mulf (broadcast S8x128 b) (absf D)) (select (cmpf .oeq (subf (addf (broadcast S8x128 (FloatOps.ofBits (F := Ideal) FTy.f32 1065353216#32)) (mulf (broadcast S8x128 b) (absf D))) (broadcast S8x128 (FloatOps.ofBits (F := Ideal) FTy.f32 1065353216#32))) (broadcast S8x128 (FloatOps.ofBits (F := Ideal) FTy.f32 0#32)))
            (broadcast S8x128 (FloatOps.ofBits (F := Ideal) FTy.f32 1065353216#32)) (subf (addf (broadcast S8x128 (FloatOps.ofBits (F := Ideal) FTy.f32 1065353216#32)) (mulf (broadcast S8x128 b) (absf D))) (broadcast S8x128 (FloatOps.ofBits (F := Ideal) FTy.f32 1065353216#32)))))) : FVec Ideal S8x128 .f32) : FVec Ideal S8x128 .f32) (ix2 u x)
      = bias p k n u x := by
  obtain ⟨ρ, hr⟩ := hr
  subst ha
  exact (val_apply hz (hb.trans hr)).trans (by rw [hb]; rfl)

theorem ix_e {i r x n m : ℕ} {h h' h''} : (ix3 (⟨i - i, h⟩ : Fin 1) (⟨r - 0, h'⟩ : Fin n) (⟨x - 0, h''⟩ : Fin m)) = ix3 0 ⟨r, h'⟩ ⟨x, h''⟩ := by
  simp only [Nat.sub_self, Nat.sub_zero]
  rfl

theorem tab_step {p : Prob} {k : ℕ} (hk : k < 256) {t32 : S256x120x128.Idx → EReal} {t16 : S256x128x128.Idx → EReal} (ht : TabN p k t32 t16)
    {D : FVec Ideal S8x128 .f32} (hD : ∀ u x, D (ix2 u x) = (((8 * k + x.val - (u.val + 120) : ℤ) : ℝ) : EReal))
    {v : FVec Ideal S120x128 .f32} (hv : ∀ r x, v (ix2 r x) = bias p k (r / 8) (r % 8) x) {o1 o2 : Fin 3 → ℕ} (h1 : o1 = ![k, 0, 0]) (h2 : o2 = ![k, 0, 0]) {i1 i2} :
    TabN p (k + 1) (updO (s := S256x120x128) o1 S1x120x128.size i1 (k0_pay553 D v : FVec Ideal S1x120x128 .f32) t32)
      (updO (s := S256x128x128) o2 S1x128x128.size i2 (k0_pay554 v : FVec Ideal S1x128x128 .bf16) t16) := by
  subst h1 h2
  intro i u x hi hu hx
  by_cases hik : i < k
  · obtain ⟨a, b⟩ := ht i u x hik hu hx
    refine ⟨fun h hh => ⟨(upd3 ..).trans ?_, fun hd => (upd3 ..).trans ?_⟩, (upd3 ..).trans ?_⟩
    · rw [dif_neg (by omega)]; exact (a h hh).1
    · rw [dif_neg (by omega)]; exact (a h hh).2 hd
    · rw [dif_neg (by omega)]; exact b
  · obtain rfl : i = k := by omega
    refine ⟨fun h hh => ⟨(upd3 ..).trans ?_, fun hd => (upd3 ..).trans ?_⟩, (upd3 ..).trans ?_⟩
    · rw [dif_pos (by omega)]
      refine (congrArg _ ix_e).trans ((mask_apply D v ⟨8 * h + u, by omega⟩ ⟨x, hx⟩).trans ?_)
      have e1 : (8 * h + u) % 8 = u := by omega
      have e2 : (8 * h + u) / 8 = h := by omega
      rw [hv, hD]
      simp only [e1, e2]
      by_cases hd : u + 120 ≤ 8 * i + x
      · rw [if_pos hd, bias_kb hd, if_neg]
        rw [not_lt, ← EReal.coe_zero, EReal.coe_le_coe_iff]
        exact_mod_cast (by omega : (0 : ℤ) ≤ 8 * i + x - (u + 120))
      · rw [if_neg hd, if_pos]
        rw [← EReal.coe_zero, EReal.coe_lt_coe_iff]
        exact_mod_cast (by omega : (8 * i + x - (u + 120) : ℤ) < 0)
    · rw [dif_pos (by omega)]
      have e1 : (8 * h + u) % 8 = u := by omega
      have e2 : (8 * h + u) / 8 = h := by omega
      refine (congrArg _ ix_e).trans ((low_apply v ⟨8 * h + u, by omega⟩ ⟨x, hx⟩).trans ?_)
      rw [dif_pos (by show 8 * h + u < 120; omega), hv]
      simp only [e1, e2]
      exact bias_kb hd
    · rw [dif_pos (by omega)]
      refine (congrArg _ ix_e).trans ((low_apply v ⟨120 + u, by omega⟩ ⟨x, hx⟩).trans ?_)
      rw [dif_neg (by show ¬ 120 + u < 120; omega)]

theorem off1_eq {k : ℕ} (hk : k < 256) : ![(Scalar.indexCast (Scf.iv 0#32 1#32 k)).toNat, 0, 0] = ![k, 0, 0] := by
  rw [(by decide +kernel : ∀ k : Fin 256, (Scalar.indexCast (Scf.iv 0#32 1#32 k.val)).toNat = k.val) ⟨k, hk⟩]

section
variable (E : Env Ideal) (i : grid0.Coords)

/-- One trip of the loop that fills the tables. -/
theorem table_step {p : Prob} {qi : ℕ} (hE : Fits p qi E) (hr : ∀ h, h < 15 → ∃ ρ : ℝ, p.r2 h = (ρ : EReal)) (h1 : k0_cond1 i = 1#1) (k : Fin k0_t1_loop.trips)
    {out : S1x256x1920.Idx → EReal} {s : S32x16x8x256.Idx → EReal} {t32 : S256x120x128.Idx → EReal} {t16 : S256x128x128.Idx → EReal} {w1k : S256x256.Idx → EReal} {w2k : S128x256.Idx → EReal} {acc : S15x128x256.Idx → EReal} {mx l : S16x256.Idx → EReal}
    (ht : TabN p k t32 t16) {Q : Unit → St Ideal → Prop} (hQ : ∀ t32 t16, TabN p (k + 1) t32 t16 → Q ⟨⟩ ⟨out, s, t32, t16, w1k, w2k, acc, mx, l⟩) :
    Ok E ⟨out, s, t32, t16, w1k, w2k, acc, mx, l⟩ (k0_t1_body i E.m2 E.h2 E.m3 E.h3 E.m4 E.h4 E.m5 E.h5 E.m6 E.h6 E.m7 E.h7 E.m8 E.h8 E.m9 E.h9 E.m10 E.h10 E.m11 E.h11 E.m12 E.h12 E.m13 E.h13 E.m14 E.h14 E.m15 E.h15 E.m16 E.h16 E.m17 E.h17 E.m18 E.h18 E.m19 E.h19 E.m20 E.h20 h1 k ⟨⟩) Q := by
  have hk : k.val < 256 := k.isLt
  iterate 2
    repeat
      conv => arg 3; whnf
      first
      | with_reducible refine Ok.load ?_
      | (fail_if_success (with_reducible refine Ok.store ?_)); refine Ok.load ?_
    conv => arg 3; whnf
    with_reducible refine Ok.store ?_
  conv => arg 3; whnf
  with_reducible refine Ok.ret ?_
  refine hQ _ _ (tab_step hk ht (dist_apply hk) (fun r x => stack_apply ?_ ?_ ?_ ?_ ?_ ?_ ?_ ?_ ?_ ?_ ?_ ?_ ?_ ?_ ?_ r x) ?_ ?_)
  iterate 15
    on_goal 1 =>
      intro u x
      refine val_bias (dist_apply hk u x) ?_ ?_ (hr _ ?_)
      · exact (scalar_at ..).trans (hE.r1 _ (by decide))
      · exact (scalar_at ..).trans (hE.r2 _ (by decide))
      · decide
  · exact off1_eq hk
  · exact off1_eq hk
end

end Cert.KernelIdeal.Gen

end
-- ==== Proof.KI.Weights.lean ====
/- The first point's set-up: the network's weights, laid out block-diagonally. -/
module

public import proofs.«01_k».proof.Proof.KI.Logits
public import Idealize.ShloMosaic.Lib.Pointwise

@[expose] public section

noncomputable section

namespace Cert.KernelIdeal.Gen

open Idealize.ShloMosaic Idealize.ShloMosaic.TcCoe
open Dape

/-- The quotient by 8, rounded down, as the kernel computes it. -/
abbrev divV (S : Shape) (x : IVec S 32) {h1 : 1 < 32} : IVec S 32 :=
  select (andi (cmpi .ne (subi (extui 32 (cmpi .sgt x (broadcast S 0#32)) h1) (extui 32 (cmpi .slt x (broadcast S 0#32)) h1))
      (broadcast S (Scalar.subi (Scalar.extui (Scalar.cmpi .sgt 8#32 0#32)) (Scalar.extui (Scalar.cmpi .slt 8#32 0#32)))))
      (cmpi .ne (remsi x (broadcast S 8#32)) (broadcast S 0#32)))
    (subi (divsi x (broadcast S 8#32)) (broadcast S 1#32)) (divsi x (broadcast S 8#32))

/-- The remainder by 8, as the kernel computes it. -/
abbrev modV (S : Shape) (x : IVec S 32) {h1 : S.Broadcasts S} : IVec S 32 :=
  select (andi (xori (cmpi .slt (remsi x (broadcast S (Scalar.select (Scalar.cmpi .eq 8#32 0#32) 1#32 8#32))) (broadcast S 0#32))
      (broadcastTo S (broadcast S (Scalar.cmpi .slt (Scalar.select (Scalar.cmpi .eq 8#32 0#32) 1#32 8#32) 0#32)) h1))
      (cmpi .ne (remsi x (broadcast S (Scalar.select (Scalar.cmpi .eq 8#32 0#32) 1#32 8#32))) (broadcast S 0#32)))
    (addi (remsi x (broadcast S (Scalar.select (Scalar.cmpi .eq 8#32 0#32) 1#32 8#32))) (broadcast S (Scalar.select (Scalar.cmpi .eq 8#32 0#32) 1#32 8#32)))
    (remsi x (broadcast S (Scalar.select (Scalar.cmpi .eq 8#32 0#32) 1#32 8#32)))

/-- The quotient of one integer. -/
def divS (x : BitVec 32) : BitVec 32 :=
  Scalar.select (IntOp.andi (IntOp.cmpi .ne (IntOp.subi (BitVec.setWidth 32 (IntOp.cmpi .sgt x 0#32)) (BitVec.setWidth 32 (IntOp.cmpi .slt x 0#32)))
      (Scalar.subi (Scalar.extui (Scalar.cmpi .sgt 8#32 0#32)) (Scalar.extui (Scalar.cmpi .slt 8#32 0#32))))
      (IntOp.cmpi .ne (IntOp.remsi .vector x 8#32) 0#32))
    (IntOp.subi (IntOp.divsi .vector x 8#32) 1#32) (IntOp.divsi .vector x 8#32)

/-- The remainder of one integer. -/
def modS (x : BitVec 32) : BitVec 32 :=
  Scalar.select (IntOp.andi (IntOp.xori (IntOp.cmpi .slt (IntOp.remsi .vector x (Scalar.select (Scalar.cmpi .eq 8#32 0#32) 1#32 8#32)) 0#32)
      (Scalar.cmpi .slt (Scalar.select (Scalar.cmpi .eq 8#32 0#32) 1#32 8#32) 0#32))
      (IntOp.cmpi .ne (IntOp.remsi .vector x (Scalar.select (Scalar.cmpi .eq 8#32 0#32) 1#32 8#32)) 0#32))
    (IntOp.addi (IntOp.remsi .vector x (Scalar.select (Scalar.cmpi .eq 8#32 0#32) 1#32 8#32)) (Scalar.select (Scalar.cmpi .eq 8#32 0#32) 1#32 8#32))
    (IntOp.remsi .vector x (Scalar.select (Scalar.cmpi .eq 8#32 0#32) 1#32 8#32))

theorem divV_apply {S : Shape} {x : IVec S 32} {j : S.Idx} {n : ℕ} (hn : n < 256) (hx : x j = BitVec.ofNat 32 n) {h1} : divV S x (h1 := h1) j = BitVec.ofNat 32 (n / 8) := by
  have h : divV S x (h1 := h1) j = divS (x j) := rfl
  have key : ∀ n : Fin 256, divS (BitVec.ofNat 32 n.val) = BitVec.ofNat 32 (n.val / 8) := by decide +kernel
  rw [h, hx]
  exact key ⟨n, hn⟩

theorem modV_apply {S : Shape} {x : IVec S 32} {j : S.Idx} {n : ℕ} (hn : n < 256) (hx : x j = BitVec.ofNat 32 n) {h1} : modV S x (h1 := h1) j = BitVec.ofNat 32 (n % 8) := by
  have h : modV S x (h1 := h1) j = modS (x j) := rfl
  have key : ∀ n : Fin 256, modS (BitVec.ofNat 32 n.val) = BitVec.ofNat 32 (n.val % 8) := by decide +kernel
  rw [h, hx]
  exact key ⟨n, hn⟩

theorem cmp_eq {S : Shape} {x y : IVec S 32} {j : S.Idx} {n m : ℕ} (hn : n < 256) (hm : m < 256) (hx : x j = BitVec.ofNat 32 n) (hy : y j = BitVec.ofNat 32 m) :
    cmpi .eq x y j = if n = m then 1#1 else 0#1 := by
  show BitVec.ofBool (x j == y j) = _
  rw [hx, hy]
  by_cases h : n = m
  · subst h; simp
  · have : BitVec.ofNat 32 n ≠ BitVec.ofNat 32 m := fun e => h (by
      have := congrArg BitVec.toNat e
      simp only [BitVec.toNat_ofNat] at this
      omega)
    rw [if_neg h, beq_false_of_ne this]; rfl

/-- Comparing two integer vectors, as a vector of ones and zeroes. -/
theorem hot_apply {S : Shape} {x y : IVec S 32} {j : S.Idx} {n m : ℕ} (hn : n < 256) (hm : m < 256) (hx : x j = BitVec.ofNat 32 n) (hy : y j = BitVec.ofNat 32 m) {h1} :
    (truncf FTy.bf16 (sitofp FTy.f32 (extui 32 (cmpi .eq x y) h1) : FVec Ideal S .f32) : FVec Ideal S .bf16) j = (if n = m then 1 else 0 : EReal) := by
  show (((BitVec.setWidth 32 (cmpi .eq x y j)).toInt : ℝ) : EReal) = _
  rw [cmp_eq hn hm hx hy]
  split <;> simp

theorem hot_sum {n a : ℕ} (f : ℕ → EReal) : ∑ i ∈ Finset.range n, (if a = i then 1 else 0) * f i = if a < n then f a else 0 := by
  simp [Finset.sum_ite_eq, ite_mul]

theorem hot_sum' {n a : ℕ} (f : ℕ → EReal) : ∑ i ∈ Finset.range n, f i * (if a = i then 1 else 0) = if a < n then f a else 0 := by
  simp [Finset.sum_ite_eq, mul_ite]

theorem rows_apply {a : FVec Ideal S256x32 .bf16} (ha : ∀ r c, a (ix2 r c) = if r.val / 8 = c.val then 1 else 0) (X : FVec Ideal S32x30 .bf16) (r : Fin 256) (h : Fin 30) :
    (matmul dot_S256x32_S32x30_S256x30_1_0_0_1_n_n none a X (constant S256x30 FTy.f32 0#32) : FVec Ideal S256x30 .f32) (ix2 r h) = av X ![r / 8, h] := by
  pointwise
  simp only [ha]
  simp only [ix2_eq X]
  rw [sum_fin 32 fun c => (if r.val / 8 = c then 1 else 0) * av X ![c, h], hot_sum, if_pos (by omega)]

/-- A block of the first layer's weights: one head's weight on the diagonal of each eight by eight block. -/
theorem part_apply {a : FVec Ideal S256x15 .bf16} {s : FVec Ideal S15x128 .bf16} (hs : ∀ h c, s (ix2 h c) = if c.val / 8 = h.val then 1 else 0)
    {d : IVec S256x128 1} (hd : ∀ r c, d (ix2 r c) = if r.val % 8 = c.val % 8 then 1#1 else 0#1) (r : Fin 256) (c : Fin 128) :
    (select d (matmul dot_S256x15_S15x128_S256x128_1_0_0_1_n_n none a s (constant S256x128 FTy.f32 0#32) : FVec Ideal S256x128 .f32) (broadcast S256x128 (FloatOps.ofBits (F := Ideal) FTy.f32 0#32)) : FVec Ideal S256x128 .f32) (ix2 r c)
      = if r.val % 8 = c.val % 8 ∧ c.val / 8 < 15 then av a ![r, c / 8] else 0 := by
  pointwise
  simp only [hs, hd]
  simp only [ix2_eq a]
  rw [sum_fin 15 fun h => av a ![r, h] * (if c.val / 8 = h then 1 else 0), hot_sum']
  by_cases h1 : r.val % 8 = c.val % 8 <;> by_cases h2 : c.val / 8 < 15 <;> simp [h1, h2, Scalar.select]

theorem cut_apply (v : FVec Ideal S256x30 .f32) (o : ℕ) (ho : o ≤ 15) {h1} (r : Fin 256) (h : Fin 15) :
    (truncf FTy.bf16 (extractStridedSlice S256x15 ![0, o] v h1 : FVec Ideal S256x15 .f32) : FVec Ideal S256x15 .bf16) (ix2 r h) = v (ix2 r ⟨o + h, by omega⟩) := by
  pointwise

/-- The bias of the first layer, spread over the rows. -/
theorem bias_apply (B : FVec Ideal S1x32 .f32) {d : IVec S256x32 1} (hd : ∀ r c, d (ix2 r c) = if r.val / 8 = c.val then 1#1 else 0#1) {h1 h2 h3 h4 h5} (r : Fin 256) :
    (shapeCast S256x1 (multiReduction .add [1] S256 (select d (broadcastTo S256x32 B h1) (broadcast S256x32 (FloatOps.ofBits (F := Ideal) FTy.f32 0#32)) : FVec Ideal S256x32 .f32) 0#32 h2 h3 h4 : FVec Ideal S256 .f32) h5 : FVec Ideal S256x1 .f32) (ix2 r 0)
      = av B ![0, r / 8] := by
  pointwise
  simp only [hd]
  simp only [ix2_eq B]
  refine (Finset.sum_congr rfl fun x _ => ?_).trans ((sum_fin 32 fun c => (if r.val / 8 = c then 1 else 0) * av B ![0, c]).trans ?_)
  · by_cases h : r.val / 8 = x.val <;> simp [h, Scalar.select]
  · rw [hot_sum, if_pos (by omega)]

/-- The left half of the first layer: scores' weights, and the bias in the column of ones. -/
theorem left_apply {b : FVec Ideal S256x1 .f32} {sc : FVec Ideal S256x128 .f32} {y : IVec S256x128 32} (hy : ∀ r c, y (ix2 r c) = BitVec.ofNat 32 c.val)
    {h1 h2 h3 h4} (r : Fin 256) (c : Fin 128) {β : ℝ} (hb : b (ix2 r 0) = (β : EReal)) :
    (shapeCast S256x128 (truncf FTy.bf16 (select (cmpi .eq y (broadcast S256x128 122#32)) (broadcastTo S256x128 (shapeCast S256x1 (subf (subf b (extf FTy.f32 (truncf FTy.bf16 b) h1)) (extf FTy.f32 (truncf FTy.bf16 (subf b (extf FTy.f32 (truncf FTy.bf16 b) h1))) h1) : FVec Ideal S256x1 .f32) h2) h3)
      (select (cmpi .eq y (broadcast S256x128 121#32)) (broadcastTo S256x128 (shapeCast S256x1 (extf FTy.f32 (truncf FTy.bf16 (subf b (extf FTy.f32 (truncf FTy.bf16 b) h1))) h1 : FVec Ideal S256x1 .f32) h2) h3)
      (select (cmpi .eq y (broadcast S256x128 120#32)) (broadcastTo S256x128 (shapeCast S256x1 (extf FTy.f32 (truncf FTy.bf16 b) h1 : FVec Ideal S256x1 .f32) h2) h3) sc)) : FVec Ideal S256x128 .f32)) h4 : FVec Ideal S256x128 .bf16) (ix2 r c)
      = if c.val = 122 ∨ c.val = 121 then 0 else if c.val = 120 then (β : EReal) else sc (ix2 r c) := by
  have e : ∀ n : ℕ, n < 256 → (cmpi .eq y (broadcast S256x128 (BitVec.ofNat 32 n))) (ix2 r c) = if c.val = n then 1#1 else 0#1 := fun n hn => cmp_eq (by omega) hn (hy r c) rfl
  have e0 := e 120 (by omega)
  have e1 := e 121 (by omega)
  have e2 := e 122 (by omega)
  have hz : (β : EReal) - (β : EReal) = 0 := by rw [← EReal.coe_sub, sub_self]; rfl
  generalize cmpi .eq y (broadcast S256x128 122#32) = d2 at e2 ⊢
  generalize cmpi .eq y (broadcast S256x128 121#32) = d1 at e1 ⊢
  generalize cmpi .eq y (broadcast S256x128 120#32) = d0 at e0 ⊢
  pointwise
  simp only [hb, hz, e0, e1, e2]
  by_cases c2 : c.val = 122
  · simp [c2, Scalar.select]
  by_cases c1 : c.val = 121
  · simp [c1, Scalar.select]
  by_cases c0 : c.val = 120
  · simp [c0, Scalar.select]
  simp [c0, c1, c2, Scalar.select]

/-- The second layer's weights, halved, spread likewise. -/
theorem second_apply {a : FVec Ideal S128x15 .bf16} (ha : ∀ r c, a (ix2 r c) = if r.val / 8 = c.val then 1 else 0)
    {s : FVec Ideal S32x256 .bf16} (hs : ∀ h c, s (ix2 h c) = if c.val / 8 = h.val then 1 else 0) (X : FVec Ideal S15x32 .bf16)
    {d : IVec S128x256 1} (hd : ∀ r c, d (ix2 r c) = if r.val % 8 = c.val % 8 then 1#1 else 0#1) (r : Fin 128) (c : Fin 256) (hr : r.val < 120) :
    k0_pay550 d (mulf (broadcast S128x256 (FloatOps.ofBits (F := Ideal) FTy.f32 1056964608#32)) (matmul dot_S128x32_S32x256_S128x256_1_0_0_1_n_n none
      (truncf FTy.bf16 (matmul dot_S128x15_S15x32_S128x32_1_0_0_1_n_n none a X (constant S128x32 FTy.f32 0#32) : FVec Ideal S128x32 .f32)) s (constant S128x256 FTy.f32 0#32)) : FVec Ideal S128x256 .f32) (ix2 r c)
      = if r.val % 8 = c.val % 8 then cHalf * av X ![r / 8, c / 8] else 0 := by
  have hw : ∀ m : Fin 32, (matmul dot_S128x15_S15x32_S128x32_1_0_0_1_n_n none a X (constant S128x32 FTy.f32 0#32) : FVec Ideal S128x32 .f32) (ix2 r m) = av X ![r / 8, m] := by
    intro m
    pointwise
    simp only [ha]
    simp only [ix2_eq X]
    rw [sum_fin 15 fun c => (if r.val / 8 = c then 1 else 0) * av X ![c, m], hot_sum, if_pos (by omega)]
  unfold k0_pay550
  generalize (matmul dot_S128x15_S15x32_S128x32_1_0_0_1_n_n none a X (constant S128x32 FTy.f32 0#32) : FVec Ideal S128x32 .f32) = W at hw
  pointwise
  simp only [hs, hd, hw]
  rw [sum_fin 32 fun m => av X ![r / 8, m] * (if c.val / 8 = m then 1 else 0), hot_sum']
  have h32 : c.val / 8 < 32 := by omega
  by_cases h : r.val % 8 = c.val % 8 <;> simp [h, h32, Scalar.select, cHalf]

/-- The stored weights are the network's. -/
theorem wt_ok {p : Prob} {w1k : S256x256.Idx → EReal} {w2k : S128x256.Idx → EReal} {A B : FVec Ideal S256x128 .bf16} {C : FVec Ideal S128x256 .bf16}
    (hA : ∀ (r : Fin 256) (c : Fin 128), A (ix2 r c) = if c.val = 122 ∨ c.val = 121 then 0 else if c.val = 120 then p.b1 (r / 8) else if r.val % 8 = c.val % 8 ∧ c.val / 8 < 15 then p.w1 (c / 8) (r / 8) else 0)
    (hB : ∀ (r : Fin 256) (c : Fin 128), B (ix2 r c) = if r.val % 8 = c.val % 8 ∧ c.val / 8 < 15 then p.w1 (15 + c / 8) (r / 8) else 0)
    (hC : ∀ (r : Fin 128) (c : Fin 256), r.val < 120 → C (ix2 r c) = if r.val % 8 = c.val % 8 then cHalf * p.w2 (c / 8) (r / 8) else 0) {i0 i1 i2} :
    Wt p (updO (s := S256x256) ![0, 128] S256x128.size i0 B (updO (s := S256x256) ![0, 0] S256x128.size i1 A w1k)) (updO (s := S128x256) ![0, 0] S128x256.size i2 C w2k) := by
  have e1 : ∀ r c, (hr : r < 256) → (hc : c < 128) → av (updO (s := S256x256) ![0, 128] S256x128.size i0 B (updO (s := S256x256) ![0, 0] S256x128.size i1 A w1k)) ![r, c] = A (ix2 ⟨r, hr⟩ ⟨c, hc⟩) := by
    intro r c hr hc
    refine (upd2 ..).trans ?_
    rw [dif_neg (by omega)]
    refine (upd2 ..).trans ?_
    rw [dif_pos (by omega)]
    simp only [Nat.sub_zero]
  have e2 : ∀ r c, (hr : r < 256) → (hc : c < 128) → av (updO (s := S256x256) ![0, 128] S256x128.size i0 B (updO (s := S256x256) ![0, 0] S256x128.size i1 A w1k)) ![r, 128 + c] = B (ix2 ⟨r, hr⟩ ⟨c, hc⟩) := by
    intro r c hr hc
    refine (upd2 ..).trans ?_
    rw [dif_pos (by omega)]
    simp only [Nat.sub_zero, Nat.add_sub_cancel_left]
  have e3 : ∀ r c, (hr : r < 128) → (hc : c < 256) → av (updO (s := S128x256) ![0, 0] S128x256.size i2 C w2k) ![r, c] = C (ix2 ⟨r, hr⟩ ⟨c, hc⟩) := by
    intro r c hr hc
    refine (upd2 ..).trans ?_
    rw [dif_pos (by omega)]
    simp only [Nat.sub_zero]
  intro m u b hm hu hb
  refine ⟨fun h hh => ⟨?_, ?_, ?_⟩, ?_⟩
  · rw [e1 _ _ (by omega) (by omega), hA]
    simp only [show (8 * m + u) / 8 = m by omega, show (8 * h + b) / 8 = h by omega]
    rw [if_neg (by omega), if_neg (by omega)]
    exact if_congr (by omega) rfl rfl
  · rw [e2 _ _ (by omega) (by omega), hB]
    simp only [show (8 * m + u) / 8 = m by omega, show (8 * h + b) / 8 = h by omega]
    exact if_congr (by omega) rfl rfl
  · rw [e3 _ _ (by omega) (by omega), hC _ _ (by simp only []; omega)]
    simp only [show (8 * m + b) / 8 = m by omega, show (8 * h + u) / 8 = h by omega]
    exact if_congr (by omega) rfl rfl
  · rw [e1 _ _ (by omega) (by omega), hA]
    simp only [show (8 * m + u) / 8 = m by omega]
    by_cases h0 : b = 0
    · rw [if_neg (by omega), if_pos (by omega), if_pos h0]
    · rw [if_neg h0]
      split
      · rfl
      · rw [if_neg (by omega), if_neg (by omega)]

end Cert.KernelIdeal.Gen

end
-- ==== Proof.KI.Head.lean ====
/- The start of a grid point: the set-up of the first point, the empty running sums, the key blocks before the diagonal. -/
module

public import proofs.«01_k».proof.Proof.KI.Diag
public import proofs.«01_k».proof.Proof.KI.Tables
public import proofs.«01_k».proof.Proof.KI.Weights
public import Idealize.ShloMosaic.Lib.Pointwise

@[expose] public section

set_option maxRecDepth 65536
set_option maxHeartbeats 4000000

noncomputable section

namespace Cert.KernelIdeal.Gen

open Idealize.ShloMosaic Idealize.ShloMosaic.TcCoe
open Idealize.SL.Sem
open Dape

variable (E : Env Ideal) (i : grid0.Coords)

theorem Ok.set_w {α : Type} {E : Env Ideal} {prog : Prog (TpuEff nD τ sig (Elt Ideal) Λ₀ .tc) α} {Q : α → St Ideal → Prop}
    {out : S1x256x1920.Idx → EReal} {s : S32x16x8x256.Idx → EReal} {t32 : S256x120x128.Idx → EReal} {t16 : S256x128x128.Idx → EReal} {w1k : S256x256.Idx → EReal} {w2k : S128x256.Idx → EReal} {acc : S15x128x256.Idx → EReal} {mx l : S16x256.Idx → EReal}
    (P : (S256x256.Idx → EReal) → (S128x256.Idx → EReal) → Prop) (h : P w1k w2k) (H : ∀ w1k w2k, P w1k w2k → Ok E ⟨out, s, t32, t16, w1k, w2k, acc, mx, l⟩ prog Q) :
    Ok E ⟨out, s, t32, t16, w1k, w2k, acc, mx, l⟩ prog Q := H w1k w2k h

theorem iota_row {n m : ℕ} {h} (r : Fin n) (c : Fin m) : iota Kind.tc (⟨2, ![n, m]⟩ : Shape) 32 [0] h (ix2 r c) = BitVec.ofNat 32 r.val := by
  pointwise
theorem iota_col {n m : ℕ} {h} (r : Fin n) (c : Fin m) : iota Kind.tc (⟨2, ![n, m]⟩ : Shape) 32 [1] h (ix2 r c) = BitVec.ofNat 32 c.val := by
  pointwise

theorem same_apply {n m : ℕ} (v : FVec Ideal (⟨2, ![n, m]⟩ : Shape) .f32) {h} (r : Fin n) (c : Fin m) :
    (shapeCast (⟨2, ![n, m]⟩ : Shape) (truncf FTy.bf16 v) h : FVec Ideal (⟨2, ![n, m]⟩ : Shape) .bf16) (ix2 r c) = v (ix2 r c) := by
  rw [shapeCast_self]
  rfl

theorem cast_at {n m : ℕ} (Y : (⟨2, ![n, m]⟩ : Shape).Idx → EReal) {h} (i : Fin 2 → ℕ) :
    av (shapeCast (⟨2, ![n, m]⟩ : Shape) Y h : (⟨2, ![n, m]⟩ : Shape).Idx → EReal) i = av Y i := by
  rw [shapeCast_self]

theorem whole_at {n m : ℕ} (X : (⟨2, ![n, m]⟩ : Shape).Idx → EReal) {inb h} {a b : ℕ} (ha : a < n) (hb : b < m) :
    av (shapeCast (⟨2, ![n, m]⟩ : Shape) (rdO (s := ⟨2, ![n, m]⟩) ![0, 0] ![n, m] inb X) h : (⟨2, ![n, m]⟩ : Shape).Idx → EReal) ![a, b] = av X ![a, b] := by
  refine (cast_at _ _).trans ((ix2_eq _ ⟨a, ha⟩ ⟨b, hb⟩).symm.trans ((rd2 ..).trans ?_))
  rw [Nat.zero_add, Nat.zero_add]

/-- A counted loop, then the rest. -/
theorem Ok.loop_then {F : FTy → Type} [FloatOps F] {α : Type} {E : Env F} {σ : St F} {w : ℕ} {l : Scf.Loop w} {hok : l.OK} {body : Fin l.trips → Unit → Prog (TpuEff nD τ sig (Elt F) Λ₀ .tc) Unit}
    {k : Unit → Prog (TpuEff nD τ sig (Elt F) Λ₀ .tc) α} {Q : α → St F → Prop} (I : ℕ → St F → Prop) (h0 : I 0 σ)
    (hb : ∀ (k : Fin l.trips) σ', I k σ' → Ok E σ' (body k ⟨⟩) (fun _ σ'' => I (k + 1) σ''))
    (hk : ∀ σ', I l.trips σ' → Ok E σ' (k ⟨⟩) Q) : Ok E σ ((Scf.Loop.for l hok ⟨⟩ body).bind k) Q :=
  Ok.bind' (R := fun _ σ' => I l.trips σ') (Ok.loop l hok I h0 hb fun _ h => h) fun _ σ' h => hk σ' h

/-- The first layer's weights of a row, cut to one half. -/
theorem w1_at {p : Prob} {qi : ℕ} {E : Env Ideal} (hE : Fits p qi E) {a : FVec Ideal S256x32 .bf16} (ha : ∀ r c, a (ix2 r c) = if r.val / 8 = c.val then 1 else 0)
    (o : ℕ) (ho : o ≤ 15) (r : Fin 256) {h : ℕ} (hh : h < 15) {i0 h1 h2} :
    av (truncf FTy.bf16 (extractStridedSlice S256x15 ![0, o] (matmul dot_S256x32_S32x30_S256x30_1_0_0_1_n_n none a
      (shapeCast S32x30 (rdO (s := S32x30) ![0, 0] S32x30.size i0 E.X9) h1 : FVec Ideal S32x30 .bf16) (constant S256x30 FTy.f32 0#32) : FVec Ideal S256x30 .f32) h2 : FVec Ideal S256x15 .f32) : FVec Ideal S256x15 .bf16) ![r, h]
      = p.w1 (o + h) (r / 8) := by
  refine (ix2_eq _ r ⟨h, hh⟩).symm.trans ((cut_apply _ o ho r ⟨h, hh⟩).trans ((rows_apply ha _ r _).trans ?_))
  exact (whole_at E.X9 (by omega) (by show o + h < 30; omega)).trans (hE.w1 _ _ (by omega) (by show o + h < 30; omega))

theorem rest_trips (i : grid0.Coords) : (k0_t3_loop i).trips = 0 :=
  (by decide +kernel : ∀ a : Fin 8, (Scf.Loop.trips ⟨Scalar.addi 0#32 (Scalar.muli (Scalar.divsi (Scalar.subi (BitVec.ofNat 32 a.val) 0#32) 1#32) 1#32), Scalar.addi 0#32 (Scalar.subi (BitVec.ofNat 32 a.val) 0#32), 1#32⟩) = 0) (i 1)

theorem head_step {p : Prob} (hE : Fits p (i 1).val E) (hβ : ∀ m, m < 32 → ∃ β : ℝ, p.b1 m = (β : EReal)) (hρ : ∀ h, h < 15 → ∃ ρ : ℝ, p.r2 h = (ρ : EReal)) (σ : St Ideal) (hk : k0_cond1 i ≠ 1#1 → Kept p σ) :
    Ok E σ (k0_part144 i E.m2 E.h2 E.m3 E.h3 E.m4 E.h4 E.m5 E.h5 E.m6 E.h6 E.m7 E.h7 E.m8 E.h8 E.m9 E.h9 E.m10 E.h10 E.m11 E.h11 E.m12 E.h12 E.m13 E.h13 E.m14 E.h14 E.m15 E.h15 E.m16 E.h16 E.m17 E.h17 E.m18 E.h18 E.m19 E.h19 E.m20 E.h20) (fun v σ' => v = ⟨BitVec.ofNat 32 (i 1).val, Scalar.muli (BitVec.ofNat 32 (i 1).val) 256#32, k0_pay559 (rdO (s := S1x2048x15) (k0_off69 i) S1x256x15.size (k0_off69_inb i) E.X8)⟩ ∧ Inv p (i 1).val (256 * (i 1).val) σ') := by
  rw [k0_part144_eq_skeleton (F := Ideal)]
  unfold k0_part144_skel
  refine Ok.dite (fun h1 => ?_) fun h1 => ?_
  on_goal 1 =>
    obtain ⟨out, s, t32, t16, w1k, w2k, acc, mx, l⟩ := σ
    conv => arg 3; whnf
    iterate 3
      repeat
        conv => arg 3; whnf
        first
        | with_reducible refine Ok.load ?_
        | (fail_if_success (with_reducible refine Ok.store ?_)); refine Ok.load ?_
      conv => arg 3; whnf
      with_reducible refine Ok.store ?_
    refine Ok.set_w (Wt p) (wt_ok (fun r c => ?_) (fun r c => ?_) (fun r c hr => ?_)) fun w1k w2k hw => ?_
    · obtain ⟨β, hb⟩ := hβ (r / 8) (by omega)
      refine (left_apply iota_col r c (β := β) ?_).trans ?_
      · refine (bias_apply _ (fun r c => cmp_eq (by omega) (by omega) (divV_apply (by omega) (iota_row r c)) (iota_col r c)) r).trans ?_
        refine (cast_at _ _).trans ((whole_at E.X10 (by omega) (by omega)).trans ?_)
        rw [hE.b1 _ (by omega), hb]
      · refine if_congr Iff.rfl rfl (if_congr Iff.rfl hb.symm ?_)
        refine (part_apply (fun h c => hot_apply (by omega) (by omega) (divV_apply (by omega) (iota_col h c)) (iota_row h c))
          (fun r c => cmp_eq (by omega) (by omega) (modV_apply (by omega) (iota_row r c)) (modV_apply (by omega) (iota_col r c))) r c).trans ?_
        refine ite_congr rfl (fun hc => ?_) fun _ => rfl
        exact (w1_at hE (fun r c => hot_apply (by omega) (by omega) (divV_apply (by omega) (iota_row r c)) (iota_col r c)) 0 (by omega) r hc.2).trans (by rw [Nat.zero_add])
    · refine (same_apply _ r c).trans ((part_apply (fun h c => hot_apply (by omega) (by omega) (divV_apply (by omega) (iota_col h c)) (iota_row h c))
          (fun r c => cmp_eq (by omega) (by omega) (modV_apply (by omega) (iota_row r c)) (modV_apply (by omega) (iota_col r c))) r c).trans ?_)
      refine ite_congr rfl (fun hc => ?_) fun _ => rfl
      exact w1_at hE (fun r c => hot_apply (by omega) (by omega) (divV_apply (by omega) (iota_row r c)) (iota_col r c)) 15 (by omega) r hc.2
    · refine (second_apply (fun r c => hot_apply (by omega) (by omega) (divV_apply (by omega) (iota_row r c)) (iota_col r c))
        (fun h c => hot_apply (by omega) (by omega) (divV_apply (by omega) (iota_col h c)) (iota_row h c)) _
        (fun r c => cmp_eq (by omega) (by omega) (modV_apply (by omega) (iota_row r c)) (modV_apply (by omega) (iota_col r c))) r c hr).trans ?_
      refine ite_congr rfl (fun hc => ?_) fun _ => rfl
      rw [whole_at E.X11 (by omega) (by omega), hE.w2 _ _ (by omega) (by omega)]
    refine Ok.loop_then (fun n σ' => TabN p n σ'.t32 σ'.t16 ∧ Wt p σ'.w1k σ'.w2k) ⟨fun i u x hi => absurd hi (Nat.not_lt_zero _), hw⟩ ?_ fun σ' hσ' => ?_
    · rintro k ⟨out, s, t32, t16, w1k, w2k, acc, mx, l⟩ ⟨ht, hw⟩
      exact table_step E i hE hρ h1 k ht fun _ _ ht => ⟨ht, hw⟩
    obtain ⟨out, s, t32, t16, w1k, w2k, acc, mx, l⟩ := σ'
    obtain ⟨ht, hw⟩ := hσ'
    replace ht : Tab p t32 t16 := ht
    repeat
      conv => arg 3; whnf
      first
      | with_reducible refine Ok.load ?_
      | (fail_if_success (with_reducible refine Ok.store ?_)); refine Ok.load ?_
    conv => arg 3; whnf
    with_reducible refine Ok.store ?_
    refine Ok.set_s (Sc p 0 0 0) ?_ fun s hs => ?_
    · intro g u x hg hu hx
      refine ⟨(upd4 ..).trans ?_, fun h hh => absurd hh (Nat.not_lt_zero _)⟩
      rw [dif_pos (by omega)]
      unfold k0_pay555
      pointwise
  on_goal 2 =>
    obtain ⟨out, s, t32, t16, w1k, w2k, acc, mx, l⟩ := σ
    obtain ⟨ht, hw, hs⟩ := hk h1
    conv => arg 3; whnf
  all_goals
    repeat
      conv => arg 3; whnf
      first
      | with_reducible refine Ok.load ?_
      | (fail_if_success (with_reducible refine Ok.store ?_)); refine Ok.load ?_
    conv => arg 3; whnf
    with_reducible refine Ok.store ?_
    refine Ok.set_mx (Mx p (i 1).val 0 0 0) ?_ fun mx hm => ?_
    · intro h x hh hx
      refine (upd2 ..).trans ?_
      rw [dif_pos (by omega), ite_self]
      unfold k0_pay556
      pointwise
      exact neg_inf
    repeat
      conv => arg 3; whnf
      first
      | with_reducible refine Ok.load ?_
      | (fail_if_success (with_reducible refine Ok.store ?_)); refine Ok.load ?_
    conv => arg 3; whnf
    with_reducible refine Ok.store ?_
    refine Ok.set_l (Su p (i 1).val 0 0 0) ?_ fun l hl => ?_
    · intro h x hh hx
      refine (upd2 ..).trans ?_
      rw [dif_pos (by omega), ite_self]
      unfold k0_pay557
      pointwise
      exact (Finset.sum_range_zero _).symm
    repeat
      conv => arg 3; whnf
      first
      | with_reducible refine Ok.load ?_
      | (fail_if_success (with_reducible refine Ok.store ?_)); refine Ok.load ?_
    conv => arg 3; whnf
    with_reducible refine Ok.store ?_
    refine Ok.set_acc (Ac p (i 1).val 0 0 0) ?_ fun acc ha => ?_
    · intro h d x hh hd hx
      refine (upd3 ..).trans ?_
      rw [dif_pos (by omega), ite_self]
      unfold k0_pay558
      pointwise
      exact (Finset.sum_range_zero _).symm
    conv => arg 3; whnf
    refine Ok.loop_then (fun n σ' => Inv p (i 1).val (256 * n) σ') ⟨ht, hw, hs.start, hm, hl, ha⟩ (fun k σ' h => block_step E i hE k σ' h) fun σ' hσ' => ?_
    rw [block_trips] at hσ'
    refine Ok.loop_then (fun n σ' => Inv p (i 1).val (256 * (i 1).val) σ') hσ' (fun k => ?_) fun σ' hσ' => ?_
    · exact absurd (lt_of_lt_of_eq k.isLt (rest_trips i)) (Nat.not_lt_zero _)
    obtain ⟨out, s, t32, t16, w1k, w2k, acc, mx, l⟩ := σ'
    conv => arg 3; whnf
    refine Ok.load ?_
    conv => arg 3; whnf
    with_reducible refine Ok.ret ?_
    exact ⟨rfl, hσ'⟩

end Cert.KernelIdeal.Gen

end
-- ==== Proof.Whole.lean ====
/- The whole problem: the ten argument arrays as four batches, and the result they name. -/
module

public import proofs.«01_k».proof.Proof.Spec
public import proofs.«01_k».proof.Proof.At

@[expose] public section

noncomputable section

namespace Dape

open Idealize.ShloMosaic

/-- The ten argument arrays. -/
structure Args where
  q : (⟨4, ![4, 2048, 15, 128]⟩ : Shape).Idx → EReal
  qs : (⟨3, ![4, 2048, 15]⟩ : Shape).Idx → EReal
  k : (⟨4, ![4, 2048, 15, 128]⟩ : Shape).Idx → EReal
  ks : (⟨3, ![4, 2048, 15]⟩ : Shape).Idx → EReal
  v : (⟨4, ![4, 2048, 15, 128]⟩ : Shape).Idx → EReal
  r1 : (⟨1, ![15]⟩ : Shape).Idx → EReal
  r2 : (⟨1, ![15]⟩ : Shape).Idx → EReal
  w1 : (⟨2, ![30, 32]⟩ : Shape).Idx → EReal
  b1 : (⟨1, ![32]⟩ : Shape).Idx → EReal
  w2 : (⟨2, ![32, 15]⟩ : Shape).Idx → EReal

/-- Batch `b` of the arguments. -/
def Args.prob (a : Args) (b : ℕ) : Prob where
  Q r h d := av a.q ![b, r, h, d]
  K r h d := av a.k ![b, r, h, d]
  V r h d := av a.v ![b, r, h, d]
  qs r h := av a.qs ![b, r, h]
  ks r h := av a.ks ![b, r, h]
  r1 h := av a.r1 ![h]
  r2 h := av a.r2 ![h]
  w1 h m := av a.w1 ![h, m]
  b1 m := av a.b1 ![m]
  w2 m h := av a.w2 ![m, h]

/-- The result at one index: the values of a channel, averaged with the softmax of a row's logits. -/
def Args.at (a : Args) (b r c : ℕ) : EReal :=
  avg (fun k => (a.prob b).lg r k (c / 128)) (fun k => (a.prob b).V k (c / 128) (c % 128)) 2048

/-- The result. -/
def Args.want (a : Args) : (⟨3, ![4, 2048, 1920]⟩ : Shape).Idx → EReal := fun j => a.at (j 0) (j 1) (j 2)

/-- What the precondition says: finite rates and hidden biases, and in every channel a positive value. -/
structure Args.Good (a : Args) : Prop where
  r2 : ∀ h, h < 15 → ∃ ρ : ℝ, av a.r2 ![h] = (ρ : EReal)
  b1 : ∀ m, m < 32 → ∃ β : ℝ, av a.b1 ![m] = (β : EReal)
  v : ∀ b h d, b < 4 → h < 15 → d < 128 → ∃ k, k < 2048 ∧ 0 < av a.v ![b, k, h, d]

end Dape

end
-- ==== Proof.KI.Blocks.lean ====
/- What a grid point reads: each operand's block, as a part of the argument arrays. -/
module

public import proofs.«01_k».proof.Proof.KI.Run
public import proofs.«01_k».proof.Proof.KI.Head
public import proofs.«01_k».proof.Proof.Whole
public import Idealize.ShloMosaic.Lib.Pointwise
public import Idealize.ShloMosaic.Lib.StableHlo.RunRead

@[expose] public section

set_option maxRecDepth 16384

noncomputable section

namespace Cert.KernelIdeal.Gen

open Idealize.ShloMosaic Idealize.ShloMosaic.TcCoe
open Idealize.SL.Sem
open Idealize.ShloMosaic.Pipeline (Dat Cfg Window)
open Dape

variable (m : (ℓ : Loc nD τ sig) → Buf (Elt Ideal) ℓ)

/-- The arguments on core `c`. -/
def args (c : Dev nD) : Args where
  q := m ((c.tc : Thread nD τ).loc main_arg0)
  qs := m ((c.tc : Thread nD τ).loc main_arg1)
  k := m ((c.tc : Thread nD τ).loc main_arg2)
  ks := m ((c.tc : Thread nD τ).loc main_arg3)
  v := m ((c.tc : Thread nD τ).loc main_arg4)
  r1 := m ((c.tc : Thread nD τ).loc main_arg5)
  r2 := m ((c.tc : Thread nD τ).loc main_arg6)
  w1 := m ((c.tc : Thread nD τ).loc main_arg7)
  b1 := m ((c.tc : Thread nD τ).loc main_arg8)
  w2 := m ((c.tc : Thread nD τ).loc main_arg9)

theorem V_v0 (c : Dev nD) : V m c main_v0 = shapeCast S4x2048x1920 (args m c).q shapeCasts_S4x2048x15x128_S4x2048x1920 := by
  unfold V; after_reads_simp; rfl
theorem V_v1 (c : Dev nD) : V m c main_v1 = shapeCast S4x2048x1920 (args m c).k shapeCasts_S4x2048x15x128_S4x2048x1920 := by
  unfold V; after_reads_simp; rfl
theorem V_v2 (c : Dev nD) : V m c main_v2 = transpose S4x15x128x2048 [0, 2, 3, 1] (args m c).v transposes_S4x2048x15x128_S4x15x128x2048_0_2_3_1 := by
  unfold V; after_reads_simp; rfl
theorem V_v3 (c : Dev nD) : V m c main_v3 = transpose S4x15x2048 [0, 2, 1] (args m c).qs transposes_S4x2048x15_S4x15x2048_0_2_1 := by
  unfold V; after_reads_simp; rfl
theorem V_v4 (c : Dev nD) : V m c main_v4 = transpose S32x30 [1, 0] (args m c).w1 transposes_S30x32_S32x30_1_0 := by
  unfold V; after_reads_simp; rfl
theorem V_v5 (c : Dev nD) : V m c main_v5 = broadcastInDim S1x32 ![1] bcast_S32_S1x32_1 (args m c).b1 := by
  unfold V; after_reads_simp; rfl
theorem V_v6 (c : Dev nD) : V m c main_v6 = transpose S15x32 [1, 0] (args m c).w2 transposes_S32x15_S15x32_1_0 := by
  unfold V; after_reads_simp; rfl

/-! The blocks that each window stages at grid point `t`. -/

theorem index_2 : ∀ t : Fin cfg0.N, ∀ a, win0_2.index t a = ![(grid0.coords t 0).val, (grid0.coords t 1).val, 0] a := by decide +kernel
theorem index_3 : ∀ t : Fin cfg0.N, ∀ a, win0_3.index t a = ![(grid0.coords t 0).val, 0, 0] a := by decide +kernel
theorem index_4 : ∀ t : Fin cfg0.N, ∀ a, win0_4.index t a = ![(grid0.coords t 0).val, 0, 0, 0] a := by decide +kernel
theorem index_5 : ∀ t : Fin cfg0.N, ∀ a, win0_5.index t a = ![(grid0.coords t 0).val, 0, (grid0.coords t 1).val] a := by decide +kernel
theorem index_6 : ∀ t : Fin cfg0.N, ∀ a, win0_6.index t a = ![(grid0.coords t 0).val, 0, 0] a := by decide +kernel
theorem index_0 : ∀ t : Fin cfg0.N, ∀ a, win0_0.index t a = 0 := by decide +kernel
theorem index_1 : ∀ t : Fin cfg0.N, ∀ a, win0_1.index t a = 0 := by decide +kernel
theorem index_7 : ∀ t : Fin cfg0.N, ∀ a, win0_7.index t a = 0 := by decide +kernel
theorem index_8 : ∀ t : Fin cfg0.N, ∀ a, win0_8.index t a = 0 := by decide +kernel
theorem index_9 : ∀ t : Fin cfg0.N, ∀ a, win0_9.index t a = 0 := by decide +kernel

variable (c : Dev nD) (t : Fin cfg0.N)

theorem blk_0 (x : S15.Idx) : iblk m c 0 t x = av (args m c).r1 (fun a => x a) :=
  (av_idx (s := S15) (args m c).r1 _).symm.trans (congrArg _ (funext fun a =>
    (Window.rect_emb_val win0_0 t x a).trans (by rw [index_0]; omega)))
theorem blk_1 (x : S15.Idx) : iblk m c 1 t x = av (args m c).r2 (fun a => x a) :=
  (av_idx (s := S15) (args m c).r2 _).symm.trans (congrArg _ (funext fun a =>
    (Window.rect_emb_val win0_1 t x a).trans (by rw [index_1]; omega)))

theorem blk_2 (x : S1x256x1920.Idx) :
    iblk m c 2 t x = av (V m c main_v0) (fun a => ![(grid0.coords t 0).val, (grid0.coords t 1).val, 0] a * S1x256x1920.size a + x a) :=
  (av_idx (s := S4x2048x1920) (V m c main_v0) _).symm.trans (congrArg _ (funext fun a =>
    (Window.rect_emb_val win0_2 t x a).trans (by rw [index_2])))

theorem blk_3 (x : S1x2048x1920.Idx) :
    iblk m c 3 t x = av (V m c main_v1) (fun a => ![(grid0.coords t 0).val, 0, 0] a * S1x2048x1920.size a + x a) :=
  (av_idx (s := S4x2048x1920) (V m c main_v1) _).symm.trans (congrArg _ (funext fun a =>
    (Window.rect_emb_val win0_3 t x a).trans (by rw [index_3])))

theorem blk_4 (x : S1x15x128x2048.Idx) :
    iblk m c 4 t x = av (V m c main_v2) (fun a => ![(grid0.coords t 0).val, 0, 0, 0] a * S1x15x128x2048.size a + x a) :=
  (av_idx (s := S4x15x128x2048) (V m c main_v2) _).symm.trans (congrArg _ (funext fun a =>
    (Window.rect_emb_val win0_4 t x a).trans (by rw [index_4])))

theorem blk_5 (x : S1x15x256.Idx) :
    iblk m c 5 t x = av (V m c main_v3) (fun a => ![(grid0.coords t 0).val, 0, (grid0.coords t 1).val] a * S1x15x256.size a + x a) :=
  (av_idx (s := S4x15x2048) (V m c main_v3) _).symm.trans (congrArg _ (funext fun a =>
    (Window.rect_emb_val win0_5 t x a).trans (by rw [index_5])))

theorem blk_6 (x : S1x2048x15.Idx) :
    iblk m c 6 t x = av (args m c).ks (fun a => ![(grid0.coords t 0).val, 0, 0] a * S1x2048x15.size a + x a) :=
  (av_idx (s := S4x2048x15) (args m c).ks _).symm.trans (congrArg _ (funext fun a =>
    (Window.rect_emb_val win0_6 t x a).trans (by rw [index_6])))
theorem blk_7 (x : S32x30.Idx) : iblk m c 7 t x = av (V m c main_v4) (fun a => x a) :=
  (av_idx (s := S32x30) (V m c main_v4) _).symm.trans (congrArg _ (funext fun a =>
    (Window.rect_emb_val win0_7 t x a).trans (by rw [index_7]; omega)))
theorem blk_8 (x : S1x32.Idx) : iblk m c 8 t x = av (V m c main_v5) (fun a => x a) :=
  (av_idx (s := S1x32) (V m c main_v5) _).symm.trans (congrArg _ (funext fun a =>
    (Window.rect_emb_val win0_8 t x a).trans (by rw [index_8]; omega)))
theorem blk_9 (x : S15x32.Idx) : iblk m c 9 t x = av (V m c main_v6) (fun a => x a) :=
  (av_idx (s := S15x32) (V m c main_v6) _).symm.trans (congrArg _ (funext fun a =>
    (Window.rect_emb_val win0_9 t x a).trans (by rw [index_9]; omega)))

/-- A head and a channel of it, in an array whose last dimension lists the heads' channels one head after the other. -/
theorem sh (X : S4x2048x15x128.Idx → EReal) {b r h d : ℕ} (hb : b < 4) (hr : r < 2048) (hh : h < 15) (hd : d < 128) :
    av (shapeCast S4x2048x1920 X shapeCasts_S4x2048x15x128_S4x2048x1920) ![b, r, 128 * h + d] = av X ![b, r, h, d] := by
  have e : 128 * h + d < 1920 := by omega
  refine (ix3_eq _ ⟨b, hb⟩ ⟨r, hr⟩ ⟨128 * h + d, e⟩).symm.trans ?_
  refine Eq.trans ?_ (ix4_eq _ ⟨b, hb⟩ ⟨r, hr⟩ ⟨h, hh⟩ ⟨d, hd⟩)
  pointwise
  congr 1; funext i; fin_cases i
  · rfl
  · rfl
  · exact Fin.ext (by show (128 * h + d) / 128 = h; omega)
  · exact Fin.ext (by show (128 * h + d) % 128 = d; omega)

/-- The blocks of grid point `t` are those of its batch and its query block. -/
theorem fits : Fits ((args m c).prob (grid0.coords t 0).val) (grid0.coords t 1).val (env m c t) := by
  have hb : (grid0.coords t 0).val < 4 := (grid0.coords t 0).isLt
  have hi : (grid0.coords t 1).val < 8 := (grid0.coords t 1).isLt
  refine ⟨?_, ?_, ?_, ?_, ?_, ?_, ?_, ?_, ?_, ?_⟩
  · intro x h d hx hh hd
    have e : 128 * h + d < 1920 := by omega
    refine (ix3_eq _ 0 ⟨x, hx⟩ ⟨128 * h + d, e⟩).symm.trans ((blk_2 m c t _).trans ?_)
    rw [V_v0]
    refine Eq.trans (congrArg _ (funext fun a => ?_)) (sh (args m c).q hb (show 256 * (grid0.coords t 1).val + x < 2048 by omega) hh hd)
    fin_cases a
    · show (grid0.coords t 0).val * 1 + 0 = (grid0.coords t 0).val; omega
    · show (grid0.coords t 1).val * 256 + x = 256 * (grid0.coords t 1).val + x; omega
    · show 0 * 1920 + (128 * h + d) = 128 * h + d; omega
  · intro x h d hx hh hd
    have e : 128 * h + d < 1920 := by omega
    refine (ix3_eq _ 0 ⟨x, hx⟩ ⟨128 * h + d, e⟩).symm.trans ((blk_3 m c t _).trans ?_)
    rw [V_v1]
    refine Eq.trans (congrArg _ (funext fun a => ?_)) (sh (args m c).k hb hx hh hd)
    fin_cases a
    · show (grid0.coords t 0).val * 1 + 0 = (grid0.coords t 0).val; omega
    · show 0 * 2048 + x = x; omega
    · show 0 * 1920 + (128 * h + d) = 128 * h + d; omega
  · intro x h d hx hh hd
    refine (ix4_eq _ 0 ⟨h, hh⟩ ⟨d, hd⟩ ⟨x, hx⟩).symm.trans ((blk_4 m c t _).trans ?_)
    rw [V_v2]
    refine Eq.trans (b := av (transpose S4x15x128x2048 [0, 2, 3, 1] (args m c).v transposes_S4x2048x15x128_S4x15x128x2048_0_2_3_1)
      ![(grid0.coords t 0).val, h, d, x]) (congrArg _ (funext fun a => ?_)) ?_
    · fin_cases a
      · show (grid0.coords t 0).val * 1 + 0 = (grid0.coords t 0).val; omega
      · show 0 * 15 + h = h; omega
      · show 0 * 128 + d = d; omega
      · show 0 * 2048 + x = x; omega
    · refine (ix4_eq _ ⟨_, hb⟩ ⟨h, hh⟩ ⟨d, hd⟩ ⟨x, hx⟩).symm.trans (Eq.trans ?_ (ix4_eq (args m c).v ⟨_, hb⟩ ⟨x, hx⟩ ⟨h, hh⟩ ⟨d, hd⟩))
      pointwise
  · intro x h hx hh
    refine (ix3_eq _ 0 ⟨h, hh⟩ ⟨x, hx⟩).symm.trans ((blk_5 m c t _).trans ?_)
    rw [V_v3]
    have e : 256 * (grid0.coords t 1).val + x < 2048 := by omega
    refine Eq.trans (b := av (transpose S4x15x2048 [0, 2, 1] (args m c).qs transposes_S4x2048x15_S4x15x2048_0_2_1)
      ![(grid0.coords t 0).val, h, 256 * (grid0.coords t 1).val + x]) (congrArg _ (funext fun a => ?_)) ?_
    · fin_cases a
      · show (grid0.coords t 0).val * 1 + 0 = (grid0.coords t 0).val; omega
      · show 0 * 15 + h = h; omega
      · show (grid0.coords t 1).val * 256 + x = 256 * (grid0.coords t 1).val + x; omega
    · refine (ix3_eq _ ⟨_, hb⟩ ⟨h, hh⟩ ⟨_, e⟩).symm.trans (Eq.trans ?_ (ix3_eq (args m c).qs ⟨_, hb⟩ ⟨_, e⟩ ⟨h, hh⟩))
      pointwise
  · intro x h hx hh
    refine (ix3_eq _ 0 ⟨x, hx⟩ ⟨h, hh⟩).symm.trans ((blk_6 m c t _).trans (congrArg _ (funext fun a => ?_)))
    fin_cases a
    · show (grid0.coords t 0).val * 1 + 0 = (grid0.coords t 0).val; omega
    · show 0 * 2048 + x = x; omega
    · show 0 * 15 + h = h; omega
  · intro h hh
    exact (ix1_eq _ ⟨h, hh⟩).symm.trans ((blk_0 m c t _).trans (congrArg _ (funext fun a => by fin_cases a; rfl)))
  · intro h hh
    exact (ix1_eq _ ⟨h, hh⟩).symm.trans ((blk_1 m c t _).trans (congrArg _ (funext fun a => by fin_cases a; rfl)))
  · intro x h hx hh
    refine (ix2_eq _ ⟨x, hx⟩ ⟨h, hh⟩).symm.trans ((blk_7 m c t _).trans ((av_idx (s := S32x30) _ _).trans ?_))
    rw [V_v4]
    refine Eq.trans ?_ (ix2_eq (args m c).w1 ⟨h, hh⟩ ⟨x, hx⟩)
    pointwise
  · intro x hx
    refine (ix2_eq _ 0 ⟨x, hx⟩).symm.trans ((blk_8 m c t _).trans ((av_idx (s := S1x32) _ _).trans ?_))
    rw [V_v5]
    refine Eq.trans ?_ (ix1_eq (args m c).b1 ⟨x, hx⟩)
    pointwise
  · intro x h hx hh
    refine (ix2_eq _ ⟨h, hh⟩ ⟨x, hx⟩).symm.trans ((blk_9 m c t _).trans ((av_idx (s := S15x32) _ _).trans ?_))
    rw [V_v6]
    refine Eq.trans ?_ (ix2_eq (args m c).w2 ⟨x, hx⟩ ⟨h, hh⟩)
    pointwise

end Cert.KernelIdeal.Gen

end
-- ==== Proof.KI.Value.lean ====
/- The kernel's result: every run of the program ends with the result array at the function of the arguments that
   `Args.want` states, and with the arguments unchanged. Between two grid points the tables of the position bias and of the
   hidden weights are known; they do not depend on the batch. -/
module

public import proofs.«01_k».proof.Proof.KI.Diag
public import proofs.«01_k».proof.Proof.KI.Blocks

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Dape

local notation "𝕄" => MT nD τ sig Unit (Elt Ideal) ℕ (UR sig nD τ) ℕ

variable (m : (ℓ : Loc nD τ sig) → Buf (Elt Ideal) ℓ) (ρ : Dev nD → PrngReg)

theorem index_10 : ∀ t : Fin cfg0.N, ∀ a, win0_10.index t a = ![(grid0.coords t 0).val, (grid0.coords t 1).val, 0] a := by decide +kernel

/-- Only at the first grid point are the tables built. -/
theorem first_point : ∀ t : Fin cfg0.N, k0_cond1 (grid0.coords t) ≠ 1#1 → t.val ≠ 0 := by decide +kernel

/-- What is kept between grid points is the same in every batch. -/
theorem kept_batch {a : Args} {b b' : ℕ} {σ σ' : St Ideal} (h : Kept (a.prob b) σ) (e0 : σ'.s = σ.s) (e1 : σ'.t32 = σ.t32) (e2 : σ'.t16 = σ.t16)
    (e3 : σ'.w1k = σ.w1k) (e4 : σ'.w2k = σ.w2k) : Kept (a.prob b') σ' := by
  obtain ⟨ht, hw, ho⟩ := h
  refine ⟨?_, ?_, fun g u x hg hu hx => ⟨?_, fun h hh => absurd hh (Nat.not_lt_zero h)⟩⟩
  · rw [e1, e2]; exact ht
  · rw [e3, e4]; exact hw
  · rw [e0]; exact (ho g u x hg hu hx).1

/-- The block of the result that grid point `t` writes. -/
def outBlk (c : Dev nD) (t : Fin cfg0.N) : S1x256x1920.Idx → EReal := fun j =>
  (args m c).at (grid0.coords t 0).val (256 * (grid0.coords t 1).val + (j 1).val) (j 2).val

theorem out_eq (c : Dev nD) (t : Fin cfg0.N) (out : S1x256x1920.Idx → EReal)
    (h : Out ((args m c).prob (grid0.coords t 0).val) (grid0.coords t 1).val 15 out) : out = outBlk m c t := by
  funext j
  have hj : (j 2).val < 1920 := (j 2).isLt
  have h0 : (j 0).val < 1 := (j 0).isLt
  refine (av_idx out j).symm.trans (Eq.trans (congrArg _ (funext fun a => ?_)) (h ((j 2).val / 128) (j 1).val ((j 2).val % 128) (by omega) (j 1).isLt (by omega)))
  fin_cases a
  · show (j 0).val = 0; omega
  · rfl
  · show (j 2).val = 128 * ((j 2).val / 128) + (j 2).val % 128; omega

/-- A grid point, from good arguments. -/
theorem point_ok (c : Dev nD) (hG : (args m c).Good) (t : Fin cfg0.N) (σ : St Ideal) (hk : t.val ≠ 0 → Kept ((args m c).prob 0) σ) :
    Ok (env m c t) σ (bodyAt0 t) (fun _ σ' => Kept ((args m c).prob 0) σ' ∧ σ'.out = outBlk m c t) := by
  refine Ok.mono (diag_step (env m c t) (grid0.coords t) (fits m c t) (fun h d hh hd => hG.v _ h d (grid0.coords t 0).isLt hh hd) σ
    (head_step (env m c t) (grid0.coords t) (fits m c t) hG.b1 hG.r2 σ fun h => kept_batch (hk (first_point t h)) rfl rfl rfl rfl rfl)) ?_
  intro v σ' h
  exact ⟨kept_batch h.1 rfl rfl rfl rfl rfl, out_eq m c t _ h.2⟩

namespace Value

/-- What holds of core `c`'s scratch buffers before grid point `t`. -/
def between (c : Dev nD) (n : ℕ) : sProp 𝕄 :=
  iprop((∃ f0 : Buf (Elt Ideal) ((c : Thread nD τ).loc cc0_scratch0), ∃ f1 : Buf (Elt Ideal) ((c : Thread nD τ).loc cc0_scratch1), ∃ f2 : Buf (Elt Ideal) ((c : Thread nD τ).loc cc0_scratch2), ∃ f3 : Buf (Elt Ideal) ((c : Thread nD τ).loc cc0_scratch3), ∃ f4 : Buf (Elt Ideal) ((c : Thread nD τ).loc cc0_scratch4), ∃ f5 : Buf (Elt Ideal) ((c : Thread nD τ).loc cc0_scratch5), ∃ f6 : Buf (Elt Ideal) ((c : Thread nD τ).loc cc0_scratch6), ∃ f7 : Buf (Elt Ideal) ((c : Thread nD τ).loc cc0_scratch7),
    ⌜n ≠ 0 → Kept ((args m c).prob 0) ⟨fun _ => (0 : EReal), f0, f1, f2, f3, f4, f5, f6, f7⟩⌝ ∗ (((c : Thread nD τ).loc cc0_scratch0) ↦{fullShare} f0) ∗ (((c : Thread nD τ).loc cc0_scratch1) ↦{fullShare} f1) ∗ (((c : Thread nD τ).loc cc0_scratch2) ↦{fullShare} f2) ∗ (((c : Thread nD τ).loc cc0_scratch3) ↦{fullShare} f3) ∗ (((c : Thread nD τ).loc cc0_scratch4) ↦{fullShare} f4) ∗ (((c : Thread nD τ).loc cc0_scratch5) ↦{fullShare} f5) ∗ (((c : Thread nD τ).loc cc0_scratch6) ↦{fullShare} f6) ∗ (((c : Thread nD τ).loc cc0_scratch7) ↦{fullShare} f7))
    ∗ ∃ r, prngReg c r)

theorem between_in (c : Dev nD) : Pipeline.ΦA spec0 c ⊢ between m c 0 := by
  unfold Pipeline.ΦA between
  rw [scopedRest0_eq]
  iintro ⟨⟨⟨%f0, S0⟩, ⟨%f1, S1⟩, ⟨%f2, S2⟩, ⟨%f3, S3⟩, ⟨%f4, S4⟩, ⟨%f5, S5⟩, ⟨%f6, S6⟩, ⟨%f7, S7⟩⟩, Hp⟩
  iframe
  iexists f0, f1, f2, f3, f4, f5, f6, f7
  iframe
  ipureintro
  exact fun h => absurd rfl h

theorem between_out (c : Dev nD) (n : ℕ) : between m c n ⊢ Pipeline.ΦA spec0 c := by
  unfold Pipeline.ΦA between
  rw [scopedRest0_eq]
  iintro ⟨⟨%f0, %f1, %f2, %f3, %f4, %f5, %f6, %f7, -, S0, S1, S2, S3, S4, S5, S6, S7⟩, Hp⟩
  iframe
  isplitl [S0]; · iexists _; iexact S0
  isplitl [S1]; · iexists _; iexact S1
  isplitl [S2]; · iexists _; iexact S2
  isplitl [S3]; · iexists _; iexact S3
  isplitl [S4]; · iexists _; iexact S4
  isplitl [S5]; · iexists _; iexact S5
  isplitl [S6]; · iexists _; iexact S6
  iexists _; iexact S7

/-- The proof data: the arrays as the region finds them, each input block left as found, each output block at its part
    of the result. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => outBlk m c t
  Φ t := between m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

theorem after0_10 (c : Dev nD) (t : Fin cfg0.N) : (dats m 0 c).after 10 t = outBlk m c t := by dsimp only [dats]

def bodyPre (c : Dev nD) (t : Fin cfg0.N) : sProp 𝕄 :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)))

def bodyPost (c : Dev nD) (t : Fin cfg0.N) : sProp 𝕄 :=
  iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ owns (c : Thread nD τ) (st0_10 t) fullShare ((dats m 0 c).after 10 t))

theorem sound_body (c : Dev nD) (hG : (args m c).Good) (t : Fin cfg0.N) :
    bodyPre m c t ⊢ wp frame (wpE (defs₀ (F := Ideal)) Variants.none c none) Set.univ (bodyAt0 t) (fun _ => bodyPost m c t) := by
  unfold bodyPre bodyPost
  simp only [before0_0, before0_1, before0_2, before0_3, before0_4, before0_5, before0_6, before0_7, before0_8, before0_9]
  rw [show (dats m 0 c).Φ t.succ = between m c t.succ.val from rfl,
    show (dats m 0 c).owesAt () t.succ = (dats m 0 c).owesAt () t.castSucc from rfl,
    after0_0, after0_1, after0_2, after0_3, after0_4, after0_5, after0_6, after0_7, after0_8, after0_9, after0_10]
  rw [show (dats m 0 c).Φ t.castSucc = between m c t.val from rfl]
  unfold between
  iintro ⟨⟨⟨%f0, %f1, %f2, %f3, %f4, %f5, %f6, %f7, %hk, S0, S1, S2, S3, S4, S5, S6, S7⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%X, H10⟩⟩
  have hb := point_ok m c hG t ⟨(dats m 0 c).before 10 t X, f0, f1, f2, f3, f4, f5, f6, f7⟩ fun h => kept_batch (hk h) rfl rfl rfl rfl rfl
  unfold Ok at hb
  iapply wp_wand_r frame (wpE (defs₀ (F := Ideal)) Variants.none (c : Thread nD τ) none) Set.univ
  isplitl [S0 S1 S2 S3 S4 S5 S6 S7 H0 H1 H2 H3 H4 H5 H6 H7 H8 H9 H10]
  · iapply hb
    iapply own_intro
    dsimp only [env]
    simp only [owns_whole]
    iframe
  · iintro %a ⟨%σ', %hσ, H⟩
    ihave H := (own_elim (env m c t) σ') $$ H
    rw [hσ.2]
    dsimp only [env]
    simp only [owns_whole]
    icases H with ⟨H0, H1, H2, H3, H4, H5, H6, H7, H8, H9, H10, S0, S1, S2, S3, S4, S5, S6, S7⟩
    iframe
    iexists σ'.s, σ'.t32, σ'.t16, σ'.w1k, σ'.w2k, σ'.acc, σ'.mx, σ'.l
    iframe
    ipureintro
    exact fun _ => kept_batch hσ.1 rfl rfl rfl rfl rfl

theorem body_obligation (c : Dev nD) (hG : (args m c).Good) :
    Pipeline.BodyObligationLoose (dats m 0 c) (defs₀ (F := Ideal)) Variants.none () Set.univ := fun t => by
  rw [bigSep_W0, bigSep_W0, Plain.defs₀_row]
  exact triple_restated (sound_body m c hG t) rfl .rfl fun _ => .rfl

theorem flushed_eq (c : Dev nD) (t : Fin cfg0.N) :
    (dats m 0 c).flushed 10 t = (win0_10.blk t).view.read (Elt Ideal) (args m c).want := by
  show (cfg0.win 10).cut (grid0.coords t) ((dats m 0 c).after 10 t) = _
  rw [after0_10]
  funext y
  have e0 : ((win0_10.rect t).emb y 0 : ℕ) = (grid0.coords t 0).val := by
    refine (Window.rect_emb_val win0_10 t y 0).trans ?_
    rw [index_10]
    have h : (y 0 : ℕ) < 1 := (y 0).isLt
    show (grid0.coords t 0).val * 1 + (y 0 : ℕ) = _
    omega
  have e1 : ((win0_10.rect t).emb y 1 : ℕ) = 256 * (grid0.coords t 1).val + (y 1 : ℕ) := by
    refine (Window.rect_emb_val win0_10 t y 1).trans ?_
    rw [index_10]
    show (grid0.coords t 1).val * 256 + (y 1 : ℕ) = _
    omega
  have e2 : ((win0_10.rect t).emb y 2 : ℕ) = (y 2 : ℕ) := by
    refine (Window.rect_emb_val win0_10 t y 2).trans ?_
    rw [index_10]
    show 0 * 1920 + (y 2 : ℕ) = _
    omega
  show outBlk m c t _ = (args m c).at ((win0_10.rect t).emb y 0) ((win0_10.rect t).emb y 1) ((win0_10.rect t).emb y 2)
  rw [e0, e1, e2]
  rfl

theorem index_onto : ∀ b : Fin 4, ∀ q : Fin 8, ∃ t : Fin cfg0.N, (grid0.coords t 0).val = b.val ∧ (grid0.coords t 1).val = q.val := by decide +kernel

/-- Every index of the result is in some grid point's block. -/
theorem cover (i : S4x2048x1920.Idx) : ∃ t : Fin cfg0.N, (cfg0.win 10).flush t = true ∧ i ∈ ((cfg0.win 10).blk t).view.set := by
  have h0 : (i 0 : ℕ) < 4 := (i 0).isLt
  have h1 : (i 1 : ℕ) < 2048 := (i 1).isLt
  have h2 : (i 2 : ℕ) < 1920 := (i 2).isLt
  obtain ⟨t, e0, e1⟩ := index_onto ⟨i 0, h0⟩ ⟨(i 1 : ℕ) / 256, by omega⟩
  refine ⟨t, flush0_10 t, ?_⟩
  show i ∈ ((View.whole main_v7).slice (win0_10.rect t)).set
  rw [View.set_slice_whole, Rect.mem_set_unit]
  intro a
  rw [index_10]
  fin_cases a
  · show (grid0.coords t 0).val * 1 ≤ (i 0 : ℕ) ∧ (i 0 : ℕ) < (grid0.coords t 0).val * 1 + 1
    dsimp only at e0; omega
  · show (grid0.coords t 1).val * 256 ≤ (i 1 : ℕ) ∧ (i 1 : ℕ) < (grid0.coords t 1).val * 256 + 256
    dsimp only at e1; omega
  · show 0 * 1920 ≤ (i 2 : ℕ) ∧ (i 2 : ℕ) < 0 * 1920 + 1920
    omega

theorem final (c : Dev nD) : (dats m 0 c).arrAt 10 cfg0.N = (args m c).want :=
  (dats m 0 c).arrAt_eq_of_cover 10 _ (fun t _ => flushed_eq m c t) fun i => cover i

set_option backward.isDefEq.respectTransparency.types false in
set_option maxHeartbeats 800000 in
/-- Every run from good arguments ends with the result array at `Args.want` and with the arguments unchanged. -/
theorem run (hG : ∀ c, (args m c).Good) : θ_run defs (onTc (τ := τ) (main (F := Ideal))) ⟨m, fun _ => 0, ρ⟩ (fun r => ∀ c : Dev nD,
      r.2.mem ((c.tc : Thread nD τ).loc main_v7) = (args m c).want
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_frame_track cfgs (dats m) (0 : Fin 1) launch0 defs₀ Variants.none m ρ main
    (hbody := fun c => body_obligation m c (hG c)) (hshare := fun c => (dats m 0 c).share_full fun _ => rfl)
    (howed := fun _ _ => rfl) (V := V m) (hmain := hmain m Variants.none) (hA := A_eq m)
    (hin := fun c => between_in m c) (hout := fun c => between_out m c _) (Q' := _)
    (hQ' := fun r ⟨h, _⟩ c => ⟨((h c).1 10).trans (final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 6).trans (((dats m 0 c).arrAt_in 6 rfl _).trans ((A_eq m c 6).trans (V_main_arg3 m c))),
      ((h c).2 main_arg4 (Pipeline.mem_restRefs_of main_arg4 (by decide) (by decide))).trans (V_main_arg4 m c),
      ((h c).1 0).trans (((dats m 0 c).arrAt_in 0 rfl _).trans ((A_eq m c 0).trans (V_main_arg5 m c))),
      ((h c).1 1).trans (((dats m 0 c).arrAt_in 1 rfl _).trans ((A_eq m c 1).trans (V_main_arg6 m c))),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩)

end Value

end Cert.KernelIdeal.Gen

end
-- ==== Proof.RI.Stages.lean ====
/- The reference's host operations, in stages: the scaled scores, the position bias, the hidden layer before its
   activation, the correction, the masked logits, the softmax and the averaged values. -/
module

public import proofs.«01_k».proof.Proof.Gen.ReferenceIdeal.Frame
public import Idealize.ShloMosaic.Lib.StableHlo.RunRead
public import Idealize.ShloMosaic.Lib.Pointwise
public import Idealize.ShloMosaic.PureOps.Ideal

@[expose] public section

set_option maxRecDepth 16384

noncomputable section

namespace Cert.ReferenceIdeal.Gen

open Idealize.ShloMosaic Idealize.ShloMosaic.TcCoe
open Idealize.SL.Sem

/-- The scaled scores. -/
def scores (q k : FVec Ideal S4x2048x15x128 .f32) (qs ks : FVec Ideal S4x2048x15 .f32) : FVec Ideal S4x15x2048x2048 .f32 :=
  mulf (mulf (Host.dotGeneral dot_S4x2048x15x128_S4x2048x15x128_S4x15x2048x2048_3_3_1_1_02_02 none q k)
      (broadcastInDim S4x15x2048x2048 ![0, 1, 2, 3] bcast_S4x15x2048x1_S4x15x2048x2048_0_1_2_3
        (broadcastInDim S4x15x2048x1 ![0, 1, 2] bcast_S4x15x2048_S4x15x2048x1_0_1_2 (transpose S4x15x2048 [0, 2, 1] qs transposes_S4x2048x15_S4x15x2048_0_2_1))))
    (broadcastInDim S4x15x2048x2048 ![0, 1, 2, 3] bcast_S4x15x1x2048_S4x15x2048x2048_0_1_2_3
      (broadcastInDim S4x15x1x2048 ![0, 1, 3] bcast_S4x15x2048_S4x15x1x2048_0_1_3
        (mulf (transpose S4x15x2048 [0, 2, 1] ks transposes_S4x2048x15_S4x15x2048_0_2_1)
          (broadcastInDim S4x15x2048 ![] bcast_S_S4x15x2048 (constant S_ .f32 0x3DB504F3#32)))))

/-- The distance of two positions. -/
def dists : FVec Ideal S2048x2048 .f32 :=
  sitofp .f32 (absi (subi (broadcastInDim S2048x2048 ![0, 1] bcast_S2048x1_S2048x2048_0_1 (broadcastInDim S2048x1 ![0] bcast_S2048_S2048x1_0 (iotaInDim S2048 32 0)))
    (broadcastInDim S2048x2048 ![0, 1] bcast_S1x2048_S2048x2048_0_1 (broadcastInDim S1x2048 ![1] bcast_S2048_S1x2048_1 (iotaInDim S2048 32 0)))))

/-- The position bias. -/
def biases (r1 r2 : FVec Ideal S15 .f32) : FVec Ideal S15x2048x2048 .f32 :=
  mulf (broadcastInDim S15x2048x2048 ![0, 1, 2] bcast_S15x1x1_S15x2048x2048_0_1_2 (Host.negf (broadcastInDim S15x1x1 ![0] bcast_S15_S15x1x1_0 r1)))
    (Host.log1p (mulf (broadcastInDim S15x2048x2048 ![0, 1, 2] bcast_S15x1x1_S15x2048x2048_0_1_2 (broadcastInDim S15x1x1 ![0] bcast_S15_S15x1x1_0 r2))
      (broadcastInDim S15x2048x2048 ![0, 1, 2] bcast_S1x2048x2048_S15x2048x2048_0_1_2 (broadcastInDim S1x2048x2048 ![1, 2] bcast_S2048x2048_S1x2048x2048_1_2 dists))))

/-- The hidden layer before its activation. -/
def hiddens (s : FVec Ideal S4x15x2048x2048 .f32) (b : FVec Ideal S15x2048x2048 .f32) (w1 : FVec Ideal S30x32 .bf16) (b1 : FVec Ideal S32 .f32) : FVec Ideal S4x32x2048x2048 .f32 :=
  addf (addf
      (transpose S4x32x2048x2048 [1, 0, 2, 3] (Host.dotGeneral dot_S15x32_S4x15x2048x2048_S32x4x2048x2048_0_1_1_023_n_n none
        (extractStridedSlice S15x32 ![0, 0] w1 slices_S30x32_S15x32_0_0) (truncf .bf16 s bitsLt_bf16_f32)) transposes_S32x4x2048x2048_S4x32x2048x2048_1_0_2_3)
      (broadcastInDim S4x32x2048x2048 ![0, 1, 2, 3] bcast_S1x32x2048x2048_S4x32x2048x2048_0_1_2_3
        (broadcastInDim S1x32x2048x2048 ![1, 2, 3] bcast_S32x2048x2048_S1x32x2048x2048_1_2_3
          (Host.dotGeneral dot_S15x32_S15x2048x2048_S32x2048x2048_0_0_1_12_n_n none
            (extractStridedSlice S15x32 ![15, 0] w1 slices_S30x32_S15x32_15_0) (truncf .bf16 b bitsLt_bf16_f32)))))
    (broadcastInDim S4x32x2048x2048 ![0, 1, 2, 3] bcast_S1x32x1x1_S4x32x2048x2048_0_1_2_3
      (broadcastInDim S1x32x1x1 ![1, 2, 3] bcast_S32x1x1_S1x32x1x1_1_2_3 (broadcastInDim S32x1x1 ![0] bcast_S32_S32x1x1_0 b1)))

/-- The correction: the activated hidden layer, mixed into the heads. -/
def mixed (p : FVec Ideal S4x32x2048x2048 .f32) (w2 : FVec Ideal S32x15 .bf16) : FVec Ideal S4x15x2048x2048 .f32 :=
  transpose S4x15x2048x2048 [1, 0, 2, 3] (Host.dotGeneral dot_S32x15_S4x32x2048x2048_S15x4x2048x2048_0_1_1_023_n_n none w2
    (truncf .bf16 (mulf (mulf (broadcastInDim S4x32x2048x2048 ![] bcast_S_S4x32x2048x2048 (constant S_ .f32 0x3F000000#32)) p)
      (Host.erfc (mulf (Host.negf p) (broadcastInDim S4x32x2048x2048 ![] bcast_S_S4x32x2048x2048 (constant S_ .f32 0x3F3504F3#32))))) bitsLt_bf16_f32))
    transposes_S15x4x2048x2048_S4x15x2048x2048_1_0_2_3

/-- Where a key is no later than its query. -/
def causal : IVec S2048x2048 1 :=
  cmpi .sle (broadcastInDim S2048x2048 ![0, 1] bcast_S1x2048_S2048x2048_0_1 (broadcastInDim S1x2048 ![1] bcast_S2048_S1x2048_1 (iotaInDim S2048 32 0)))
    (broadcastInDim S2048x2048 ![0, 1] bcast_S2048x1_S2048x2048_0_1 (broadcastInDim S2048x1 ![0] bcast_S2048_S2048x1_0 (iotaInDim S2048 32 0)))

/-- The masked logits. -/
def masked (s : FVec Ideal S4x15x2048x2048 .f32) (b : FVec Ideal S15x2048x2048 .f32) (f : FVec Ideal S4x15x2048x2048 .f32) : FVec Ideal S4x15x2048x2048 .f32 :=
  select (broadcastInDim S4x15x2048x2048 ![0, 1, 2, 3] bcast_S1x1x2048x2048_S4x15x2048x2048_0_1_2_3 (broadcastInDim S1x1x2048x2048 ![2, 3] bcast_S2048x2048_S1x1x2048x2048_2_3 causal))
    (addf (addf s (broadcastInDim S4x15x2048x2048 ![0, 1, 2, 3] bcast_S1x15x2048x2048_S4x15x2048x2048_0_1_2_3 (broadcastInDim S1x15x2048x2048 ![1, 2, 3] bcast_S15x2048x2048_S1x15x2048x2048_1_2_3 b))) f)
    (broadcastInDim S4x15x2048x2048 ![] bcast_S_S4x15x2048x2048 (constant S_ .f32 0xFF800000#32))

/-- Each row's maximum. -/
def tops (l : FVec Ideal S4x15x2048x2048 .f32) : FVec Ideal S4x15x2048 .f32 :=
  maximumf (broadcastInDim S4x15x2048 ![] bcast_S_S4x15x2048 (constant S_ .f32 0xFF800000#32))
    (Host.reduce FloatOps.maximumf l (constant S_ .f32 0xFF800000#32) reducesTo_S4x15x2048x2048_S4x15x2048_d3 h_S_)

/-- The exponentials. -/
def exps (l : FVec Ideal S4x15x2048x2048 .f32) : FVec Ideal S4x15x2048x2048 .f32 :=
  Host.exp (subf l (broadcastInDim S4x15x2048x2048 ![0, 1, 2, 3] bcast_S4x15x2048x1_S4x15x2048x2048_0_1_2_3 (broadcastInDim S4x15x2048x1 ![0, 1, 2] bcast_S4x15x2048_S4x15x2048x1_0_1_2 (tops l))))

/-- The softmax. -/
def softmax (e : FVec Ideal S4x15x2048x2048 .f32) : FVec Ideal S4x15x2048x2048 .f32 :=
  Host.divf e (broadcastInDim S4x15x2048x2048 ![0, 1, 2, 3] bcast_S4x15x2048x1_S4x15x2048x2048_0_1_2_3 (broadcastInDim S4x15x2048x1 ![0, 1, 2] bcast_S4x15x2048_S4x15x2048x1_0_1_2
    (Host.reduceAdd e (constant S_ .f32 0x00000000#32) reducesTo_S4x15x2048x2048_S4x15x2048_d3 h_S_)))

/-- The averaged values. -/
def averaged (p : FVec Ideal S4x15x2048x2048 .f32) (v : FVec Ideal S4x2048x15x128 .bf16) : FVec Ideal S4x2048x1920 .bf16 :=
  shapeCast S4x2048x1920 (truncf .bf16 (transpose S4x2048x15x128 [0, 3, 1, 2] (Host.dotGeneral dot_S4x2048x15x128_S4x15x2048x2048_S4x15x128x2048_1_3_3_2_02_01 none v (truncf .bf16 p bitsLt_bf16_f32))
    transposes_S4x15x128x2048_S4x2048x15x128_0_3_1_2) bitsLt_bf16_f32) shapeCasts_S4x2048x15x128_S4x2048x1920

/-- The masked logits, from the arguments. -/
def logits (q k : FVec Ideal S4x2048x15x128 .f32) (qs ks : FVec Ideal S4x2048x15 .f32) (r1 r2 : FVec Ideal S15 .f32) (w1 : FVec Ideal S30x32 .bf16) (b1 : FVec Ideal S32 .f32) (w2 : FVec Ideal S32x15 .bf16) :
    FVec Ideal S4x15x2048x2048 .f32 :=
  masked (scores q k qs ks) (biases r1 r2) (mixed (hiddens (scores q k qs ks) (biases r1 r2) w1 b1) w2)

variable (W : Valuation τ sig (Elt Ideal))

theorem read_v80 : StableHlo.after ([hostOps1, hostOps1_1, hostOps1_2] : List (List (HloOp τ sig (Elt Ideal)))).flatten W (Proc.devRef .tc main_v80)
    = averaged (softmax (exps (logits (W (Proc.devRef .tc main_v0_0)) (W (Proc.devRef .tc main_v0_1)) (W (Proc.devRef .tc main_arg1)) (W (Proc.devRef .tc main_arg3))
      (W (Proc.devRef .tc main_arg5)) (W (Proc.devRef .tc main_arg6)) (W (Proc.devRef .tc main_arg7)) (W (Proc.devRef .tc main_arg8)) (W (Proc.devRef .tc main_arg9))))) (W (Proc.devRef .tc main_arg4)) := by
  rw [List.flatten_cons, List.flatten_cons, List.flatten_cons, List.flatten_nil, List.append_nil]
  simp only [List.cons_append, List.nil_append]
  after_reads_simp
  rfl

end Cert.ReferenceIdeal.Gen

end
-- ==== Proof.RI.Read.lean ====
/- The reference's stages at an index, in the terms of the problem's mathematics. -/
module

public import proofs.«01_k».proof.Proof.RI.Stages
public import proofs.«01_k».proof.Proof.Whole

@[expose] public section

set_option maxRecDepth 16384

noncomputable section

namespace Cert.ReferenceIdeal.Gen

open Idealize.ShloMosaic Idealize.ShloMosaic.TcCoe
open Idealize.SL.Sem
open Dape

theorem scores_apply (q k : FVec Ideal S4x2048x15x128 .f32) (qs ks : FVec Ideal S4x2048x15 .f32) (b : Fin 4) (h : Fin 15) (x y : Fin 2048) :
    scores q k qs ks (ix4 b h x y) = (∑ d : Fin 128, q (ix4 b x h d) * k (ix4 b y h d)) * qs (ix3 b x h) * (ks (ix3 b y h) * cScore) := by
  unfold scores
  pointwise
  rfl

theorem word_dist {x y : ℕ} (hx : x < 2048) (h : y ≤ x) :
    (IntOp.absi (IntOp.subi (BitVec.ofNat 32 x) (BitVec.ofNat 32 y))).toInt = ((x - y : ℕ) : ℤ) := by
  have e : IntOp.subi (BitVec.ofNat 32 x) (BitVec.ofNat 32 y) = BitVec.ofNat 32 (x - y) := by
    apply BitVec.eq_of_toNat_eq
    unfold IntOp.subi
    simp only [BitVec.toNat_sub, BitVec.toNat_ofNat]
    omega
  have hm : (BitVec.ofNat 32 (x - y)).msb = false := by
    rw [BitVec.msb_eq_false_iff_two_mul_lt, BitVec.toNat_ofNat]
    omega
  rw [e, IntOp.absi, hm, if_neg (by decide), BitVec.toInt_eq_toNat_of_msb hm, BitVec.toNat_ofNat]
  omega

theorem dists_apply {x y : Fin 2048} (h : y ≤ x) : dists (ix2 x y) = (((x.val - y.val : ℕ) : ℝ) : EReal) := by
  unfold dists
  pointwise
  refine (congrArg (fun z : ℤ => ((z : ℝ) : EReal)) (word_dist x.isLt h)).trans ?_
  show ((((x.val - y.val : ℕ) : ℤ) : ℝ) : EReal) = _
  rw [Int.cast_natCast]

theorem causal_apply (x y : Fin 2048) : causal (ix2 x y) = if y ≤ x then 1#1 else 0#1 := by
  unfold causal
  pointwise
  rw [WordCmp.cmpi_sle_ofNat (by have := y.isLt; omega) (by have := x.isLt; omega)]
  by_cases h : y ≤ x
  · rw [if_pos h, decide_eq_true (by exact h)]; rfl
  · rw [if_neg h, decide_eq_false (by exact h)]; rfl

theorem biases_apply (r1 r2 : FVec Ideal S15 .f32) (h : Fin 15) {x y : Fin 2048} (hxy : y ≤ x) :
    biases r1 r2 (ix3 h x y) = -r1 (ix1 h) * Ideal.log1p (r2 (ix1 h) * (((x.val - y.val : ℕ) : ℝ) : EReal)) := by
  unfold biases
  pointwise
  rw [dists_apply hxy]

theorem hiddens_apply (s b w1 b1) (c : Fin 4) (m : Fin 32) (x y : Fin 2048) :
    hiddens s b w1 b1 (ix4 c m x y) = ∑ h : Fin 15, w1 (ix2 ⟨h.val, by omega⟩ m) * s (ix4 c h x y) + ∑ h : Fin 15, w1 (ix2 ⟨15 + h.val, by omega⟩ m) * b (ix3 h x y) + b1 (ix1 m) := by
  unfold hiddens
  pointwise

theorem mixed_apply (p w2) (c : Fin 4) (h : Fin 15) (x y : Fin 2048) :
    mixed p w2 (ix4 c h x y) = ∑ m : Fin 32, w2 (ix2 m h) * (cHalf * p (ix4 c m x y) * Ideal.erfc (-p (ix4 c m x y) * cErf)) := by
  unfold mixed
  pointwise
  rfl

theorem masked_apply (s b f) (c : Fin 4) (h : Fin 15) (x y : Fin 2048) :
    masked s b f (ix4 c h x y) = if y ≤ x then s (ix4 c h x y) + b (ix3 h x y) + f (ix4 c h x y) else ⊥ := by
  unfold masked
  pointwise
  rw [causal_apply, neg_inf]
  by_cases hxy : y ≤ x
  · rw [if_pos hxy, if_pos hxy]; rfl
  · rw [if_neg hxy, if_neg hxy]; rfl

/-- A row's maximum, at any sizes. -/
theorem reduce_max {n0 n1 n2 n3 : ℕ} (l : FVec Ideal ⟨4, ![n0, n1, n2, n3]⟩ .f32) (init : FVec Ideal S_ .f32) (h : (⟨4, ![n0, n1, n2, n3]⟩ : Shape).ReducesTo [3] ⟨3, ![n0, n1, n2]⟩) (hu)
    (a : Fin n0) (b : Fin n1) (c : Fin n2) :
    Host.reduce FloatOps.maximumf l init h hu (ix3 a b c) = Finset.fold max (init (Shape.Idx.first hu)) (fun x => l (ix4 a b c x)) Finset.univ := by
  pointwise

theorem max_at {s : Shape} (A B : FVec Ideal s .f32) (j : s.Idx) : maximumf A B j = max (A j) (B j) := rfl

theorem tops_apply (l : FVec Ideal S4x15x2048x2048 .f32) (g : ℕ → EReal) (c : Fin 4) (h : Fin 15) (x : Fin 2048) (hg : ∀ y : Fin 2048, l (ix4 c h x y) = g y.val) :
    tops l (ix3 c h x) = mxOf g 2048 := by
  refine (max_at _ _ _).trans ?_
  refine (congrArg₂ max (x' := ⊥) (y' := mxOf g 2048) neg_inf ((reduce_max l _ _ _ c h x).trans ?_)).trans (max_eq_right bot_le)
  rw [show (fun y => l (ix4 c h x y)) = fun y : Fin 2048 => g y.val from funext hg]
  rw [show (constant S_ .f32 0xFF800000#32 : FVec Ideal S_ .f32) (Shape.Idx.first h_S_) = ⊥ from neg_inf]
  exact fold_max 2048 g

theorem exps_apply (l : FVec Ideal S4x15x2048x2048 .f32) (c : Fin 4) (h : Fin 15) (x y : Fin 2048) :
    exps l (ix4 c h x y) = Ideal.exp (l (ix4 c h x y) - tops l (ix3 c h x)) := by
  unfold exps
  pointwise

theorem softmax_apply (e : FVec Ideal S4x15x2048x2048 .f32) (c : Fin 4) (h : Fin 15) (x y : Fin 2048) :
    softmax e (ix4 c h x y) = Ideal.div (e (ix4 c h x y)) (∑ k : Fin 2048, e (ix4 c h x k)) := by
  unfold softmax
  pointwise

theorem averaged_apply (p v) (c : Fin 4) (x : Fin 2048) (y : Fin 1920) :
    averaged p v (ix3 c x y) = ∑ k : Fin 2048, v (ix4 c k ⟨y.val / 128, by omega⟩ ⟨y.val % 128, by omega⟩) * p (ix4 c ⟨y.val / 128, by omega⟩ x k) := by
  unfold averaged
  pointwise

end Cert.ReferenceIdeal.Gen

end
-- ==== Proof.RI.Meaning.lean ====
/- The reference's result is the result the arguments name: each stage, read at an index, is the problem's
   mathematics at that row, key and head. -/
module

public import proofs.«01_k».proof.Proof.RI.Read

@[expose] public section

set_option maxRecDepth 16384

noncomputable section

namespace Cert.ReferenceIdeal.Gen

open Idealize.ShloMosaic Idealize.ShloMosaic.TcCoe
open Dape

theorem scores_eq (a : Args) (b : Fin 4) (h : Fin 15) (x y : Fin 2048) :
    scores a.q a.k a.qs a.ks (ix4 b h x y) = (a.prob b).sc x y h := by
  refine (scores_apply _ _ _ _ b h x y).trans ?_
  refine congrArg₂ (· * ·) (congrArg₂ (· * ·) ?_ (ix3_eq a.qs b x h)) (congrArg (· * cScore) (ix3_eq a.ks b y h))
  refine (Finset.sum_congr rfl fun d _ => ?_).trans (sum_fin 128 fun d => (a.prob b).K y h d * (a.prob b).Q x h d)
  rw [mul_comm]
  exact congrArg₂ (· * ·) (ix4_eq a.k b y h d) (ix4_eq a.q b x h d)

theorem biases_eq (a : Args) (b : ℕ) (h : Fin 15) {x y : Fin 2048} (hxy : y ≤ x) :
    biases a.r1 a.r2 (ix3 h x y) = (a.prob b).kb h (x.val - y.val) := by
  refine (biases_apply _ _ h hxy).trans ?_
  rw [ix1_eq a.r1 h, ix1_eq a.r2 h]
  rfl

theorem hiddens_eq (a : Args) (b : Fin 4) (m : Fin 32) {x y : Fin 2048} (hxy : y ≤ x) :
    hiddens (scores a.q a.k a.qs a.ks) (biases a.r1 a.r2) a.w1 a.b1 (ix4 b m x y) = (a.prob b).pre x y m := by
  refine (hiddens_apply _ _ _ _ b m x y).trans ?_
  refine congrArg₂ (· + ·) (congrArg₂ (· + ·) ?_ ?_) (ix1_eq a.b1 m)
  · refine (Finset.sum_congr rfl fun h _ => ?_).trans (sum_fin 15 fun h => (a.prob b).w1 h m * (a.prob b).sc x y h)
    exact congrArg₂ (· * ·) (ix2_eq a.w1 ⟨h.val, by omega⟩ m) (scores_eq a b h x y)
  · refine (Finset.sum_congr rfl fun h _ => ?_).trans (sum_fin 15 fun h => (a.prob b).w1 (15 + h) m * (a.prob b).kb h (x.val - y.val))
    exact congrArg₂ (· * ·) (ix2_eq a.w1 ⟨15 + h.val, by omega⟩ m) (biases_eq a b h hxy)

theorem mixed_eq (a : Args) (b : Fin 4) (h : Fin 15) {x y : Fin 2048} (hxy : y ≤ x) :
    mixed (hiddens (scores a.q a.k a.qs a.ks) (biases a.r1 a.r2) a.w1 a.b1) a.w2 (ix4 b h x y) = (a.prob b).f x y h := by
  refine (mixed_apply _ _ b h x y).trans ?_
  refine (Finset.sum_congr rfl fun m _ => ?_).trans (sum_fin 32 fun m => cHalf * (a.prob b).w2 m h * Prob.act ((a.prob b).pre x y m))
  rw [hiddens_eq a b m hxy, ix2_eq a.w2 m h, act_erfc]
  rfl

theorem logits_eq (a : Args) (b : Fin 4) (h : Fin 15) (x y : Fin 2048) :
    logits a.q a.k a.qs a.ks a.r1 a.r2 a.w1 a.b1 a.w2 (ix4 b h x y) = (a.prob b).lg x y h := by
  refine (masked_apply _ _ _ b h x y).trans ?_
  unfold Prob.lg
  by_cases hxy : y ≤ x
  · rw [if_pos hxy, if_pos (show y.val ≤ x.val from hxy), scores_eq, biases_eq a b h hxy, mixed_eq a b h hxy]
  · rw [if_neg hxy, if_neg (show ¬ y.val ≤ x.val from hxy)]

theorem exps_eq (a : Args) (b : Fin 4) (h : Fin 15) (x y : Fin 2048) :
    exps (logits a.q a.k a.qs a.ks a.r1 a.r2 a.w1 a.b1 a.w2) (ix4 b h x y)
      = Ideal.exp ((a.prob b).lg x y h - mxOf (fun k => (a.prob b).lg x k h) 2048) := by
  refine (exps_apply _ b h x y).trans ?_
  rw [tops_apply _ (fun k => (a.prob b).lg x k h) b h x fun y => logits_eq a b h x y, logits_eq]

theorem softmax_eq (a : Args) (b : Fin 4) (h : Fin 15) (x y : Fin 2048) :
    softmax (exps (logits a.q a.k a.qs a.ks a.r1 a.r2 a.w1 a.b1 a.w2)) (ix4 b h x y)
      = Ideal.div (Ideal.exp ((a.prob b).lg x y h - mxOf (fun k => (a.prob b).lg x k h) 2048)) (sumOf (fun k => (a.prob b).lg x k h) 2048) := by
  refine (softmax_apply _ b h x y).trans ?_
  refine congrArg₂ Ideal.div (exps_eq a b h x y) ?_
  exact (Finset.sum_congr rfl fun k _ => exps_eq a b h x k).trans
    (sum_fin 2048 fun k => Ideal.exp ((a.prob b).lg x k h - mxOf (fun k => (a.prob b).lg x k h) 2048))

theorem averaged_eq (a : Args) :
    averaged (softmax (exps (logits a.q a.k a.qs a.ks a.r1 a.r2 a.w1 a.b1 a.w2))) a.v = a.want := by
  funext j
  have e : ∀ (b : Fin 4) (x : Fin 2048) (c : Fin 1920),
      averaged (softmax (exps (logits a.q a.k a.qs a.ks a.r1 a.r2 a.w1 a.b1 a.w2))) a.v (ix3 b x c) = a.at b x c := fun b x c => by
    refine (averaged_apply _ _ b x c).trans ?_
    refine (Finset.sum_congr rfl fun k _ => congrArg₂ (· * ·) (ix4_eq a.v b k ⟨c.val / 128, by omega⟩ ⟨c.val % 128, by omega⟩) (softmax_eq a b ⟨c.val / 128, by omega⟩ x k)).trans ?_
    exact sum_fin 2048 fun k => (a.prob b).V k (c.val / 128) (c.val % 128) * Ideal.div (Ideal.exp ((a.prob b).lg x k (c.val / 128) - mxOf (fun k => (a.prob b).lg x k (c.val / 128)) 2048)) (sumOf (fun k => (a.prob b).lg x k (c.val / 128)) 2048)
  have hj : j = ix3 (j 0) (j 1) (j 2) := by funext i; fin_cases i <;> rfl
  rw [hj]
  exact e (j 0) (j 1) (j 2)

end Cert.ReferenceIdeal.Gen

end
-- ==== Proof.RI.Value.lean ====
/- The reference's run: its result array is the result the arguments name. -/
module

public import proofs.«01_k».proof.Proof.RI.Meaning
public import Idealize.ShloMosaic.Lib.Pipeline.Value

@[expose] public section

set_option maxRecDepth 16384

noncomputable section

namespace Cert.ReferenceIdeal.Gen

open Idealize.ShloMosaic Idealize.ShloMosaic.TcCoe
open Idealize.SL.Sem
open Idealize.ShloMosaic.Pipeline (Dat Cfg Window cellOf)
open Dape

variable (m : (ℓ : Loc nD τ sig) → Buf (Elt Ideal) ℓ) (ρ : Dev nD → PrngReg)

/-- The argument arrays of core `c` as the problem's. -/
def args (c : Dev nD) : Args where
  q := m ((c.tc : Thread nD τ).loc main_arg0)
  qs := m ((c.tc : Thread nD τ).loc main_arg1)
  k := m ((c.tc : Thread nD τ).loc main_arg2)
  ks := m ((c.tc : Thread nD τ).loc main_arg3)
  v := m ((c.tc : Thread nD τ).loc main_arg4)
  r1 := m ((c.tc : Thread nD τ).loc main_arg5)
  r2 := m ((c.tc : Thread nD τ).loc main_arg6)
  w1 := m ((c.tc : Thread nD τ).loc main_arg7)
  b1 := m ((c.tc : Thread nD τ).loc main_arg8)
  w2 := m ((c.tc : Thread nD τ).loc main_arg9)

theorem hz : (![0, 0, 0, 0] : Fin 4 → ℕ) = fun _ => 0 := funext fun a => by fin_cases a <;> rfl

/-- Over the extended reals widening changes nothing, so the one point writes back the codes of the queries, -/
theorem flushed_q (c : Dev nD) (t : Fin cfg0.N) :
    (dats m 0 c).flushed 2 t = (win0_2.blk t).view.read (Elt Ideal) (args m c).q := by
  show (cfg0.win 2).cut (grid0.coords t) ((dats m 0 c).after 2 t) = _
  rw [after0_2]
  unfold out0_2
  rw [View.canon_unit_zero hz, View.ld_unit_zero hz]
  rfl

/-- and of the keys. -/
theorem flushed_k (c : Dev nD) (t : Fin cfg0.N) :
    (dats m 0 c).flushed 3 t = (win0_3.blk t).view.read (Elt Ideal) (args m c).k := by
  show (cfg0.win 3).cut (grid0.coords t) ((dats m 0 c).after 3 t) = _
  rw [after0_3]
  unfold out0_3
  rw [View.canon_unit_zero hz, View.ld_unit_zero hz]
  rfl

/-- The one grid point. -/
def t0 : Fin cfg0.N := ⟨0, lt_of_lt_of_eq Nat.one_pos (Eq.symm N_0)⟩

/-- The one point's block is the whole array. -/
theorem cover_q (i : S4x2048x15x128.Idx) : ∃ t : Fin cfg0.N, (cfg0.win 2).flush t = true ∧ i ∈ ((cfg0.win 2).blk t).view.set := by
  refine ⟨t0, flush0_2 _, ?_⟩
  show i ∈ ((View.whole main_v0_0).slice (win0_2.rect t0)).set
  rw [View.set_slice_whole, Rect.mem_set_unit]
  have e : ∀ a, win0_2.index t0 a * win0_2.size a = 0 ∧ win0_2.xsize (grid0.coords t0) a = S4x2048x15x128.size a := by decide +kernel
  intro a
  have h : win0_2.index t0 a * win0_2.size a ≤ (i a : ℕ) ∧ (i a : ℕ) < win0_2.index t0 a * win0_2.size a + win0_2.xsize (grid0.coords t0) a := by
    rw [(e a).1, (e a).2, zero_add]; exact ⟨Nat.zero_le _, (i a).isLt⟩
  exact h

theorem cover_k (i : S4x2048x15x128.Idx) : ∃ t : Fin cfg0.N, (cfg0.win 3).flush t = true ∧ i ∈ ((cfg0.win 3).blk t).view.set := by
  refine ⟨t0, flush0_3 _, ?_⟩
  show i ∈ ((View.whole main_v0_1).slice (win0_3.rect t0)).set
  rw [View.set_slice_whole, Rect.mem_set_unit]
  have e : ∀ a, win0_3.index t0 a * win0_3.size a = 0 ∧ win0_3.xsize (grid0.coords t0) a = S4x2048x15x128.size a := by decide +kernel
  intro a
  have h : win0_3.index t0 a * win0_3.size a ≤ (i a : ℕ) ∧ (i a : ℕ) < win0_3.index t0 a * win0_3.size a + win0_3.xsize (grid0.coords t0) a := by
    rw [(e a).1, (e a).2, zero_add]; exact ⟨Nat.zero_le _, (i a).isLt⟩
  exact h

theorem final_q (c : Dev nD) : (dats m 0 c).arrAt 2 cfg0.N = (args m c).q :=
  (dats m 0 c).arrAt_eq_of_cover 2 (args m c).q (fun t _ => flushed_q m c t) cover_q
theorem final_k (c : Dev nD) : (dats m 0 c).arrAt 3 cfg0.N = (args m c).k :=
  (dats m 0 c).arrAt_eq_of_cover 3 (args m c).k (fun t _ => flushed_k m c t) cover_k

/-- The result array after the host operations. -/
theorem result (c : Dev nD) :
    Pipeline.afterTail₀ cfgs (dats m) 0 (V0 m) [hostOps1, hostOps1_1, hostOps1_2] c main_v80 = (args m c).want := by
  unfold Pipeline.afterTail₀
  rw [read_v80]
  have hr : ∀ b : Ref sig .tc, (∀ w, Pipeline.arrRef spec0 w ≠ b) →
      Pipeline.withArrays spec0 c (V0 m c) (fun w => (dats m 0 c).arrAt w cfg0.N) (Proc.devRef .tc b) = m ((c.tc : Thread nD τ).loc b) :=
    fun b hb => Pipeline.withArrays_of_ne _ c (V0 m c) _ b hb
  rw [hr main_arg1 (by decide), hr main_arg3 (by decide), hr main_arg4 (by decide), hr main_arg5 (by decide), hr main_arg6 (by decide), hr main_arg7 (by decide),
    hr main_arg8 (by decide), hr main_arg9 (by decide)]
  have ha := fun w => Pipeline.withArrays_arr spec0 launch0.win.arr_inj c (V0 m c) (fun w => (dats m 0 c).arrAt w cfg0.N) w
  rw [show Pipeline.withArrays spec0 c (V0 m c) (fun w => (dats m 0 c).arrAt w cfg0.N) (Proc.devRef .tc main_v0_0) = (args m c).q from (ha 2).trans (final_q m c),
    show Pipeline.withArrays spec0 c (V0 m c) (fun w => (dats m 0 c).arrAt w cfg0.N) (Proc.devRef .tc main_v0_1) = (args m c).k from (ha 3).trans (final_k m c)]
  exact averaged_eq (args m c)

/-- The reference's run: its result is the one the arguments name, and the arguments stay. -/
theorem run : θ_run defs (onTc (τ := τ) (main (F := Ideal))) ⟨m, fun _ => 0, ρ⟩ (fun r => ∀ c : Dev nD,
      r.2.mem ((c.tc : Thread nD τ).loc main_v80) = (args m c).want
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).2 main_v80 (Pipeline.mem_restRefs_of main_v80 (by decide) (by decide))).trans (result m c),
      ((h c).1 0).trans (((dats m 0 c).arrAt_in 0 rfl _).trans (V_main_arg0 m c)),
      ((h c).2 main_arg1 (Pipeline.mem_restRefs_of main_arg1 (by decide) (by decide))).trans (W_main_arg1 m (dats m) c),
      ((h c).1 1).trans (((dats m 0 c).arrAt_in 1 rfl _).trans (V_main_arg2 m c)),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c)⟩) (run_main m ρ)

end Cert.ReferenceIdeal.Gen

end
-- ==== Proof.Pre.lean ====
/- What the precondition says of the argument arrays. -/
module

public import proofs.«01_k».proof.Pre_separated
public import proofs.«01_k».proof.Proof.Whole
public import Idealize.ShloMosaic.Lib.Pointwise
public import Idealize.ShloMosaic.PureOps.Ideal
public import Idealize.ShloMosaic.Lib.Routing.OpsOrder

@[expose] public section

set_option maxRecDepth 16384

noncomputable section

namespace Cert.Pre_separated

open Idealize.ShloMosaic
open Dape

theorem facts : Facts where
  bcast_S_S15 := by decide
  bcast_S_S32 := by decide
  bcast_S_S4x2048x15x128 := by decide
  reducesTo_S4x2048x15x128_S4x15x128_d1 := by decide
  h_S_ := by decide

theorem inf_eq : Ideal.ofBits FTy.f32 0x7F800000#32 = ⊤ := by
  show Ideal.ieee 8 23 0x7F800000#32 = ⊤
  unfold Ideal.ieee
  have h1 : (BitVec.extractLsb' 23 8 0x7F800000#32).toNat = 2 ^ 8 - 1 := by decide
  have h2 : (BitVec.extractLsb' 0 23 0x7F800000#32).toNat = 0 := by decide
  have h3 : (BitVec.extractLsb' (8 + 23) 1 0x7F800000#32 == 1#1) = false := by decide
  simp only [h1, h2, h3, if_true]
  rfl

/-- A number of magnitude below infinity is real. -/
theorem real_of_abs (x : EReal) (h : max x (-x) < ⊤) : ∃ r : ℝ, x = (r : EReal) := by
  induction x using EReal.rec with
  | bot => simp at h
  | coe r => exact ⟨r, rfl⟩
  | top => simp at h

/-- A disjunction along the second axis, at any sizes. -/
theorem reduce_ori {n0 n1 n2 n3 : ℕ} (l : IVec ⟨4, ![n0, n1, n2, n3]⟩ 1) (init : IVec S_ 1) (h : (⟨4, ![n0, n1, n2, n3]⟩ : Shape).ReducesTo [1] ⟨3, ![n0, n2, n3]⟩) (hu)
    (a : Fin n0) (b : Fin n2) (c : Fin n3) :
    Host.reduce IntOp.ori l init h hu (ix3 a b c) = Finset.fold IntOp.ori (init (Shape.Idx.first hu)) (fun x => l (ix4 a x b c)) Finset.univ := by
  pointwise

theorem of_ofBool {p : Prop} [Decidable p] (h : BitVec.ofBool (decide p) = 1#1) : p := by
  by_contra hp
  rw [decide_eq_false hp] at h
  exact absurd h (by decide)

/-- One element passes the test of finiteness only if it is real. -/
theorem finite (x : EReal) (h : Ideal.cmp .olt (max x (-x)) (Ideal.ofBits FTy.f32 0x7F800000#32) = 1#1) : ∃ r : ℝ, x = (r : EReal) := by
  rw [inf_eq] at h
  exact real_of_abs x (of_ofBool h)

theorem zero_eq : Ideal.ofBits FTy.bf16 0x0000#16 = 0 := by simp [Ideal.ofBits, Ideal.ieee]

variable [Facts]

/-- The third test, in terms of its comparison and its disjunction. -/
def positive (v : FVec Ideal S4x2048x15x128 .bf16) : IVec S4x2048x15x128 1 :=
  cmpf .ogt v (broadcastInDim S4x2048x15x128 ![] Facts.bcast_S_S4x2048x15x128 (constant S_ .bf16 0x0000#16))

theorem any_positive (v : FVec Ideal S4x2048x15x128 .bf16) (b : Fin 4) (h : Fin 15) (d : Fin 128)
    (e : Host.reduce IntOp.ori (positive v) (constantI S_ 1 0#1) Facts.reducesTo_S4x2048x15x128_S4x15x128_d1 Facts.h_S_ (ix3 b h d) = 1#1) :
    ∃ k : Fin 2048, positive v (ix4 b k h d) = 1#1 := by
  have e' := (reduce_ori (positive v) (constantI S_ 1 0#1) Facts.reducesTo_S4x2048x15x128_S4x15x128_d1 Facts.h_S_ b h d).symm.trans e
  obtain ⟨k, -, hk⟩ := (Routing.fold_ori _ _).mp e'
  exact ⟨k, hk⟩

theorem third (q qs k ks v r1 r2 w1 b1 w2) : (fn (F := Ideal) q qs k ks v r1 r2 w1 b1 w2).2.2
    = Host.reduce IntOp.ori (positive v) (constantI S_ 1 0#1) Facts.reducesTo_S4x2048x15x128_S4x15x128_d1 Facts.h_S_ := by
  dsimp only [fn, positive]

theorem good (a : Args)
    (h1 : (fn (F := Ideal) a.q a.qs a.k a.ks a.v a.r1 a.r2 a.w1 a.b1 a.w2).1 = fun _ => 1#1)
    (h2 : (fn (F := Ideal) a.q a.qs a.k a.ks a.v a.r1 a.r2 a.w1 a.b1 a.w2).2.1 = fun _ => 1#1)
    (h3 : (fn (F := Ideal) a.q a.qs a.k a.ks a.v a.r1 a.r2 a.w1 a.b1 a.w2).2.2 = fun _ => 1#1) : a.Good where
  r2 h hh := by
    have e := congrFun h1 (ix1 ⟨h, hh⟩)
    rw [← ix1_eq a.r2 ⟨h, hh⟩]
    exact finite _ e
  b1 m hm := by
    have e := congrFun h2 (ix1 ⟨m, hm⟩)
    rw [← ix1_eq a.b1 ⟨m, hm⟩]
    exact finite _ e
  v b h d hb hh hd := by
    obtain ⟨k, hk⟩ := any_positive a.v ⟨b, hb⟩ ⟨h, hh⟩ ⟨d, hd⟩ (congrFun ((third _ _ _ _ _ _ _ _ _ _).symm.trans h3) (ix3 ⟨b, hb⟩ ⟨h, hh⟩ ⟨d, hd⟩))
    refine ⟨k.val, k.isLt, ?_⟩
    rw [← ix4_eq a.v ⟨b, hb⟩ k ⟨h, hh⟩ ⟨d, hd⟩, ← zero_eq]
    exact of_ofBool hk

end Cert.Pre_separated

end
-- ==== Proof.lean ====
module

public import proofs.«01_k».proof.Defs
public import proofs.«01_k».proof.Proof.K.Run
public import proofs.«01_k».proof.Proof.KI.Run
public import proofs.«01_k».proof.Proof.KI.Value
public import proofs.«01_k».proof.Proof.RI.Value
public import proofs.«01_k».proof.Proof.Pre
public import Idealize.ShloMosaic.Adequacy
public import Idealize.ShloMosaic.Init

@[expose] public section

noncomputable section

namespace Cert.Proof

open Idealize.ShloMosaic Idealize.SL.Sem

/-- The precondition says what the kernel's value needs. -/
theorem good (m : (ℓ : Loc Cert.KernelIdeal.nD Cert.KernelIdeal.τ Cert.KernelIdeal.sig) → Buf (Elt Ideal) ℓ)
    (h : Pre_KernelIdeal_separated (hPre_separated := Cert.Pre_separated.facts) m) (c : Dev Cert.KernelIdeal.nD) : (Cert.KernelIdeal.Gen.args m c).Good :=
  haveI := Cert.Pre_separated.facts
  Cert.Pre_separated.good (Cert.KernelIdeal.Gen.args m c) (h c).1 (h c).2.1 (h c).2.2

/-- Over the extended reals the kernel and the reference end with the same result. -/
theorem algebraic : algebraic_KernelIdeal_ReferenceIdeal_pre_separated (hKernelIdeal := Cert.KernelIdeal.Gen.facts)
    (hReferenceIdeal := Cert.ReferenceIdeal.Gen.facts) (hPre_separated := Cert.Pre_separated.facts) := by
  intro m g m' g' hpre hagree
  have he : ∀ c : Dev Cert.KernelIdeal.nD, Cert.ReferenceIdeal.Gen.args m' c = Cert.KernelIdeal.Gen.args m c := fun c => by
    obtain ⟨h0, h1, h2, h3, h4, h5, h6, h7, h8, h9⟩ := hagree c
    unfold Cert.ReferenceIdeal.Gen.args Cert.KernelIdeal.Gen.args
    rw [h0, h1, h2, h3, h4, h5, h6, h7, h8, h9]
  refine ⟨fun c => (Cert.KernelIdeal.Gen.args m c).want, Cert.KernelIdeal.Gen.Value.run m g (good m hpre), ?_⟩
  refine (θ_run _ _ _).mono (fun _ h c => ⟨(h c).1.trans (congrArg Dape.Args.want (he c)), (h c).2⟩) (Cert.ReferenceIdeal.Gen.run m' g')

theorem claim : Cert.Claim := ⟨Cert.Kernel.Gen.facts, Cert.KernelIdeal.Gen.facts, Cert.ReferenceIdeal.Gen.facts, Cert.Pre_separated.facts,
  fun m ρ _ => Cert.Kernel.Gen.Plain.quiet m ρ, fun m ρ _ => Cert.KernelIdeal.Gen.Plain.quiet m ρ, fun m ρ _ => Cert.KernelIdeal.Gen.Plain.quiet m ρ,
  fun m ρ _ => Cert.ReferenceIdeal.Gen.frame m ρ, fun m ρ _ => Cert.ReferenceIdeal.Gen.frame m ρ, trivial, algebraic⟩

end Cert.Proof

end
